-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_finite_down [hPre_finite_down : Cert.Pre_finite_down.Facts] (m : (ℓ : Loc Cert.DownIdeal.nD Cert.DownIdeal.τ Cert.DownIdeal.sig) → Buf (Elt Ideal) ℓ) : Prop :=
  ∀ c : Dev Cert.DownIdeal.nD,
    (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (m ((c.tc : Thread Cert.DownIdeal.nD Cert.DownIdeal.τ).loc Cert.DownIdeal.main_arg7)) (m ((c.tc : Thread Cert.DownIdeal.nD Cert.DownIdeal.τ).loc Cert.DownIdeal.main_arg8)) (m ((c.tc : Thread Cert.DownIdeal.nD Cert.DownIdeal.τ).loc Cert.DownIdeal.main_arg9))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_finite_down [hPre_finite_down : Cert.Pre_finite_down.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_finite_down.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4)) (m ((c.tc : Thread Cert.DownReferenceIdeal.nD Cert.DownReferenceIdeal.τ).loc Cert.DownReferenceIdeal.main_arg5)) (m ((c.tc : Thread Cert.DownReferenceIdeal.nD Cert.DownReferenceIdeal.τ).loc Cert.DownReferenceIdeal.main_arg6)) (m ((c.tc : Thread Cert.DownReferenceIdeal.nD Cert.DownReferenceIdeal.τ).loc Cert.DownReferenceIdeal.main_arg7)) (m ((c.tc : Thread Cert.DownReferenceIdeal.nD Cert.DownReferenceIdeal.τ).loc Cert.DownReferenceIdeal.main_arg8)) (m ((c.tc : Thread Cert.DownReferenceIdeal.nD Cert.DownReferenceIdeal.τ).loc Cert.DownReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7)
      ∧ r.2.mem ((c.tc : Thread Cert.Down.nD Cert.Down.τ).loc Cert.Down.main_arg8) = m ((c.tc : Thread Cert.Down.nD Cert.Down.τ).loc Cert.Down.main_arg8)
      ∧ r.2.mem ((c.tc : Thread Cert.Down.nD Cert.Down.τ).loc Cert.Down.main_arg9) = m ((c.tc : Thread Cert.Down.nD Cert.Down.τ).loc Cert.Down.main_arg9))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
      ∧ r.2.mem ((c.tc : Thread Cert.DownIdeal.nD Cert.DownIdeal.τ).loc Cert.DownIdeal.main_arg8) = m ((c.tc : Thread Cert.DownIdeal.nD Cert.DownIdeal.τ).loc Cert.DownIdeal.main_arg8)
      ∧ r.2.mem ((c.tc : Thread Cert.DownIdeal.nD Cert.DownIdeal.τ).loc Cert.DownIdeal.main_arg9) = m ((c.tc : Thread Cert.DownIdeal.nD Cert.DownIdeal.τ).loc Cert.DownIdeal.main_arg9))
      ∧ r.2.sem = fun _ => 0)

def quiescent_DownIdeal_pre_finite_down [hDownIdeal : Cert.DownIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal_finite_down m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
      ∧ r.2.mem ((c.tc : Thread Cert.DownIdeal.nD Cert.DownIdeal.τ).loc Cert.DownIdeal.main_arg8) = m ((c.tc : Thread Cert.DownIdeal.nD Cert.DownIdeal.τ).loc Cert.DownIdeal.main_arg8)
      ∧ r.2.mem ((c.tc : Thread Cert.DownIdeal.nD Cert.DownIdeal.τ).loc Cert.DownIdeal.main_arg9) = m ((c.tc : Thread Cert.DownIdeal.nD Cert.DownIdeal.τ).loc Cert.DownIdeal.main_arg9))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5)
      ∧ r.2.mem ((c.tc : Thread Cert.DownReferenceIdeal.nD Cert.DownReferenceIdeal.τ).loc Cert.DownReferenceIdeal.main_arg6) = m ((c.tc : Thread Cert.DownReferenceIdeal.nD Cert.DownReferenceIdeal.τ).loc Cert.DownReferenceIdeal.main_arg6)
      ∧ r.2.mem ((c.tc : Thread Cert.DownReferenceIdeal.nD Cert.DownReferenceIdeal.τ).loc Cert.DownReferenceIdeal.main_arg7) = m ((c.tc : Thread Cert.DownReferenceIdeal.nD Cert.DownReferenceIdeal.τ).loc Cert.DownReferenceIdeal.main_arg7)
      ∧ r.2.mem ((c.tc : Thread Cert.DownReferenceIdeal.nD Cert.DownReferenceIdeal.τ).loc Cert.DownReferenceIdeal.main_arg8) = m ((c.tc : Thread Cert.DownReferenceIdeal.nD Cert.DownReferenceIdeal.τ).loc Cert.DownReferenceIdeal.main_arg8)
      ∧ r.2.mem ((c.tc : Thread Cert.DownReferenceIdeal.nD Cert.DownReferenceIdeal.τ).loc Cert.DownReferenceIdeal.main_arg9) = m ((c.tc : Thread Cert.DownReferenceIdeal.nD Cert.DownReferenceIdeal.τ).loc Cert.DownReferenceIdeal.main_arg9))
      ∧ r.2.sem = fun _ => 0)

def quiescent_DownReferenceIdeal_pre_finite_down [hDownReferenceIdeal : Cert.DownReferenceIdeal.Facts] [hPre_finite_down : Cert.Pre_finite_down.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_finite_down m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5)
      ∧ r.2.mem ((c.tc : Thread Cert.DownReferenceIdeal.nD Cert.DownReferenceIdeal.τ).loc Cert.DownReferenceIdeal.main_arg6) = m ((c.tc : Thread Cert.DownReferenceIdeal.nD Cert.DownReferenceIdeal.τ).loc Cert.DownReferenceIdeal.main_arg6)
      ∧ r.2.mem ((c.tc : Thread Cert.DownReferenceIdeal.nD Cert.DownReferenceIdeal.τ).loc Cert.DownReferenceIdeal.main_arg7) = m ((c.tc : Thread Cert.DownReferenceIdeal.nD Cert.DownReferenceIdeal.τ).loc Cert.DownReferenceIdeal.main_arg7)
      ∧ r.2.mem ((c.tc : Thread Cert.DownReferenceIdeal.nD Cert.DownReferenceIdeal.τ).loc Cert.DownReferenceIdeal.main_arg8) = m ((c.tc : Thread Cert.DownReferenceIdeal.nD Cert.DownReferenceIdeal.τ).loc Cert.DownReferenceIdeal.main_arg8)
      ∧ r.2.mem ((c.tc : Thread Cert.DownReferenceIdeal.nD Cert.DownReferenceIdeal.τ).loc Cert.DownReferenceIdeal.main_arg9) = m ((c.tc : Thread Cert.DownReferenceIdeal.nD Cert.DownReferenceIdeal.τ).loc Cert.DownReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_7) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_v166) = v2 c
          ∧ r.2.mem ((c.tc : Thread Cert.ReferenceIdeal.nD Cert.ReferenceIdeal.τ).loc Cert.ReferenceIdeal.main_v168) = v3 c
          ∧ r.2.mem ((c.tc : Thread Cert.ReferenceIdeal.nD Cert.ReferenceIdeal.τ).loc Cert.ReferenceIdeal.main_v169) = v4 c
          ∧ r.2.mem ((c.tc : Thread Cert.ReferenceIdeal.nD Cert.ReferenceIdeal.τ).loc Cert.ReferenceIdeal.main_v167) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Down_DownIdeal : Prop :=
  True

def algebraic_DownIdeal_DownReferenceIdeal_pre_finite_down [hDownIdeal : Cert.DownIdeal.Facts] [hDownReferenceIdeal : Cert.DownReferenceIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal_finite_down m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)
      ∧ m' ((c.tc : Thread Cert.DownReferenceIdeal.nD Cert.DownReferenceIdeal.τ).loc Cert.DownReferenceIdeal.main_arg5) = m ((c.tc : Thread Cert.DownIdeal.nD Cert.DownIdeal.τ).loc Cert.DownIdeal.main_arg5)
      ∧ m' ((c.tc : Thread Cert.DownReferenceIdeal.nD Cert.DownReferenceIdeal.τ).loc Cert.DownReferenceIdeal.main_arg6) = m ((c.tc : Thread Cert.DownIdeal.nD Cert.DownIdeal.τ).loc Cert.DownIdeal.main_arg6)
      ∧ m' ((c.tc : Thread Cert.DownReferenceIdeal.nD Cert.DownReferenceIdeal.τ).loc Cert.DownReferenceIdeal.main_arg7) = m ((c.tc : Thread Cert.DownIdeal.nD Cert.DownIdeal.τ).loc Cert.DownIdeal.main_arg7)
      ∧ m' ((c.tc : Thread Cert.DownReferenceIdeal.nD Cert.DownReferenceIdeal.τ).loc Cert.DownReferenceIdeal.main_arg8) = m ((c.tc : Thread Cert.DownIdeal.nD Cert.DownIdeal.τ).loc Cert.DownIdeal.main_arg8)
      ∧ m' ((c.tc : Thread Cert.DownReferenceIdeal.nD Cert.DownReferenceIdeal.τ).loc Cert.DownReferenceIdeal.main_arg9) = m ((c.tc : Thread Cert.DownIdeal.nD Cert.DownIdeal.τ).loc Cert.DownIdeal.main_arg9)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_2)) (v2 : (c : Dev Cert.DownIdeal.nD) → Buf (Elt Ideal) ((c.tc : Thread Cert.DownIdeal.nD Cert.DownIdeal.τ).loc Cert.DownIdeal.main_v3_3)) (v3 : (c : Dev Cert.DownIdeal.nD) → Buf (Elt Ideal) ((c.tc : Thread Cert.DownIdeal.nD Cert.DownIdeal.τ).loc Cert.DownIdeal.main_v3_4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_2) = v1 c
          ∧ r.2.mem ((c.tc : Thread Cert.DownIdeal.nD Cert.DownIdeal.τ).loc Cert.DownIdeal.main_v3_3) = v2 c
          ∧ r.2.mem ((c.tc : Thread Cert.DownIdeal.nD Cert.DownIdeal.τ).loc Cert.DownIdeal.main_v3_4) = v3 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
          ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
          ∧ r.2.mem ((c.tc : Thread Cert.DownIdeal.nD Cert.DownIdeal.τ).loc Cert.DownIdeal.main_arg8) = m ((c.tc : Thread Cert.DownIdeal.nD Cert.DownIdeal.τ).loc Cert.DownIdeal.main_arg8)
          ∧ r.2.mem ((c.tc : Thread Cert.DownIdeal.nD Cert.DownIdeal.τ).loc Cert.DownIdeal.main_arg9) = m ((c.tc : Thread Cert.DownIdeal.nD Cert.DownIdeal.τ).loc Cert.DownIdeal.main_arg9))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v74) = v0 c
          ∧ r.2.mem ((c.tc : Thread Cert.DownReferenceIdeal.nD Cert.DownReferenceIdeal.τ).loc Cert.DownReferenceIdeal.main_v85) = v1 c
          ∧ r.2.mem ((c.tc : Thread Cert.DownReferenceIdeal.nD Cert.DownReferenceIdeal.τ).loc Cert.DownReferenceIdeal.main_v86) = v2 c
          ∧ r.2.mem ((c.tc : Thread Cert.DownReferenceIdeal.nD Cert.DownReferenceIdeal.τ).loc Cert.DownReferenceIdeal.main_v84) = v3 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5)
          ∧ r.2.mem ((c.tc : Thread Cert.DownReferenceIdeal.nD Cert.DownReferenceIdeal.τ).loc Cert.DownReferenceIdeal.main_arg6) = m' ((c.tc : Thread Cert.DownReferenceIdeal.nD Cert.DownReferenceIdeal.τ).loc Cert.DownReferenceIdeal.main_arg6)
          ∧ r.2.mem ((c.tc : Thread Cert.DownReferenceIdeal.nD Cert.DownReferenceIdeal.τ).loc Cert.DownReferenceIdeal.main_arg7) = m' ((c.tc : Thread Cert.DownReferenceIdeal.nD Cert.DownReferenceIdeal.τ).loc Cert.DownReferenceIdeal.main_arg7)
          ∧ r.2.mem ((c.tc : Thread Cert.DownReferenceIdeal.nD Cert.DownReferenceIdeal.τ).loc Cert.DownReferenceIdeal.main_arg8) = m' ((c.tc : Thread Cert.DownReferenceIdeal.nD Cert.DownReferenceIdeal.τ).loc Cert.DownReferenceIdeal.main_arg8)
          ∧ r.2.mem ((c.tc : Thread Cert.DownReferenceIdeal.nD Cert.DownReferenceIdeal.τ).loc Cert.DownReferenceIdeal.main_arg9) = m' ((c.tc : Thread Cert.DownReferenceIdeal.nD Cert.DownReferenceIdeal.τ).loc Cert.DownReferenceIdeal.main_arg9))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hPre_finite : Cert.Pre_finite.Facts) (hPre_finite_down : Cert.Pre_finite_down.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown)
    ∧ quiescent_DownIdeal (hDownIdeal := hDownIdeal)
    ∧ quiescent_DownIdeal_pre_finite_down (hDownIdeal := hDownIdeal) (hPre_finite_down := hPre_finite_down)
    ∧ quiescent_DownReferenceIdeal (hDownReferenceIdeal := hDownReferenceIdeal)
    ∧ quiescent_DownReferenceIdeal_pre_finite_down (hDownReferenceIdeal := hDownReferenceIdeal) (hPre_finite_down := hPre_finite_down)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_DownReferenceIdeal_pre_finite_down (hDownIdeal := hDownIdeal) (hDownReferenceIdeal := hDownReferenceIdeal) (hPre_finite_down := hPre_finite_down)
-- ==== Pre_finite.lean ====
abbrev S2x128x4096 : Shape := ⟨3, ![2, 128, 4096]⟩
abbrev S4096 : Shape := ⟨1, ![4096]⟩
abbrev S14336x2048 : Shape := ⟨2, ![14336, 2048]⟩
abbrev S14336x64 : Shape := ⟨2, ![14336, 64]⟩
abbrev S32x4096 : Shape := ⟨2, ![32, 4096]⟩
abbrev S14336x32 : Shape := ⟨2, ![14336, 32]⟩
abbrev S14336 : Shape := ⟨1, ![14336]⟩
abbrev S32x14336 : Shape := ⟨2, ![32, 14336]⟩
abbrev S_ : Shape := ⟨0, ![]⟩

class Facts : Prop where
  bitsLt_bf16_f32 : FTy.bits .bf16 < FTy.bits .f32
  bcast_S_S32x4096 : S_.BroadcastsInDim S32x4096 (![] : Fin 0 → Fin S32x4096.rank)

variable [Facts]

def fn {F : FTy → Type} [FloatOps F] (main_arg0 : FVec F S2x128x4096 .bf16) (main_arg1 : FVec F S4096 .f32) (main_arg2 : IVec S14336x2048 8) (main_arg3 : FVec F S14336x64 .bf16) (main_arg4 : FVec F S14336x64 .bf16) (main_arg5 : FVec F S32x4096 .bf16) (main_arg6 : FVec F S14336x32 .bf16) (main_arg7 : FVec F S14336 .f32) (main_arg8 : IVec S14336x2048 8) (main_arg9 : FVec F S14336x64 .bf16) (main_arg10 : FVec F S14336x64 .bf16) (main_arg11 : FVec F S32x4096 .bf16) (main_arg12 : FVec F S14336x32 .bf16) (main_arg13 : FVec F S14336 .f32) (main_arg14 : FVec F S32x14336 .bf16) : IVec S32x4096 1 × IVec S32x4096 1 :=
  let main_v0 : FVec F S32x4096 .f32 := (extf .f32 · bitsLt_bf16_f32) main_arg5
  let main_v1 : FVec F S32x4096 .f32 := Host.absf main_v0
  let main_cst : FVec F S_ .f32 := constant S_ .f32 0x7F800000#32
  let main_v2 : FVec F S32x4096 .f32 := broadcastInDim S32x4096 ![] bcast_S_S32x4096 main_cst
  let main_v3 : IVec S32x4096 1 := cmpf .olt main_v1 main_v2
  let main_v4 : FVec F S32x4096 .f32 := (extf .f32 · bitsLt_bf16_f32) main_arg11
  let main_v5 : FVec F S32x4096 .f32 := Host.absf main_v4
  let main_cst_0 : FVec F S_ .f32 := constant S_ .f32 0x7F800000#32
  let main_v6 : FVec F S32x4096 .f32 := broadcastInDim S32x4096 ![] bcast_S_S32x4096 main_cst_0
  let main_v7 : IVec S32x4096 1 := cmpf .olt main_v5 main_v6
  (main_v3, main_v7)
-- ==== Pre_finite_down.lean ====
abbrev S2x128x4096 : Shape := ⟨3, ![2, 128, 4096]⟩
abbrev S256x14336 : Shape := ⟨2, ![256, 14336]⟩
abbrev S256x32 : Shape := ⟨2, ![256, 32]⟩
abbrev S4096x7168 : Shape := ⟨2, ![4096, 7168]⟩
abbrev S4096x224 : Shape := ⟨2, ![4096, 224]⟩
abbrev S32x14336 : Shape := ⟨2, ![32, 14336]⟩
abbrev S4096x32 : Shape := ⟨2, ![4096, 32]⟩
abbrev S4096 : Shape := ⟨1, ![4096]⟩
abbrev S_ : Shape := ⟨0, ![]⟩

class Facts : Prop where
  bitsLt_bf16_f32 : FTy.bits .bf16 < FTy.bits .f32
  bcast_S_S32x14336 : S_.BroadcastsInDim S32x14336 (![] : Fin 0 → Fin S32x14336.rank)

variable [Facts]

def fn {F : FTy → Type} [FloatOps F] (main_arg0 : FVec F S2x128x4096 .bf16) (main_arg1 : FVec F S2x128x4096 .bf16) (main_arg2 : FVec F S256x14336 .bf16) (main_arg3 : FVec F S256x32 .f32) (main_arg4 : IVec S4096x7168 8) (main_arg5 : FVec F S4096x224 .bf16) (main_arg6 : FVec F S4096x224 .bf16) (main_arg7 : FVec F S32x14336 .bf16) (main_arg8 : FVec F S4096x32 .bf16) (main_arg9 : FVec F S4096 .f32) : IVec S32x14336 1 :=
  let main_v0 : FVec F S32x14336 .f32 := (extf .f32 · bitsLt_bf16_f32) main_arg7
  let main_v1 : FVec F S32x14336 .f32 := Host.absf main_v0
  let main_cst : FVec F S_ .f32 := constant S_ .f32 0x7F800000#32
  let main_v2 : FVec F S32x14336 .f32 := broadcastInDim S32x14336 ![] bcast_S_S32x14336 main_cst
  let main_v3 : IVec S32x14336 1 := cmpf .olt main_v1 main_v2
  main_v3
-- ==== Kernel.lean ====
abbrev S2x128x4096 : Shape := ⟨3, ![2, 128, 4096]⟩
abbrev S4096 : Shape := ⟨1, ![4096]⟩
abbrev S14336x2048 : Shape := ⟨2, ![14336, 2048]⟩
abbrev S14336x64 : Shape := ⟨2, ![14336, 64]⟩
abbrev S32x4096 : Shape := ⟨2, ![32, 4096]⟩
abbrev S14336x32 : Shape := ⟨2, ![14336, 32]⟩
abbrev S14336 : Shape := ⟨1, ![14336]⟩
abbrev S32x14336 : Shape := ⟨2, ![32, 14336]⟩
abbrev S256x4096 : Shape := ⟨2, ![256, 4096]⟩
abbrev S1x4096 : Shape := ⟨2, ![1, 4096]⟩
abbrev S1x14336 : Shape := ⟨2, ![1, 14336]⟩
abbrev S256x14336 : Shape := ⟨2, ![256, 14336]⟩
abbrev S256x64 : Shape := ⟨2, ![256, 64]⟩
abbrev S256x32 : Shape := ⟨2, ![256, 32]⟩
abbrev S32x512 : Shape := ⟨2, ![32, 512]⟩
abbrev S512x2048 : Shape := ⟨2, ![512, 2048]⟩
abbrev S512x64 : Shape := ⟨2, ![512, 64]⟩
abbrev S512x32 : Shape := ⟨2, ![512, 32]⟩
abbrev S1x512 : Shape := ⟨2, ![1, 512]⟩
abbrev S256x512 : Shape := ⟨2, ![256, 512]⟩
abbrev S352x32 : Shape := ⟨2, ![352, 32]⟩
abbrev S64x512 : Shape := ⟨2, ![64, 512]⟩
abbrev S256 : Shape := ⟨1, ![256]⟩
abbrev S256x1 : Shape := ⟨2, ![256, 1]⟩
abbrev S32x32 : Shape := ⟨2, ![32, 32]⟩
abbrev S256x128 : Shape := ⟨2, ![256, 128]⟩
abbrev S128x256 : Shape := ⟨2, ![128, 256]⟩
abbrev S32x256 : Shape := ⟨2, ![32, 256]⟩
abbrev S1x256 : Shape := ⟨2, ![1, 256]⟩
abbrev S64x256 : Shape := ⟨2, ![64, 256]⟩
abbrev S32x128 : Shape := ⟨2, ![32, 128]⟩
abbrev S288x128 : Shape := ⟨2, ![288, 128]⟩
abbrev S288x256 : Shape := ⟨2, ![288, 256]⟩
abbrev S16x128 : Shape := ⟨2, ![16, 128]⟩
abbrev S16x256 : Shape := ⟨2, ![16, 256]⟩
abbrev S352x256 : Shape := ⟨2, ![352, 256]⟩
abbrev S256x256 : Shape := ⟨2, ![256, 256]⟩

abbrev nBuf : Space → Nat
  | .hbm => 27
  | .vmem => 48
  | .smem => 0
  | _ => 0

abbrev bufTy : (tb : Table) → Fin (tcTables nBuf tb) → BufTy
  | .hbm, ⟨0, _⟩ => ⟨S2x128x4096, .bf16⟩
  | .hbm, ⟨1, _⟩ => ⟨S4096, .f32⟩
  | .hbm, ⟨2, _⟩ => ⟨S14336x2048, .i8⟩
  | .hbm, ⟨3, _⟩ => ⟨S14336x64, .bf16⟩
  | .hbm, ⟨4, _⟩ => ⟨S14336x64, .bf16⟩
  | .hbm, ⟨5, _⟩ => ⟨S32x4096, .bf16⟩
  | .hbm, ⟨6, _⟩ => ⟨S14336x32, .bf16⟩
  | .hbm, ⟨7, _⟩ => ⟨S14336, .f32⟩
  | .hbm, ⟨8, _⟩ => ⟨S14336x2048, .i8⟩
  | .hbm, ⟨9, _⟩ => ⟨S14336x64, .bf16⟩
  | .hbm, ⟨10, _⟩ => ⟨S14336x64, .bf16⟩
  | .hbm, ⟨11, _⟩ => ⟨S32x4096, .bf16⟩
  | .hbm, ⟨12, _⟩ => ⟨S14336x32, .bf16⟩
  | .hbm, ⟨13, _⟩ => ⟨S14336, .f32⟩
  | .hbm, ⟨14, _⟩ => ⟨S32x14336, .bf16⟩
  | .hbm, ⟨15, _⟩ => ⟨S256x4096, .bf16⟩
  | .hbm, ⟨16, _⟩ => ⟨S1x4096, .f32⟩
  | .hbm, ⟨17, _⟩ => ⟨S1x14336, .f32⟩
  | .hbm, ⟨18, _⟩ => ⟨S1x14336, .f32⟩
  | .hbm, ⟨19, _⟩ => ⟨S256x14336, .f32⟩
  | .hbm, ⟨20, _⟩ => ⟨S256x14336, .f32⟩
  | .hbm, ⟨21, _⟩ => ⟨S256x14336, .bf16⟩
  | .hbm, ⟨22, _⟩ => ⟨S1x14336, .f32⟩
  | .hbm, ⟨23, _⟩ => ⟨S1x14336, .f32⟩
  | .hbm, ⟨24, _⟩ => ⟨S256x4096, .bf16⟩
  | .hbm, ⟨25, _⟩ => ⟨S256x64, .bf16⟩
  | .hbm, ⟨26, _⟩ => ⟨S256x32, .f32⟩
  | .local _ .vmem, ⟨0, _⟩ => ⟨S256x4096, .bf16⟩
  | .local _ .vmem, ⟨1, _⟩ => ⟨S1x4096, .f32⟩
  | .local _ .vmem, ⟨2, _⟩ => ⟨S32x4096, .bf16⟩
  | .local _ .vmem, ⟨3, _⟩ => ⟨S32x4096, .bf16⟩
  | .local _ .vmem, ⟨4, _⟩ => ⟨S32x512, .bf16⟩
  | .local _ .vmem, ⟨5, _⟩ => ⟨S32x512, .bf16⟩
  | .local _ .vmem, ⟨6, _⟩ => ⟨S512x2048, .i8⟩
  | .local _ .vmem, ⟨7, _⟩ => ⟨S512x2048, .i8⟩
  | .local _ .vmem, ⟨8, _⟩ => ⟨S512x64, .bf16⟩
  | .local _ .vmem, ⟨9, _⟩ => ⟨S512x64, .bf16⟩
  | .local _ .vmem, ⟨10, _⟩ => ⟨S512x64, .bf16⟩
  | .local _ .vmem, ⟨11, _⟩ => ⟨S512x64, .bf16⟩
  | .local _ .vmem, ⟨12, _⟩ => ⟨S512x32, .bf16⟩
  | .local _ .vmem, ⟨13, _⟩ => ⟨S512x32, .bf16⟩
  | .local _ .vmem, ⟨14, _⟩ => ⟨S1x512, .f32⟩
  | .local _ .vmem, ⟨15, _⟩ => ⟨S1x512, .f32⟩
  | .local _ .vmem, ⟨16, _⟩ => ⟨S512x2048, .i8⟩
  | .local _ .vmem, ⟨17, _⟩ => ⟨S512x2048, .i8⟩
  | .local _ .vmem, ⟨18, _⟩ => ⟨S512x64, .bf16⟩
  | .local _ .vmem, ⟨19, _⟩ => ⟨S512x64, .bf16⟩
  | .local _ .vmem, ⟨20, _⟩ => ⟨S512x64, .bf16⟩
  | .local _ .vmem, ⟨21, _⟩ => ⟨S512x64, .bf16⟩
  | .local _ .vmem, ⟨22, _⟩ => ⟨S512x32, .bf16⟩
  | .local _ .vmem, ⟨23, _⟩ => ⟨S512x32, .bf16⟩
  | .local _ .vmem, ⟨24, _⟩ => ⟨S1x512, .f32⟩
  | .local _ .vmem, ⟨25, _⟩ => ⟨S1x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .bf16⟩
  | .local _ .vmem, ⟨31, _⟩ => ⟨S256x512, .bf16⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S256x4096, .bf16⟩
  | .local _ .vmem, ⟨37, _⟩ => ⟨S256x64, .bf16⟩
  | .local _ .vmem, ⟨38, _⟩ => ⟨S256x32, .f32⟩
  | .local _ .vmem, ⟨39, _⟩ => ⟨S256x4096, .bf16⟩
  | .local _ .vmem, ⟨40, _⟩ => ⟨S32x4096, .bf16⟩
  | .local _ .vmem, ⟨41, _⟩ => ⟨S32x4096, .bf16⟩
  | .local _ .vmem, ⟨42, _⟩ => ⟨S352x32, .bf16⟩
  | .local _ .vmem, ⟨43, _⟩ => ⟨S352x32, .bf16⟩
  | .local _ .vmem, ⟨44, _⟩ => ⟨S64x512, .f32⟩
  | .local _ .vmem, ⟨45, _⟩ => ⟨S64x512, .f32⟩
  | .local _ .vmem, ⟨46, _⟩ => ⟨S64x512, .f32⟩
  | .local _ .vmem, ⟨47, _⟩ => ⟨S64x512, .f32⟩
  | _, _ => ⟨S2x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v4_2 : Ref sig .tc := ⟨.hbm, 21, rfl⟩
abbrev main_v4_3 : Ref sig .tc := ⟨.hbm, 22, rfl⟩
abbrev main_v4_4 : Ref sig .tc := ⟨.hbm, 23, rfl⟩
abbrev main_v4_5 : Ref sig .tc := ⟨.hbm, 24, rfl⟩
abbrev main_v4_6 : Ref sig .tc := ⟨.hbm, 25, rfl⟩
abbrev main_v4_7 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg22_0 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_scratch3 : Ref sig .tc := ⟨.vmem, 42, rfl⟩
abbrev cc0_scratch4 : Ref sig .tc := ⟨.vmem, 43, rfl⟩
abbrev cc0_scratch5 : Ref sig .tc := ⟨.vmem, 44, rfl⟩
abbrev cc0_scratch6 : Ref sig .tc := ⟨.vmem, 45, rfl⟩
abbrev cc0_scratch7 : Ref sig .tc := ⟨.vmem, 46, rfl⟩
abbrev cc0_scratch8 : Ref sig .tc := ⟨.vmem, 47, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem21_0 : DmaSem sig := 37
abbrev cc0_sem22_0 : DmaSem sig := 38

abbrev nD : Nat := 1
abbrev τ : Topo := Topo.v7x

variable {F : FTy → Type} [FloatOps F]

abbrev grid0 : Pipeline.Grid := ⟨1, ![28], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x32 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x32 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S256x4096 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x64 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x32 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== ReferenceIdeal.lean ====
abbrev S2x128x4096 : Shape := ⟨3, ![2, 128, 4096]⟩
abbrev S4096 : Shape := ⟨1, ![4096]⟩
abbrev S14336x2048 : Shape := ⟨2, ![14336, 2048]⟩
abbrev S14336x64 : Shape := ⟨2, ![14336, 64]⟩
abbrev S32x4096 : Shape := ⟨2, ![32, 4096]⟩
abbrev S14336x32 : Shape := ⟨2, ![14336, 32]⟩
abbrev S14336 : Shape := ⟨1, ![14336]⟩
abbrev S32x14336 : Shape := ⟨2, ![32, 14336]⟩
abbrev S256x4096 : Shape := ⟨2, ![256, 4096]⟩
abbrev S_ : Shape := ⟨0, ![]⟩
abbrev S256 : Shape := ⟨1, ![256]⟩
abbrev S256x1 : Shape := ⟨2, ![256, 1]⟩
abbrev S1x4096 : Shape := ⟨2, ![1, 4096]⟩
abbrev S2048x14336 : Shape := ⟨2, ![2048, 14336]⟩
abbrev S64x14336 : Shape := ⟨2, ![64, 14336]⟩
abbrev S32x64x14336 : Shape := ⟨3, ![32, 64, 14336]⟩
abbrev S32x1x14336 : Shape := ⟨3, ![32, 1, 14336]⟩
abbrev S288x4096 : Shape := ⟨2, ![288, 4096]⟩
abbrev S288x2048 : Shape := ⟨2, ![288, 2048]⟩
abbrev S288x14336 : Shape := ⟨2, ![288, 14336]⟩
abbrev S32x32 : Shape := ⟨2, ![32, 32]⟩
abbrev S256x32 : Shape := ⟨2, ![256, 32]⟩
abbrev S256x14336 : Shape := ⟨2, ![256, 14336]⟩
abbrev S1x14336 : Shape := ⟨2, ![1, 14336]⟩

abbrev nBuf : Space → Nat
  | .hbm => 209
  | .vmem => 0
  | .smem => 0
  | _ => 0

abbrev hbmTy0_0 (i : Nat) : BufTy := match i % 128 with
  | 0 => ⟨S2x128x4096, .bf16⟩
  | 1 => ⟨S4096, .f32⟩
  | 2 => ⟨S14336x2048, .i8⟩
  | 3 => ⟨S14336x64, .bf16⟩
  | 4 => ⟨S14336x64, .bf16⟩
  | 5 => ⟨S32x4096, .bf16⟩
  | 6 => ⟨S14336x32, .bf16⟩
  | 7 => ⟨S14336, .f32⟩
  | 8 => ⟨S14336x2048, .i8⟩
  | 9 => ⟨S14336x64, .bf16⟩
  | 10 => ⟨S14336x64, .bf16⟩
  | 11 => ⟨S32x4096, .bf16⟩
  | 12 => ⟨S14336x32, .bf16⟩
  | 13 => ⟨S14336, .f32⟩
  | 14 => ⟨S32x14336, .bf16⟩
  | 15 => ⟨S256x4096, .bf16⟩
  | 16 => ⟨S256x4096, .f32⟩
  | 17 => ⟨S256x4096, .f32⟩
  | 18 => ⟨S_, .f32⟩
  | 19 => ⟨S256, .f32⟩
  | 20 => ⟨S256x1, .f32⟩
  | 21 => ⟨S_, .f32⟩
  | 22 => ⟨S256x1, .f32⟩
  | 23 => ⟨S256x1, .f32⟩
  | 24 => ⟨S_, .f32⟩
  | 25 => ⟨S256x1, .f32⟩
  | 26 => ⟨S256x1, .f32⟩
  | 27 => ⟨S256x1, .f32⟩
  | 28 => ⟨S_, .f32⟩
  | 29 => ⟨S256x1, .f32⟩
  | 30 => ⟨S256x1, .f32⟩
  | 31 => ⟨S256x4096, .f32⟩
  | 32 => ⟨S256x4096, .f32⟩
  | 33 => ⟨S1x4096, .f32⟩
  | 34 => ⟨S256x4096, .f32⟩
  | 35 => ⟨S256x4096, .f32⟩
  | 36 => ⟨S256x4096, .bf16⟩
  | 37 => ⟨S2048x14336, .i8⟩
  | 38 => ⟨S2048x14336, .i32⟩
  | 39 => ⟨S64x14336, .bf16⟩
  | 40 => ⟨S64x14336, .bf16⟩
  | 41 => ⟨S_, .i32⟩
  | 42 => ⟨S2048x14336, .i32⟩
  | 43 => ⟨S2048x14336, .i32⟩
  | 44 => ⟨S32x14336, .bf16⟩
  | 45 => ⟨S32x14336, .bf16⟩
  | 46 => ⟨S2048x14336, .bf16⟩
  | 47 => ⟨S32x64x14336, .bf16⟩
  | 48 => ⟨S32x1x14336, .bf16⟩
  | 49 => ⟨S32x64x14336, .bf16⟩
  | 50 => ⟨S32x64x14336, .bf16⟩
  | 51 => ⟨S32x1x14336, .bf16⟩
  | 52 => ⟨S32x64x14336, .bf16⟩
  | 53 => ⟨S32x64x14336, .bf16⟩
  | 54 => ⟨S2048x14336, .bf16⟩
  | 55 => ⟨S_, .i32⟩
  | 56 => ⟨S2048x14336, .i32⟩
  | 57 => ⟨S2048x14336, .i32⟩
  | 58 => ⟨S32x14336, .bf16⟩
  | 59 => ⟨S32x14336, .bf16⟩
  | 60 => ⟨S2048x14336, .bf16⟩
  | 61 => ⟨S32x64x14336, .bf16⟩
  | 62 => ⟨S32x1x14336, .bf16⟩
  | 63 => ⟨S32x64x14336, .bf16⟩
  | 64 => ⟨S32x64x14336, .bf16⟩
  | 65 => ⟨S32x1x14336, .bf16⟩
  | 66 => ⟨S32x64x14336, .bf16⟩
  | 67 => ⟨S32x64x14336, .bf16⟩
  | 68 => ⟨S2048x14336, .bf16⟩
  | 69 => ⟨S288x4096, .bf16⟩
  | 70 => ⟨S288x2048, .bf16⟩
  | 71 => ⟨S288x14336, .f32⟩
  | 72 => ⟨S288x2048, .bf16⟩
  | 73 => ⟨S288x14336, .f32⟩
  | 74 => ⟨S288x14336, .f32⟩
  | 75 => ⟨S2048x14336, .f32⟩
  | 76 => ⟨S2048x14336, .f32⟩
  | 77 => ⟨S_, .f32⟩
  | 78 => ⟨S14336, .f32⟩
  | 79 => ⟨S2048x14336, .f32⟩
  | 80 => ⟨S2048x14336, .f32⟩
  | 81 => ⟨S_, .f32⟩
  | 82 => ⟨S14336, .f32⟩
  | 83 => ⟨S14336, .f32⟩
  | 84 => ⟨S32x32, .f32⟩
  | 85 => ⟨S32x14336, .bf16⟩
  | 86 => ⟨S32x14336, .f32⟩
  | 87 => ⟨S32x14336, .f32⟩
  | 88 => ⟨S32x14336, .f32⟩
  | 89 => ⟨S32x14336, .f32⟩
  | 90 => ⟨S_, .f32⟩
  | 91 => ⟨S14336, .f32⟩
  | 92 => ⟨S_, .f32⟩
  | 93 => ⟨S14336, .f32⟩
  | 94 => ⟨S14336, .f32⟩
  | 95 => ⟨S14336, .f32⟩
  | 96 => ⟨S32x14336, .f32⟩
  | 97 => ⟨S_, .f32⟩
  | 98 => ⟨S14336, .f32⟩
  | 99 => ⟨S_, .f32⟩
  | 100 => ⟨S14336, .f32⟩
  | 101 => ⟨S14336, .f32⟩
  | 102 => ⟨S14336, .f32⟩
  | 103 => ⟨S14336, .f32⟩
  | 104 => ⟨S256x32, .f32⟩
  | 105 => ⟨S256x32, .bf16⟩
  | 106 => ⟨S256x14336, .f32⟩
  | 107 => ⟨S256x14336, .f32⟩
  | 108 => ⟨S_, .f32⟩
  | 109 => ⟨S256x14336, .f32⟩
  | 110 => ⟨S256x14336, .f32⟩
  | 111 => ⟨S256x14336, .f32⟩
  | 112 => ⟨S14336, .f32⟩
  | 113 => ⟨S1x14336, .f32⟩
  | 114 => ⟨S256x14336, .f32⟩
  | 115 => ⟨S256x14336, .f32⟩
  | 116 => ⟨S2048x14336, .i8⟩
  | 117 => ⟨S2048x14336, .i32⟩
  | 118 => ⟨S64x14336, .bf16⟩
  | 119 => ⟨S64x14336, .bf16⟩
  | 120 => ⟨S_, .i32⟩
  | 121 => ⟨S2048x14336, .i32⟩
  | 122 => ⟨S2048x14336, .i32⟩
  | 123 => ⟨S32x14336, .bf16⟩
  | 124 => ⟨S32x14336, .bf16⟩
  | 125 => ⟨S2048x14336, .bf16⟩
  | 126 => ⟨S32x64x14336, .bf16⟩
  | 127 => ⟨S32x1x14336, .bf16⟩
  | _ => ⟨S2x128x4096, .bf16⟩

abbrev hbmTy0_1 (i : Nat) : BufTy := match i % 128 with
  | 0 => ⟨S32x64x14336, .bf16⟩
  | 1 => ⟨S32x64x14336, .bf16⟩
  | 2 => ⟨S32x1x14336, .bf16⟩
  | 3 => ⟨S32x64x14336, .bf16⟩
  | 4 => ⟨S32x64x14336, .bf16⟩
  | 5 => ⟨S2048x14336, .bf16⟩
  | 6 => ⟨S_, .i32⟩
  | 7 => ⟨S2048x14336, .i32⟩
  | 8 => ⟨S2048x14336, .i32⟩
  | 9 => ⟨S32x14336, .bf16⟩
  | 10 => ⟨S32x14336, .bf16⟩
  | 11 => ⟨S2048x14336, .bf16⟩
  | 12 => ⟨S32x64x14336, .bf16⟩
  | 13 => ⟨S32x1x14336, .bf16⟩
  | 14 => ⟨S32x64x14336, .bf16⟩
  | 15 => ⟨S32x64x14336, .bf16⟩
  | 16 => ⟨S32x1x14336, .bf16⟩
  | 17 => ⟨S32x64x14336, .bf16⟩
  | 18 => ⟨S32x64x14336, .bf16⟩
  | 19 => ⟨S2048x14336, .bf16⟩
  | 20 => ⟨S288x4096, .bf16⟩
  | 21 => ⟨S288x2048, .bf16⟩
  | 22 => ⟨S288x14336, .f32⟩
  | 23 => ⟨S288x2048, .bf16⟩
  | 24 => ⟨S288x14336, .f32⟩
  | 25 => ⟨S288x14336, .f32⟩
  | 26 => ⟨S2048x14336, .f32⟩
  | 27 => ⟨S2048x14336, .f32⟩
  | 28 => ⟨S_, .f32⟩
  | 29 => ⟨S14336, .f32⟩
  | 30 => ⟨S2048x14336, .f32⟩
  | 31 => ⟨S2048x14336, .f32⟩
  | 32 => ⟨S_, .f32⟩
  | 33 => ⟨S14336, .f32⟩
  | 34 => ⟨S14336, .f32⟩
  | 35 => ⟨S32x32, .f32⟩
  | 36 => ⟨S32x14336, .bf16⟩
  | 37 => ⟨S32x14336, .f32⟩
  | 38 => ⟨S32x14336, .f32⟩
  | 39 => ⟨S32x14336, .f32⟩
  | 40 => ⟨S32x14336, .f32⟩
  | 41 => ⟨S_, .f32⟩
  | 42 => ⟨S14336, .f32⟩
  | 43 => ⟨S_, .f32⟩
  | 44 => ⟨S14336, .f32⟩
  | 45 => ⟨S14336, .f32⟩
  | 46 => ⟨S14336, .f32⟩
  | 47 => ⟨S32x14336, .f32⟩
  | 48 => ⟨S_, .f32⟩
  | 49 => ⟨S14336, .f32⟩
  | 50 => ⟨S_, .f32⟩
  | 51 => ⟨S14336, .f32⟩
  | 52 => ⟨S14336, .f32⟩
  | 53 => ⟨S14336, .f32⟩
  | 54 => ⟨S14336, .f32⟩
  | 55 => ⟨S256x32, .f32⟩
  | 56 => ⟨S256x32, .bf16⟩
  | 57 => ⟨S256x14336, .f32⟩
  | 58 => ⟨S256x14336, .f32⟩
  | 59 => ⟨S_, .f32⟩
  | 60 => ⟨S256x14336, .f32⟩
  | 61 => ⟨S256x14336, .f32⟩
  | 62 => ⟨S256x14336, .f32⟩
  | 63 => ⟨S14336, .f32⟩
  | 64 => ⟨S1x14336, .f32⟩
  | 65 => ⟨S256x14336, .f32⟩
  | 66 => ⟨S256x14336, .f32⟩
  | 67 => ⟨S256x14336, .f32⟩
  | 68 => ⟨S256x14336, .f32⟩
  | 69 => ⟨S_, .f32⟩
  | 70 => ⟨S256x14336, .f32⟩
  | 71 => ⟨S256x14336, .f32⟩
  | 72 => ⟨S_, .f32⟩
  | 73 => ⟨S256x14336, .f32⟩
  | 74 => ⟨S256x14336, .f32⟩
  | 75 => ⟨S256x14336, .f32⟩
  | 76 => ⟨S256x14336, .f32⟩
  | 77 => ⟨S256x14336, .bf16⟩
  | 78 => ⟨S256x32, .f32⟩
  | 79 => ⟨S1x14336, .f32⟩
  | 80 => ⟨S1x14336, .f32⟩
  | _ => ⟨S2x128x4096, .bf16⟩

abbrev hbmTy (i : Nat) : BufTy := match i / 128 with
  | 0 => hbmTy0_0 i
  | 1 => hbmTy0_1 i
  | _ => ⟨S2x128x4096, .bf16⟩

abbrev bufTy : (tb : Table) → Fin (tcTables nBuf tb) → BufTy
  | .hbm, ⟨i, _⟩ => hbmTy i
  | _, _ => ⟨S2x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_4 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_5 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_6 : Ref sig .tc := ⟨.hbm, 90, rfl⟩
abbrev main_v67 : Ref sig .tc := ⟨.hbm, 91, rfl⟩
abbrev main_cst_7 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_8 : Ref sig .tc := ⟨.hbm, 97, rfl⟩
abbrev main_v72 : Ref sig .tc := ⟨.hbm, 98, rfl⟩
abbrev main_cst_9 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_10 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_c_11 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_c_12 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_cst_13 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_14 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_cst_15 : Ref sig .tc := ⟨.hbm, 169, rfl⟩
abbrev main_v137 : Ref sig .tc := ⟨.hbm, 170, rfl⟩
abbrev main_cst_16 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_cst_17 : Ref sig .tc := ⟨.hbm, 176, rfl⟩
abbrev main_v142 : Ref sig .tc := ⟨.hbm, 177, rfl⟩
abbrev main_cst_18 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_cst_19 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_cst_20 : Ref sig .tc := ⟨.hbm, 197, rfl⟩
abbrev main_v160 : Ref sig .tc := ⟨.hbm, 198, rfl⟩
abbrev main_v161 : Ref sig .tc := ⟨.hbm, 199, rfl⟩
abbrev main_cst_21 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩

abbrev nD : Nat := 1
abbrev τ : Topo := Topo.v7x

variable {F : FTy → Type} [FloatOps F]
-- ==== Down.lean ====
abbrev S2x128x4096 : Shape := ⟨3, ![2, 128, 4096]⟩
abbrev S256x14336 : Shape := ⟨2, ![256, 14336]⟩
abbrev S256x32 : Shape := ⟨2, ![256, 32]⟩
abbrev S4096x7168 : Shape := ⟨2, ![4096, 7168]⟩
abbrev S4096x224 : Shape := ⟨2, ![4096, 224]⟩
abbrev S32x14336 : Shape := ⟨2, ![32, 14336]⟩
abbrev S4096x32 : Shape := ⟨2, ![4096, 32]⟩
abbrev S4096 : Shape := ⟨1, ![4096]⟩
abbrev S256x4096 : Shape := ⟨2, ![256, 4096]⟩
abbrev S1x4096 : Shape := ⟨2, ![1, 4096]⟩
abbrev S14336x256 : Shape := ⟨2, ![14336, 256]⟩
abbrev S32x256 : Shape := ⟨2, ![32, 256]⟩
abbrev S256x256 : Shape := ⟨2, ![256, 256]⟩
abbrev S256x7168 : Shape := ⟨2, ![256, 7168]⟩
abbrev S256x224 : Shape := ⟨2, ![256, 224]⟩
abbrev S1x256 : Shape := ⟨2, ![1, 256]⟩
abbrev S352x32 : Shape := ⟨2, ![352, 32]⟩
abbrev S224x256 : Shape := ⟨2, ![224, 256]⟩
abbrev S32x32 : Shape := ⟨2, ![32, 32]⟩
abbrev S256x128 : Shape := ⟨2, ![256, 128]⟩
abbrev S128x256 : Shape := ⟨2, ![128, 256]⟩
abbrev S64x256 : Shape := ⟨2, ![64, 256]⟩
abbrev S32x128 : Shape := ⟨2, ![32, 128]⟩
abbrev S288x128 : Shape := ⟨2, ![288, 128]⟩
abbrev S288x256 : Shape := ⟨2, ![288, 256]⟩
abbrev S16x128 : Shape := ⟨2, ![16, 128]⟩
abbrev S16x256 : Shape := ⟨2, ![16, 256]⟩
abbrev S352x256 : Shape := ⟨2, ![352, 256]⟩
abbrev S256 : Shape := ⟨1, ![256]⟩
abbrev S512x256 : Shape := ⟨2, ![512, 256]⟩

abbrev nBuf : Space → Nat
  | .hbm => 19
  | .vmem => 31
  | .smem => 0
  | _ => 0

abbrev bufTy : (tb : Table) → Fin (tcTables nBuf tb) → BufTy
  | .hbm, ⟨0, _⟩ => ⟨S2x128x4096, .bf16⟩
  | .hbm, ⟨1, _⟩ => ⟨S2x128x4096, .bf16⟩
  | .hbm, ⟨2, _⟩ => ⟨S256x14336, .bf16⟩
  | .hbm, ⟨3, _⟩ => ⟨S256x32, .f32⟩
  | .hbm, ⟨4, _⟩ => ⟨S4096x7168, .i8⟩
  | .hbm, ⟨5, _⟩ => ⟨S4096x224, .bf16⟩
  | .hbm, ⟨6, _⟩ => ⟨S4096x224, .bf16⟩
  | .hbm, ⟨7, _⟩ => ⟨S32x14336, .bf16⟩
  | .hbm, ⟨8, _⟩ => ⟨S4096x32, .bf16⟩
  | .hbm, ⟨9, _⟩ => ⟨S4096, .f32⟩
  | .hbm, ⟨10, _⟩ => ⟨S256x4096, .bf16⟩
  | .hbm, ⟨11, _⟩ => ⟨S256x4096, .bf16⟩
  | .hbm, ⟨12, _⟩ => ⟨S1x4096, .f32⟩
  | .hbm, ⟨13, _⟩ => ⟨S256x4096, .bf16⟩
  | .hbm, ⟨14, _⟩ => ⟨S14336x256, .f32⟩
  | .hbm, ⟨15, _⟩ => ⟨S1x4096, .f32⟩
  | .hbm, ⟨16, _⟩ => ⟨S1x4096, .f32⟩
  | .hbm, ⟨17, _⟩ => ⟨S4096x32, .f32⟩
  | .hbm, ⟨18, _⟩ => ⟨S32x256, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x14336, .bf16⟩
  | .local _ .vmem, ⟨5, _⟩ => ⟨S32x14336, .bf16⟩
  | .local _ .vmem, ⟨6, _⟩ => ⟨S256x32, .f32⟩
  | .local _ .vmem, ⟨7, _⟩ => ⟨S256x7168, .i8⟩
  | .local _ .vmem, ⟨8, _⟩ => ⟨S256x7168, .i8⟩
  | .local _ .vmem, ⟨9, _⟩ => ⟨S256x224, .bf16⟩
  | .local _ .vmem, ⟨10, _⟩ => ⟨S256x224, .bf16⟩
  | .local _ .vmem, ⟨11, _⟩ => ⟨S256x224, .bf16⟩
  | .local _ .vmem, ⟨12, _⟩ => ⟨S256x224, .bf16⟩
  | .local _ .vmem, ⟨13, _⟩ => ⟨S256x32, .bf16⟩
  | .local _ .vmem, ⟨14, _⟩ => ⟨S256x32, .bf16⟩
  | .local _ .vmem, ⟨15, _⟩ => ⟨S1x256, .f32⟩
  | .local _ .vmem, ⟨16, _⟩ => ⟨S1x256, .f32⟩
  | .local _ .vmem, ⟨17, _⟩ => ⟨S256x256, .bf16⟩
  | .local _ .vmem, ⟨18, _⟩ => ⟨S256x256, .bf16⟩
  | .local _ .vmem, ⟨19, _⟩ => ⟨S14336x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S256x32, .f32⟩
  | .local _ .vmem, ⟨25, _⟩ => ⟨S256x32, .f32⟩
  | .local _ .vmem, ⟨26, _⟩ => ⟨S32x256, .f32⟩
  | .local _ .vmem, ⟨27, _⟩ => ⟨S14336x256, .bf16⟩
  | .local _ .vmem, ⟨28, _⟩ => ⟨S352x32, .bf16⟩
  | .local _ .vmem, ⟨29, _⟩ => ⟨S224x256, .f32⟩
  | .local _ .vmem, ⟨30, _⟩ => ⟨S224x256, .f32⟩
  | _, _ => ⟨S2x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x14336 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x14336 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x7168 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x224 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x224 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x32 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S14336x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S32x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== DownReferenceIdeal.lean ====
abbrev S2x128x4096 : Shape := ⟨3, ![2, 128, 4096]⟩
abbrev S256x14336 : Shape := ⟨2, ![256, 14336]⟩
abbrev S256x32 : Shape := ⟨2, ![256, 32]⟩
abbrev S4096x7168 : Shape := ⟨2, ![4096, 7168]⟩
abbrev S4096x224 : Shape := ⟨2, ![4096, 224]⟩
abbrev S32x14336 : Shape := ⟨2, ![32, 14336]⟩
abbrev S4096x32 : Shape := ⟨2, ![4096, 32]⟩
abbrev S4096 : Shape := ⟨1, ![4096]⟩
abbrev S256x4096 : Shape := ⟨2, ![256, 4096]⟩
abbrev S7168x4096 : Shape := ⟨2, ![7168, 4096]⟩
abbrev S224x4096 : Shape := ⟨2, ![224, 4096]⟩
abbrev S_ : Shape := ⟨0, ![]⟩
abbrev S112x4096 : Shape := ⟨2, ![112, 4096]⟩
abbrev S112x64x4096 : Shape := ⟨3, ![112, 64, 4096]⟩
abbrev S112x1x4096 : Shape := ⟨3, ![112, 1, 4096]⟩
abbrev S288x14336 : Shape := ⟨2, ![288, 14336]⟩
abbrev S288x7168 : Shape := ⟨2, ![288, 7168]⟩
abbrev S288x4096 : Shape := ⟨2, ![288, 4096]⟩
abbrev S32x32 : Shape := ⟨2, ![32, 32]⟩
abbrev S32x4096 : Shape := ⟨2, ![32, 4096]⟩
abbrev S1x4096 : Shape := ⟨2, ![1, 4096]⟩

abbrev nBuf : Space → Nat
  | .hbm => 108
  | .vmem => 0
  | .smem => 0
  | _ => 0

abbrev bufTy : (tb : Table) → Fin (tcTables nBuf tb) → BufTy
  | .hbm, ⟨0, _⟩ => ⟨S2x128x4096, .bf16⟩
  | .hbm, ⟨1, _⟩ => ⟨S2x128x4096, .bf16⟩
  | .hbm, ⟨2, _⟩ => ⟨S256x14336, .bf16⟩
  | .hbm, ⟨3, _⟩ => ⟨S256x32, .f32⟩
  | .hbm, ⟨4, _⟩ => ⟨S4096x7168, .i8⟩
  | .hbm, ⟨5, _⟩ => ⟨S4096x224, .bf16⟩
  | .hbm, ⟨6, _⟩ => ⟨S4096x224, .bf16⟩
  | .hbm, ⟨7, _⟩ => ⟨S32x14336, .bf16⟩
  | .hbm, ⟨8, _⟩ => ⟨S4096x32, .bf16⟩
  | .hbm, ⟨9, _⟩ => ⟨S4096, .f32⟩
  | .hbm, ⟨10, _⟩ => ⟨S256x4096, .bf16⟩
  | .hbm, ⟨11, _⟩ => ⟨S256x4096, .f32⟩
  | .hbm, ⟨12, _⟩ => ⟨S256x4096, .bf16⟩
  | .hbm, ⟨13, _⟩ => ⟨S256x4096, .f32⟩
  | .hbm, ⟨14, _⟩ => ⟨S7168x4096, .i8⟩
  | .hbm, ⟨15, _⟩ => ⟨S7168x4096, .i32⟩
  | .hbm, ⟨16, _⟩ => ⟨S224x4096, .bf16⟩
  | .hbm, ⟨17, _⟩ => ⟨S224x4096, .bf16⟩
  | .hbm, ⟨18, _⟩ => ⟨S_, .i32⟩
  | .hbm, ⟨19, _⟩ => ⟨S7168x4096, .i32⟩
  | .hbm, ⟨20, _⟩ => ⟨S7168x4096, .i32⟩
  | .hbm, ⟨21, _⟩ => ⟨S112x4096, .bf16⟩
  | .hbm, ⟨22, _⟩ => ⟨S112x4096, .bf16⟩
  | .hbm, ⟨23, _⟩ => ⟨S7168x4096, .bf16⟩
  | .hbm, ⟨24, _⟩ => ⟨S112x64x4096, .bf16⟩
  | .hbm, ⟨25, _⟩ => ⟨S112x1x4096, .bf16⟩
  | .hbm, ⟨26, _⟩ => ⟨S112x64x4096, .bf16⟩
  | .hbm, ⟨27, _⟩ => ⟨S112x64x4096, .bf16⟩
  | .hbm, ⟨28, _⟩ => ⟨S112x1x4096, .bf16⟩
  | .hbm, ⟨29, _⟩ => ⟨S112x64x4096, .bf16⟩
  | .hbm, ⟨30, _⟩ => ⟨S112x64x4096, .bf16⟩
  | .hbm, ⟨31, _⟩ => ⟨S7168x4096, .bf16⟩
  | .hbm, ⟨32, _⟩ => ⟨S_, .i32⟩
  | .hbm, ⟨33, _⟩ => ⟨S7168x4096, .i32⟩
  | .hbm, ⟨34, _⟩ => ⟨S7168x4096, .i32⟩
  | .hbm, ⟨35, _⟩ => ⟨S112x4096, .bf16⟩
  | .hbm, ⟨36, _⟩ => ⟨S112x4096, .bf16⟩
  | .hbm, ⟨37, _⟩ => ⟨S7168x4096, .bf16⟩
  | .hbm, ⟨38, _⟩ => ⟨S112x64x4096, .bf16⟩
  | .hbm, ⟨39, _⟩ => ⟨S112x1x4096, .bf16⟩
  | .hbm, ⟨40, _⟩ => ⟨S112x64x4096, .bf16⟩
  | .hbm, ⟨41, _⟩ => ⟨S112x64x4096, .bf16⟩
  | .hbm, ⟨42, _⟩ => ⟨S112x1x4096, .bf16⟩
  | .hbm, ⟨43, _⟩ => ⟨S112x64x4096, .bf16⟩
  | .hbm, ⟨44, _⟩ => ⟨S112x64x4096, .bf16⟩
  | .hbm, ⟨45, _⟩ => ⟨S7168x4096, .bf16⟩
  | .hbm, ⟨46, _⟩ => ⟨S288x14336, .bf16⟩
  | .hbm, ⟨47, _⟩ => ⟨S288x7168, .bf16⟩
  | .hbm, ⟨48, _⟩ => ⟨S288x4096, .f32⟩
  | .hbm, ⟨49, _⟩ => ⟨S288x7168, .bf16⟩
  | .hbm, ⟨50, _⟩ => ⟨S288x4096, .f32⟩
  | .hbm, ⟨51, _⟩ => ⟨S288x4096, .f32⟩
  | .hbm, ⟨52, _⟩ => ⟨S7168x4096, .f32⟩
  | .hbm, ⟨53, _⟩ => ⟨S7168x4096, .f32⟩
  | .hbm, ⟨54, _⟩ => ⟨S_, .f32⟩
  | .hbm, ⟨55, _⟩ => ⟨S4096, .f32⟩
  | .hbm, ⟨56, _⟩ => ⟨S7168x4096, .f32⟩
  | .hbm, ⟨57, _⟩ => ⟨S7168x4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S32x32, .f32⟩
  | .hbm, ⟨62, _⟩ => ⟨S32x4096, .bf16⟩
  | .hbm, ⟨63, _⟩ => ⟨S32x4096, .f32⟩
  | .hbm, ⟨64, _⟩ => ⟨S32x4096, .f32⟩
  | .hbm, ⟨65, _⟩ => ⟨S32x4096, .f32⟩
  | .hbm, ⟨66, _⟩ => ⟨S32x4096, .f32⟩
  | .hbm, ⟨67, _⟩ => ⟨S_, .f32⟩
  | .hbm, ⟨68, _⟩ => ⟨S4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S4096, .f32⟩
  | .hbm, ⟨73, _⟩ => ⟨S32x4096, .f32⟩
  | .hbm, ⟨74, _⟩ => ⟨S_, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S4096, .f32⟩
  | .hbm, ⟨80, _⟩ => ⟨S4096, .f32⟩
  | .hbm, ⟨81, _⟩ => ⟨S256x32, .bf16⟩
  | .hbm, ⟨82, _⟩ => ⟨S256x4096, .f32⟩
  | .hbm, ⟨83, _⟩ => ⟨S256x4096, .f32⟩
  | .hbm, ⟨84, _⟩ => ⟨S_, .f32⟩
  | .hbm, ⟨85, _⟩ => ⟨S256x4096, .f32⟩
  | .hbm, ⟨86, _⟩ => ⟨S256x4096, .f32⟩
  | .hbm, ⟨87, _⟩ => ⟨S256x4096, .f32⟩
  | .hbm, ⟨88, _⟩ => ⟨S4096, .f32⟩
  | .hbm, ⟨89, _⟩ => ⟨S1x4096, .f32⟩
  | .hbm, ⟨90, _⟩ => ⟨S256x4096, .f32⟩
  | .hbm, ⟨91, _⟩ => ⟨S256x4096, .f32⟩
  | .hbm, ⟨92, _⟩ => ⟨S256x4096, .f32⟩
  | .hbm, ⟨93, _⟩ => ⟨S256x4096, .bf16⟩
  | .hbm, ⟨94, _⟩ => ⟨S256x4096, .f32⟩
  | .hbm, ⟨95, _⟩ => ⟨S_, .f32⟩
  | .hbm, ⟨96, _⟩ => ⟨S4096, .f32⟩
  | .hbm, ⟨97, _⟩ => ⟨S4096, .f32⟩
  | .hbm, ⟨98, _⟩ => ⟨S1x4096, .f32⟩
  | .hbm, ⟨99, _⟩ => ⟨S256x4096, .f32⟩
  | .hbm, ⟨100, _⟩ => ⟨S256x4096, .f32⟩
  | .hbm, ⟨101, _⟩ => ⟨S256x4096, .bf16⟩
  | .hbm, ⟨102, _⟩ => ⟨S4096x32, .f32⟩
  | .hbm, ⟨103, _⟩ => ⟨S_, .f32⟩
  | .hbm, ⟨104, _⟩ => ⟨S4096x32, .f32⟩
  | .hbm, ⟨105, _⟩ => ⟨S4096x32, .f32⟩
  | .hbm, ⟨106, _⟩ => ⟨S1x4096, .f32⟩
  | .hbm, ⟨107, _⟩ => ⟨S1x4096, .f32⟩
  | _, _ => ⟨S2x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_1 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_2 : Ref sig .tc := ⟨.hbm, 67, rfl⟩
abbrev main_v53 : Ref sig .tc := ⟨.hbm, 68, rfl⟩
abbrev main_cst_3 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_4 : Ref sig .tc := ⟨.hbm, 74, rfl⟩
abbrev main_v58 : Ref sig .tc := ⟨.hbm, 75, rfl⟩
abbrev main_cst_5 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_6 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_7 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_8 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩

abbrev nD : Nat := 1
abbrev τ : Topo := Topo.v7x

variable {F : FTy → Type} [FloatOps F]
-- ==== Proof.Bits.Runs.lean ====
/- What the kernel's two runs share: the entry of the program, the blocks that the grid points read, the staging and
   scratch buffers, and the frame from a run. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1380000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 5 rfl).trans ((hA c 5).trans (V_main_arg2 m c)),
      (Pipeline.RDat.FramePost.arr_in h c 6 rfl).trans ((hA c 6).trans (V_main_arg3 m c)),
      (Pipeline.RDat.FramePost.arr_in h c 7 rfl).trans ((hA c 7).trans (V_main_arg4 m c)),
      (Pipeline.RDat.FramePost.arr_in h c 2 rfl).trans ((hA c 2).trans (V_main_arg5 m c)),
      (Pipeline.RDat.FramePost.arr_in h c 8 rfl).trans ((hA c 8).trans (V_main_arg6 m c)),
      ((h c).2 main_arg7 (Pipeline.mem_restRefs_of main_arg7 (by decide) (by decide))).trans (V_main_arg7 m c),
      (Pipeline.RDat.FramePost.arr_in h c 10 rfl).trans ((hA c 10).trans (V_main_arg8 m c)),
      (Pipeline.RDat.FramePost.arr_in h c 11 rfl).trans ((hA c 11).trans (V_main_arg9 m c)),
      (Pipeline.RDat.FramePost.arr_in h c 12 rfl).trans ((hA c 12).trans (V_main_arg10 m c)),
      (Pipeline.RDat.FramePost.arr_in h c 3 rfl).trans ((hA c 3).trans (V_main_arg11 m c)),
      (Pipeline.RDat.FramePost.arr_in h c 13 rfl).trans ((hA c 13).trans (V_main_arg12 m c)),
      ((h c).2 main_arg13 (Pipeline.mem_restRefs_of main_arg13 (by decide) (by decide))).trans (V_main_arg13 m c),
      (Pipeline.RDat.FramePost.arr_in h c 4 rfl).trans ((hA c 4).trans (V_main_arg14 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, k0_cond1, e0]
    word_cmp
   : ∀ t : Fin grid0.N, cond0_0 (grid0.coords t) ↔ t.val % 28 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an output stored at every point, under no condition). -/
theorem liveAt0_15 : ∀ t : Fin cfg0.N, cfg0.idle 15 (grid0.coords t) = false := fun _ => rfl
/-- Window 16 is never idle (an output stored at every point, under no condition). -/
theorem liveAt0_16 : ∀ t : Fin cfg0.N, cfg0.idle 16 (grid0.coords t) = false := fun _ => rfl
/-- Window 17 is never idle (an output stored at every point, under no condition). -/
theorem liveAt0_17 : ∀ t : Fin cfg0.N, cfg0.idle 17 (grid0.coords t) = false := fun _ => rfl
/-- Window 18 is never idle (an output stored at every point, under no condition). -/
theorem liveAt0_18 : ∀ t : Fin cfg0.N, cfg0.idle 18 (grid0.coords t) = false := fun _ => rfl
/-- Window 19 is never idle (an output stored at every point, under no condition). -/
theorem liveAt0_19 : ∀ t : Fin cfg0.N, cfg0.idle 19 (grid0.coords t) = false := fun _ => rfl
/-- Window 22 is never idle (an output stored at every point, under no condition). -/
theorem liveAt0_22 : ∀ t : Fin cfg0.N, cfg0.idle 22 (grid0.coords t) = false := fun _ => rfl
/-! ## The kernel body on any staging memrefs: a subtype the run finds -/

/-- One staging buffer of output window 15, through which its contents are stated (`View.read_writes_of_cover`: the
    choice does not matter). -/
abbrev VO0_15 : View sig .tc .vmem S256x512 .f32 := (Memref.whole cc0_stg15_0 : Memref sig .tc .vmem S256x512 .f32).view
/-- One staging buffer of output window 16, through which its contents are stated (`View.read_writes_of_cover`: the
    choice does not matter). -/
abbrev VO0_16 : View sig .tc .vmem S256x512 .f32 := (Memref.whole cc0_stg16_0 : Memref sig .tc .vmem S256x512 .f32).view
/-- One staging buffer of output window 17, through which its contents are stated (`View.read_writes_of_cover`: the
    choice does not matter). -/
abbrev VO0_17 : View sig .tc .vmem S256x512 .bf16 := (Memref.whole cc0_stg17_0 : Memref sig .tc .vmem S256x512 .bf16).view
/-- One staging buffer of output window 18, through which its contents are stated (`View.read_writes_of_cover`: the
    choice does not matter). -/
abbrev VO0_18 : View sig .tc .vmem S1x512 .f32 := (Memref.whole cc0_stg18_0 : Memref sig .tc .vmem S1x512 .f32).view
/-- One staging buffer of output window 19, through which its contents are stated (`View.read_writes_of_cover`: the
    choice does not matter). -/
abbrev VO0_19 : View sig .tc .vmem S1x512 .f32 := (Memref.whole cc0_stg19_0 : Memref sig .tc .vmem S1x512 .f32).view
/-- One staging buffer of output window 22, through which its contents are stated (`View.read_writes_of_cover`: the
    choice does not matter). -/
abbrev VO0_22 : View sig .tc .vmem S256x32 .f32 := (Memref.whole cc0_stg22_0 : Memref sig .tc .vmem S256x32 .f32).view
/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x64 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x32 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x2048 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x64 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x64 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x32 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x512 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x512 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x512 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x512 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x512 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x4096 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S256x64 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S256x32 .f32 := win0_22.stage (cfg0.slots t 22)
abbrev hs0_22 (t : Fin cfg0.N) : (ms0_22 t).IsWhole := hstage0_22 ((cfg0.slots t 22).cast nbuf0_22)
/-- The scratch operands: whole scoped buffers of the kernel's own, passed beside the windows. -/
abbrev scM0_0 : Memref sig .tc .vmem S256x4096 .bf16 := Memref.whole cc0_scratch0
abbrev scM0_1 : Memref sig .tc .vmem S32x4096 .bf16 := Memref.whole cc0_scratch1
abbrev scM0_2 : Memref sig .tc .vmem S32x4096 .bf16 := Memref.whole cc0_scratch2
abbrev scM0_3 : Memref sig .tc .vmem S352x32 .bf16 := Memref.whole cc0_scratch3
abbrev scM0_4 : Memref sig .tc .vmem S352x32 .bf16 := Memref.whole cc0_scratch4
abbrev scM0_5 : Memref sig .tc .vmem S64x512 .f32 := Memref.whole cc0_scratch5
abbrev scM0_6 : Memref sig .tc .vmem S64x512 .f32 := Memref.whole cc0_scratch6
abbrev scM0_7 : Memref sig .tc .vmem S64x512 .f32 := Memref.whole cc0_scratch7
abbrev scM0_8 : Memref sig .tc .vmem S64x512 .f32 := Memref.whole cc0_scratch8
/-- The scratch `arg24` the kernel carries between points, as a view: what it holds is stated through it. -/
abbrev VS0_0 : View sig .tc .vmem S256x4096 .bf16 := scM0_0.view
/-- The scratch `arg25` the kernel carries between points, as a view: what it holds is stated through it. -/
abbrev VS0_1 : View sig .tc .vmem S32x4096 .bf16 := scM0_1.view
/-- The scratch `arg26` the kernel carries between points, as a view: what it holds is stated through it. -/
abbrev VS0_2 : View sig .tc .vmem S32x4096 .bf16 := scM0_2.view
/-- The scratch `arg27` the kernel carries between points, as a view: what it holds is stated through it. -/
abbrev VS0_3 : View sig .tc .vmem S352x32 .bf16 := scM0_3.view
/-- The scratch `arg28` the kernel carries between points, as a view: what it holds is stated through it. -/
abbrev VS0_4 : View sig .tc .vmem S352x32 .bf16 := scM0_4.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.Kernel.Hand

end
-- ==== Proof.Bits.RunA.lean ====
/- The kernel's body at the first grid point: its triple, with the pieces that each buffer ends with. -/
module

public import proofs.«01_k».proof.Proof.Bits.Runs

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5792000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (20, 21) at anything, handed back at some contents nothing names. -/
noncomputable def kernelRun0_A (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S32x4096 .bf16) (harg3 : arg3.IsWhole) (arg4 : Memref sig .tc .vmem S32x4096 .bf16) (harg4 : arg4.IsWhole) (arg5 : Memref sig .tc .vmem S32x512 .bf16) (harg5 : arg5.IsWhole) (arg6 : Memref sig .tc .vmem S512x2048 .i8) (harg6 : arg6.IsWhole) (arg7 : Memref sig .tc .vmem S512x64 .bf16) (harg7 : arg7.IsWhole) (arg8 : Memref sig .tc .vmem S512x64 .bf16) (harg8 : arg8.IsWhole) (arg9 : Memref sig .tc .vmem S512x32 .bf16) (harg9 : arg9.IsWhole) (arg10 : Memref sig .tc .vmem S1x512 .f32) (harg10 : arg10.IsWhole) (arg11 : Memref sig .tc .vmem S512x2048 .i8) (harg11 : arg11.IsWhole) (arg12 : Memref sig .tc .vmem S512x64 .bf16) (harg12 : arg12.IsWhole) (arg13 : Memref sig .tc .vmem S512x64 .bf16) (harg13 : arg13.IsWhole) (arg14 : Memref sig .tc .vmem S512x32 .bf16) (harg14 : arg14.IsWhole) (arg15 : Memref sig .tc .vmem S1x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .bf16) (harg18 : arg18.IsWhole) (arg19 : Memref sig .tc .vmem S1x512 .f32) (harg19 : arg19.IsWhole) (arg20 : Memref sig .tc .vmem S1x512 .f32) (harg20 : arg20.IsWhole) (arg21 : Memref sig .tc .vmem S256x4096 .bf16) (harg21 : arg21.IsWhole) (arg22 : Memref sig .tc .vmem S256x64 .bf16) (harg22 : arg22.IsWhole) (arg23 : Memref sig .tc .vmem S256x32 .f32) (harg23 : arg23.IsWhole) (arg24 : Memref sig .tc .vmem S256x4096 .bf16) (harg24 : arg24.IsWhole) (arg25 : Memref sig .tc .vmem S32x4096 .bf16) (harg25 : arg25.IsWhole) (arg26 : Memref sig .tc .vmem S32x4096 .bf16) (harg26 : arg26.IsWhole) (arg27 : Memref sig .tc .vmem S352x32 .bf16) (harg27 : arg27.IsWhole) (arg28 : Memref sig .tc .vmem S352x32 .bf16) (harg28 : arg28.IsWhole) (arg29 : Memref sig .tc .vmem S64x512 .f32) (harg29 : arg29.IsWhole) (arg30 : Memref sig .tc .vmem S64x512 .f32) (harg30 : arg30.IsWhole) (arg31 : Memref sig .tc .vmem S64x512 .f32) (harg31 : arg31.IsWhole) (arg32 : Memref sig .tc .vmem S64x512 .f32) (harg32 : arg32.IsWhole) (hc0 : cond0_0 i)
    (x0 : Vec F S256x4096 .bf16) (x1 : Vec F S1x4096 .f32) (x2 : Vec F S32x4096 .bf16) (x3 : Vec F S32x4096 .bf16) (x4 : Vec F S32x512 .bf16) (x5 : Vec F S512x2048 .i8) (x6 : Vec F S512x64 .bf16) (x7 : Vec F S512x64 .bf16) (x8 : Vec F S512x32 .bf16) (x9 : Vec F S1x512 .f32) (x10 : Vec F S512x2048 .i8) (x11 : Vec F S512x64 .bf16) (x12 : Vec F S512x64 .bf16) (x13 : Vec F S512x32 .bf16) (x14 : Vec F S1x512 .f32) :
    Σ' (L15 : List (View.Piece (Elt F) S256x512 .f32)), Σ' (L16 : List (View.Piece (Elt F) S256x512 .f32)), Σ' (L17 : List (View.Piece (Elt F) S256x512 .bf16)), Σ' (L18 : List (View.Piece (Elt F) S1x512 .f32)), Σ' (L19 : List (View.Piece (Elt F) S1x512 .f32)), Σ' (L22 : List (View.Piece (Elt F) S256x32 .f32)), Σ' (LS0 : List (View.Piece (Elt F) S256x4096 .bf16)), Σ' (LS1 : List (View.Piece (Elt F) S32x4096 .bf16)), Σ' (LS2 : List (View.Piece (Elt F) S32x4096 .bf16)), Σ' (LS3 : List (View.Piece (Elt F) S352x32 .bf16)), Σ' (LS4 : List (View.Piece (Elt F) S352x32 .bf16)), Σ' (LT5 : List (View.Piece (Elt F) S64x512 .f32)), Σ' (LT6 : List (View.Piece (Elt F) S64x512 .f32)), Σ' (LT7 : List (View.Piece (Elt F) S64x512 .f32)), { LT8 : List (View.Piece (Elt F) S64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ d, owns (c : Thread nD τ) arg21 fullShare d) ∗ (∃ d, owns (c : Thread nD τ) arg22 fullShare d) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1) ∗ (∃ f, arg26.view.loc (c : Thread nD τ) ↦[arg26.view.set]{fullShare} arg26.view.writes (Elt F) f LS2) ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4) ∗ (∃ f, arg29.view.loc (c : Thread nD τ) ↦[arg29.view.set]{fullShare} arg29.view.writes (Elt F) f LT5) ∗ (∃ f, arg30.view.loc (c : Thread nD τ) ↦[arg30.view.set]{fullShare} arg30.view.writes (Elt F) f LT6) ∗ (∃ f, arg31.view.loc (c : Thread nD τ) ↦[arg31.view.set]{fullShare} arg31.view.writes (Elt F) f LT7) ∗ (∃ f, arg32.view.loc (c : Thread nD τ) ↦[arg32.view.set]{fullShare} arg32.view.writes (Elt F) f LT8)) -∗ K ⟨⟩))
          ⊢ wp frame (wpE (defs₀ (F := F)) Variants.none c none) E (cc0_gate_up_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, ?_, ?_, ?_, ?_, ?_, ?_, ?_, ?_, ?_, fun E K => ?run⟩
  case run =>
    simp only [cc0_gate_up_fwd_eq_skeleton]; unfold cc0_gate_up_fwd_skel
    simp only [k0_part251_eq_skeleton, k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part252_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part253_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part254_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]
    · iexists _, _; isplitr; swap; · iexact H20
      ipureintro; rfl
    isplitl [H21]
    · iexists _, _; isplitr; swap; · iexact H21
      ipureintro; rfl
    isplitl [H22]; · iexists _; iexact H22
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.Kernel.Hand

end
-- ==== Proof.Bits.RunB.lean ====
/- The kernel's body at a later grid point: its triple, with the pieces that each buffer ends with. -/
module

public import proofs.«01_k».proof.Proof.Bits.RunA

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5644000 in
/-- What the body's stores leave in each output's staging memref, as pieces (last first) IN CASE B (`scf.if` 0 not taken: points 1, 2, … 27: 27 of 28), WITH the
    proof that on whole staging memrefs — the inputs' at their contents, the outputs it reads before covering (22) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (20, 21) at anything, handed back at some contents nothing names. -/
noncomputable def kernelRun0_B (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S32x4096 .bf16) (harg3 : arg3.IsWhole) (arg4 : Memref sig .tc .vmem S32x4096 .bf16) (harg4 : arg4.IsWhole) (arg5 : Memref sig .tc .vmem S32x512 .bf16) (harg5 : arg5.IsWhole) (arg6 : Memref sig .tc .vmem S512x2048 .i8) (harg6 : arg6.IsWhole) (arg7 : Memref sig .tc .vmem S512x64 .bf16) (harg7 : arg7.IsWhole) (arg8 : Memref sig .tc .vmem S512x64 .bf16) (harg8 : arg8.IsWhole) (arg9 : Memref sig .tc .vmem S512x32 .bf16) (harg9 : arg9.IsWhole) (arg10 : Memref sig .tc .vmem S1x512 .f32) (harg10 : arg10.IsWhole) (arg11 : Memref sig .tc .vmem S512x2048 .i8) (harg11 : arg11.IsWhole) (arg12 : Memref sig .tc .vmem S512x64 .bf16) (harg12 : arg12.IsWhole) (arg13 : Memref sig .tc .vmem S512x64 .bf16) (harg13 : arg13.IsWhole) (arg14 : Memref sig .tc .vmem S512x32 .bf16) (harg14 : arg14.IsWhole) (arg15 : Memref sig .tc .vmem S1x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .bf16) (harg18 : arg18.IsWhole) (arg19 : Memref sig .tc .vmem S1x512 .f32) (harg19 : arg19.IsWhole) (arg20 : Memref sig .tc .vmem S1x512 .f32) (harg20 : arg20.IsWhole) (arg21 : Memref sig .tc .vmem S256x4096 .bf16) (harg21 : arg21.IsWhole) (arg22 : Memref sig .tc .vmem S256x64 .bf16) (harg22 : arg22.IsWhole) (arg23 : Memref sig .tc .vmem S256x32 .f32) (harg23 : arg23.IsWhole) (arg24 : Memref sig .tc .vmem S256x4096 .bf16) (harg24 : arg24.IsWhole) (arg25 : Memref sig .tc .vmem S32x4096 .bf16) (harg25 : arg25.IsWhole) (arg26 : Memref sig .tc .vmem S32x4096 .bf16) (harg26 : arg26.IsWhole) (arg27 : Memref sig .tc .vmem S352x32 .bf16) (harg27 : arg27.IsWhole) (arg28 : Memref sig .tc .vmem S352x32 .bf16) (harg28 : arg28.IsWhole) (arg29 : Memref sig .tc .vmem S64x512 .f32) (harg29 : arg29.IsWhole) (arg30 : Memref sig .tc .vmem S64x512 .f32) (harg30 : arg30.IsWhole) (arg31 : Memref sig .tc .vmem S64x512 .f32) (harg31 : arg31.IsWhole) (arg32 : Memref sig .tc .vmem S64x512 .f32) (harg32 : arg32.IsWhole) (hc0 : ¬cond0_0 i)
    (x0 : Vec F S256x4096 .bf16) (x1 : Vec F S1x4096 .f32) (x2 : Vec F S32x4096 .bf16) (x3 : Vec F S32x4096 .bf16) (x4 : Vec F S32x512 .bf16) (x5 : Vec F S512x2048 .i8) (x6 : Vec F S512x64 .bf16) (x7 : Vec F S512x64 .bf16) (x8 : Vec F S512x32 .bf16) (x9 : Vec F S1x512 .f32) (x10 : Vec F S512x2048 .i8) (x11 : Vec F S512x64 .bf16) (x12 : Vec F S512x64 .bf16) (x13 : Vec F S512x32 .bf16) (x14 : Vec F S1x512 .f32) (xo22 : Vec F S256x32 .f32) (xs0 : Vec F S256x4096 .bf16) (xs1 : Vec F S32x4096 .bf16) (xs2 : Vec F S32x4096 .bf16) (xs3 : Vec F S352x32 .bf16) (xs4 : Vec F S352x32 .bf16) :
    Σ' (L15 : List (View.Piece (Elt F) S256x512 .f32)), Σ' (L16 : List (View.Piece (Elt F) S256x512 .f32)), Σ' (L17 : List (View.Piece (Elt F) S256x512 .bf16)), Σ' (L18 : List (View.Piece (Elt F) S1x512 .f32)), Σ' (L19 : List (View.Piece (Elt F) S1x512 .f32)), Σ' (L22 : List (View.Piece (Elt F) S256x32 .f32)), Σ' (LS0 : List (View.Piece (Elt F) S256x4096 .bf16)), Σ' (LS1 : List (View.Piece (Elt F) S32x4096 .bf16)), Σ' (LS2 : List (View.Piece (Elt F) S32x4096 .bf16)), Σ' (LS3 : List (View.Piece (Elt F) S352x32 .bf16)), Σ' (LS4 : List (View.Piece (Elt F) S352x32 .bf16)), Σ' (LT5 : List (View.Piece (Elt F) S64x512 .f32)), Σ' (LT6 : List (View.Piece (Elt F) S64x512 .f32)), Σ' (LT7 : List (View.Piece (Elt F) S64x512 .f32)), { LT8 : List (View.Piece (Elt F) S64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xo22 ∗ owns (c : Thread nD τ) arg24 fullShare xs0 ∗ owns (c : Thread nD τ) arg25 fullShare xs1 ∗ owns (c : Thread nD τ) arg26 fullShare xs2 ∗ owns (c : Thread nD τ) arg27 fullShare xs3 ∗ owns (c : Thread nD τ) arg28 fullShare xs4 ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ d, owns (c : Thread nD τ) arg21 fullShare d) ∗ (∃ d, owns (c : Thread nD τ) arg22 fullShare d) ∗ (∃ f, arg23.view.loc (c : Thread nD τ) ↦[arg23.view.set]{fullShare} arg23.view.writes (Elt F) f L22) ∗ owns (c : Thread nD τ) arg24 fullShare xs0 ∗ owns (c : Thread nD τ) arg25 fullShare xs1 ∗ owns (c : Thread nD τ) arg26 fullShare xs2 ∗ owns (c : Thread nD τ) arg27 fullShare xs3 ∗ owns (c : Thread nD τ) arg28 fullShare xs4 ∗ (∃ f, arg29.view.loc (c : Thread nD τ) ↦[arg29.view.set]{fullShare} arg29.view.writes (Elt F) f LT5) ∗ (∃ f, arg30.view.loc (c : Thread nD τ) ↦[arg30.view.set]{fullShare} arg30.view.writes (Elt F) f LT6) ∗ (∃ f, arg31.view.loc (c : Thread nD τ) ↦[arg31.view.set]{fullShare} arg31.view.writes (Elt F) f LT7) ∗ (∃ f, arg32.view.loc (c : Thread nD τ) ↦[arg32.view.set]{fullShare} arg32.view.writes (Elt F) f LT8)) -∗ K ⟨⟩))
          ⊢ wp frame (wpE (defs₀ (F := F)) Variants.none c none) E (cc0_gate_up_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, [], [], [], [], [], ?_, ?_, ?_, ?_, fun E K => ?run⟩
  case run =>
    simp only [cc0_gate_up_fwd_eq_skeleton]; unfold cc0_gate_up_fwd_skel
    simp only [k0_part251_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part252_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part253_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part254_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%fs0, %hfs0, HS0⟩, ⟨%fs1, %hfs1, HS1⟩, ⟨%fs2, %hfs2, HS2⟩, ⟨%fs3, %hfs3, HS3⟩, ⟨%fs4, %hfs4, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg23.eq_unread hf22; obtain rfl := harg24.eq_unread hfs0; obtain rfl := harg25.eq_unread hfs1; obtain rfl := harg26.eq_unread hfs2; obtain rfl := harg27.eq_unread hfs3; obtain rfl := harg28.eq_unread hfs4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]
    · iexists _, _; isplitr; swap; · iexact H20
      ipureintro; rfl
    isplitl [H21]
    · iexists _, _; isplitr; swap; · iexact H21
      ipureintro; rfl
    isplitl [H22]; · iexists _; iexact H22
    isplitl [HS0]
    · iexists _; isplitr; · ipureintro; exact harg24.read_unread _
      iexact HS0
    isplitl [HS1]
    · iexists _; isplitr; · ipureintro; exact harg25.read_unread _
      iexact HS1
    isplitl [HS2]
    · iexists _; isplitr; · ipureintro; exact harg26.read_unread _
      iexact HS2
    isplitl [HS3]
    · iexists _; isplitr; · ipureintro; exact harg27.read_unread _
      iexact HS3
    isplitl [HS4]
    · iexists _; isplitr; · ipureintro; exact harg28.read_unread _
      iexact HS4
    isplitl [HS5]; · iexists _; iexact HS5
    isplitl [HS6]; · iexists _; iexact HS6
    isplitl [HS7]; · iexists _; iexact HS7
    iexists _; iexact HS8

end Cert.Kernel.Hand

end
-- ==== Proof.Bits.Outs.lean ====
/- What each output and each scratch buffer holds after each grid point, and the invariant between the points. -/
module

public import proofs.«01_k».proof.Proof.Bits.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's run, on the blocks that it reads. -/
abbrev runA (c : Dev nD) (t : Fin cfg0.N) (hc0 : cond0_0 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) hc0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- A later point's run, on the blocks that it reads. -/
abbrev runB (c : Dev nD) (t : Fin cfg0.N) (hc0 : ¬cond0_0 (grid0.coords t)) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) hc0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- Case A's pieces for output 15 tile its block (2 stores of `S256x256`, checked by the kernel's evaluation: Lib/Ring.lean `Piece.tiledL`, linear in the pieces, through a loop's `@[irreducible]` trip theorem too), so they cover it. -/
theorem cover0_A_15 (c : Dev nD) (t : Fin cfg0.N) (hc0 : cond0_0 (grid0.coords t)) (y : S256x512.Idx) :
    ∃ pc ∈ (runA m c t hc0).1, y ∈ pc.1.set :=
  View.cover_of_tiledL (runA m c t hc0).1 S256x256.size (by sl_kernel_rfl) y

/-- What case A leaves in output 15's staging buffer: its pieces read back over junk. -/
def out0_A_15 (c : Dev nD) (t : Fin cfg0.N) (hc0 : cond0_0 (grid0.coords t)) : Vec F S256x512 .f32 :=
  VO0_15.read (Elt F) (VO0_15.writes (Elt F) VO0_15.junk (runA m c t hc0).1)

/-- Case A's pieces for output 16 tile its block (2 stores of `S256x256`, checked by the kernel's evaluation: Lib/Ring.lean `Piece.tiledL`, linear in the pieces, through a loop's `@[irreducible]` trip theorem too), so they cover it. -/
theorem cover0_A_16 (c : Dev nD) (t : Fin cfg0.N) (hc0 : cond0_0 (grid0.coords t)) (y : S256x512.Idx) :
    ∃ pc ∈ (runA m c t hc0).2.1, y ∈ pc.1.set :=
  View.cover_of_tiledL (runA m c t hc0).2.1 S256x256.size (by sl_kernel_rfl) y

/-- What case A leaves in output 16's staging buffer: its pieces read back over junk. -/
def out0_A_16 (c : Dev nD) (t : Fin cfg0.N) (hc0 : cond0_0 (grid0.coords t)) : Vec F S256x512 .f32 :=
  VO0_16.read (Elt F) (VO0_16.writes (Elt F) VO0_16.junk (runA m c t hc0).2.1)

/-- Case A's pieces for output 17 tile its block (2 stores of `S256x256`, checked by the kernel's evaluation: Lib/Ring.lean `Piece.tiledL`, linear in the pieces, through a loop's `@[irreducible]` trip theorem too), so they cover it. -/
theorem cover0_A_17 (c : Dev nD) (t : Fin cfg0.N) (hc0 : cond0_0 (grid0.coords t)) (y : S256x512.Idx) :
    ∃ pc ∈ (runA m c t hc0).2.2.1, y ∈ pc.1.set :=
  View.cover_of_tiledL (runA m c t hc0).2.2.1 S256x256.size (by sl_kernel_rfl) y

/-- What case A leaves in output 17's staging buffer: its pieces read back over junk. -/
def out0_A_17 (c : Dev nD) (t : Fin cfg0.N) (hc0 : cond0_0 (grid0.coords t)) : Vec F S256x512 .bf16 :=
  VO0_17.read (Elt F) (VO0_17.writes (Elt F) VO0_17.junk (runA m c t hc0).2.2.1)

/-- Case A's pieces for output 18 tile its block (2 stores of `S1x256`, checked by the kernel's evaluation: Lib/Ring.lean `Piece.tiledL`, linear in the pieces, through a loop's `@[irreducible]` trip theorem too), so they cover it. -/
theorem cover0_A_18 (c : Dev nD) (t : Fin cfg0.N) (hc0 : cond0_0 (grid0.coords t)) (y : S1x512.Idx) :
    ∃ pc ∈ (runA m c t hc0).2.2.2.1, y ∈ pc.1.set :=
  View.cover_of_tiledL (runA m c t hc0).2.2.2.1 S1x256.size (by sl_kernel_rfl) y

/-- What case A leaves in output 18's staging buffer: its pieces read back over junk. -/
def out0_A_18 (c : Dev nD) (t : Fin cfg0.N) (hc0 : cond0_0 (grid0.coords t)) : Vec F S1x512 .f32 :=
  VO0_18.read (Elt F) (VO0_18.writes (Elt F) VO0_18.junk (runA m c t hc0).2.2.2.1)

/-- Case A's pieces for output 19 tile its block (2 stores of `S1x256`, checked by the kernel's evaluation: Lib/Ring.lean `Piece.tiledL`, linear in the pieces, through a loop's `@[irreducible]` trip theorem too), so they cover it. -/
theorem cover0_A_19 (c : Dev nD) (t : Fin cfg0.N) (hc0 : cond0_0 (grid0.coords t)) (y : S1x512.Idx) :
    ∃ pc ∈ (runA m c t hc0).2.2.2.2.1, y ∈ pc.1.set :=
  View.cover_of_tiledL (runA m c t hc0).2.2.2.2.1 S1x256.size (by sl_kernel_rfl) y

/-- What case A leaves in output 19's staging buffer: its pieces read back over junk. -/
def out0_A_19 (c : Dev nD) (t : Fin cfg0.N) (hc0 : cond0_0 (grid0.coords t)) : Vec F S1x512 .f32 :=
  VO0_19.read (Elt F) (VO0_19.writes (Elt F) VO0_19.junk (runA m c t hc0).2.2.2.2.1)

/-- Case A's pieces for output 22 tile its block (3 stores of `S256x32`, checked by the kernel's evaluation: Lib/Ring.lean `Piece.tiledL`, linear in the pieces, through a loop's `@[irreducible]` trip theorem too), so they cover it. -/
theorem cover0_A_22 (c : Dev nD) (t : Fin cfg0.N) (hc0 : cond0_0 (grid0.coords t)) (y : S256x32.Idx) :
    ∃ pc ∈ (runA m c t hc0).2.2.2.2.2.1, y ∈ pc.1.set :=
  View.cover_of_tiledL (runA m c t hc0).2.2.2.2.2.1 S256x32.size (by sl_kernel_rfl) y

/-- What case A leaves in output 22's staging buffer: its pieces read back over junk. -/
def out0_A_22 (c : Dev nD) (t : Fin cfg0.N) (hc0 : cond0_0 (grid0.coords t)) : Vec F S256x32 .f32 :=
  VO0_22.read (Elt F) (VO0_22.writes (Elt F) VO0_22.junk (runA m c t hc0).2.2.2.2.2.1)

/-- Case A's pieces for scratch `arg24`, which the kernel carries between points, cover it: 1 piece of `S256x4096` tiling it (Lib/Ring.lean `Piece.tiledL`). -/
theorem scover0_A_0 (c : Dev nD) (t : Fin cfg0.N) (hc0 : cond0_0 (grid0.coords t)) (y : S256x4096.Idx) :
    ∃ pc ∈ (runA m c t hc0).2.2.2.2.2.2.1, y ∈ pc.1.set :=
  View.cover_of_tiledL (runA m c t hc0).2.2.2.2.2.2.1 S256x4096.size (by sl_kernel_rfl) y

/-- What case A leaves in scratch `arg24`: its pieces read back over junk. -/
def sout0_A_0 (c : Dev nD) (t : Fin cfg0.N) (hc0 : cond0_0 (grid0.coords t)) : Vec F S256x4096 .bf16 :=
  VS0_0.read (Elt F) (VS0_0.writes (Elt F) VS0_0.junk (runA m c t hc0).2.2.2.2.2.2.1)

/-- Case A's pieces for scratch `arg25`, which the kernel carries between points, cover it: 1 piece of `S32x4096` tiling it (Lib/Ring.lean `Piece.tiledL`). -/
theorem scover0_A_1 (c : Dev nD) (t : Fin cfg0.N) (hc0 : cond0_0 (grid0.coords t)) (y : S32x4096.Idx) :
    ∃ pc ∈ (runA m c t hc0).2.2.2.2.2.2.2.1, y ∈ pc.1.set :=
  View.cover_of_tiledL (runA m c t hc0).2.2.2.2.2.2.2.1 S32x4096.size (by sl_kernel_rfl) y

/-- What case A leaves in scratch `arg25`: its pieces read back over junk. -/
def sout0_A_1 (c : Dev nD) (t : Fin cfg0.N) (hc0 : cond0_0 (grid0.coords t)) : Vec F S32x4096 .bf16 :=
  VS0_1.read (Elt F) (VS0_1.writes (Elt F) VS0_1.junk (runA m c t hc0).2.2.2.2.2.2.2.1)

/-- Case A's pieces for scratch `arg26`, which the kernel carries between points, cover it: 1 piece of `S32x4096` tiling it (Lib/Ring.lean `Piece.tiledL`). -/
theorem scover0_A_2 (c : Dev nD) (t : Fin cfg0.N) (hc0 : cond0_0 (grid0.coords t)) (y : S32x4096.Idx) :
    ∃ pc ∈ (runA m c t hc0).2.2.2.2.2.2.2.2.1, y ∈ pc.1.set :=
  View.cover_of_tiledL (runA m c t hc0).2.2.2.2.2.2.2.2.1 S32x4096.size (by sl_kernel_rfl) y

/-- What case A leaves in scratch `arg26`: its pieces read back over junk. -/
def sout0_A_2 (c : Dev nD) (t : Fin cfg0.N) (hc0 : cond0_0 (grid0.coords t)) : Vec F S32x4096 .bf16 :=
  VS0_2.read (Elt F) (VS0_2.writes (Elt F) VS0_2.junk (runA m c t hc0).2.2.2.2.2.2.2.2.1)

/-- Case A's pieces for scratch `arg27`, which the kernel carries between points, cover it: 1 piece of `S352x32` tiling it (Lib/Ring.lean `Piece.tiledL`). -/
theorem scover0_A_3 (c : Dev nD) (t : Fin cfg0.N) (hc0 : cond0_0 (grid0.coords t)) (y : S352x32.Idx) :
    ∃ pc ∈ (runA m c t hc0).2.2.2.2.2.2.2.2.2.1, y ∈ pc.1.set :=
  View.cover_of_tiledL (runA m c t hc0).2.2.2.2.2.2.2.2.2.1 S352x32.size (by sl_kernel_rfl) y

/-- What case A leaves in scratch `arg27`: its pieces read back over junk. -/
def sout0_A_3 (c : Dev nD) (t : Fin cfg0.N) (hc0 : cond0_0 (grid0.coords t)) : Vec F S352x32 .bf16 :=
  VS0_3.read (Elt F) (VS0_3.writes (Elt F) VS0_3.junk (runA m c t hc0).2.2.2.2.2.2.2.2.2.1)

/-- Case A's pieces for scratch `arg28`, which the kernel carries between points, cover it: 1 piece of `S352x32` tiling it (Lib/Ring.lean `Piece.tiledL`). -/
theorem scover0_A_4 (c : Dev nD) (t : Fin cfg0.N) (hc0 : cond0_0 (grid0.coords t)) (y : S352x32.Idx) :
    ∃ pc ∈ (runA m c t hc0).2.2.2.2.2.2.2.2.2.2.1, y ∈ pc.1.set :=
  View.cover_of_tiledL (runA m c t hc0).2.2.2.2.2.2.2.2.2.2.1 S352x32.size (by sl_kernel_rfl) y

/-- What case A leaves in scratch `arg28`: its pieces read back over junk. -/
def sout0_A_4 (c : Dev nD) (t : Fin cfg0.N) (hc0 : cond0_0 (grid0.coords t)) : Vec F S352x32 .bf16 :=
  VS0_4.read (Elt F) (VS0_4.writes (Elt F) VS0_4.junk (runA m c t hc0).2.2.2.2.2.2.2.2.2.2.1)

/-- Case B's pieces for output 15 tile its block (2 stores of `S256x256`, checked by the kernel's evaluation: Lib/Ring.lean `Piece.tiledL`, linear in the pieces, through a loop's `@[irreducible]` trip theorem too), so they cover it. -/
theorem cover0_B_15 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) (y : S256x512.Idx) :
    ∃ pc ∈ (runB m c t hc0 xo22 xs0 xs1 xs2 xs3 xs4).1, y ∈ pc.1.set :=
  View.cover_of_tiledL (runB m c t hc0 xo22 xs0 xs1 xs2 xs3 xs4).1 S256x256.size (by sl_kernel_rfl) y

/-- What case B leaves in output 15's staging buffer: its pieces read back over junk. -/
def out0_B_15 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S256x512 .f32 :=
  VO0_15.read (Elt F) (VO0_15.writes (Elt F) VO0_15.junk (runB m c t hc0 xo22 xs0 xs1 xs2 xs3 xs4).1)

/-- Case B's pieces for output 16 tile its block (2 stores of `S256x256`, checked by the kernel's evaluation: Lib/Ring.lean `Piece.tiledL`, linear in the pieces, through a loop's `@[irreducible]` trip theorem too), so they cover it. -/
theorem cover0_B_16 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) (y : S256x512.Idx) :
    ∃ pc ∈ (runB m c t hc0 xo22 xs0 xs1 xs2 xs3 xs4).2.1, y ∈ pc.1.set :=
  View.cover_of_tiledL (runB m c t hc0 xo22 xs0 xs1 xs2 xs3 xs4).2.1 S256x256.size (by sl_kernel_rfl) y

/-- What case B leaves in output 16's staging buffer: its pieces read back over junk. -/
def out0_B_16 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S256x512 .f32 :=
  VO0_16.read (Elt F) (VO0_16.writes (Elt F) VO0_16.junk (runB m c t hc0 xo22 xs0 xs1 xs2 xs3 xs4).2.1)

/-- Case B's pieces for output 17 tile its block (2 stores of `S256x256`, checked by the kernel's evaluation: Lib/Ring.lean `Piece.tiledL`, linear in the pieces, through a loop's `@[irreducible]` trip theorem too), so they cover it. -/
theorem cover0_B_17 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) (y : S256x512.Idx) :
    ∃ pc ∈ (runB m c t hc0 xo22 xs0 xs1 xs2 xs3 xs4).2.2.1, y ∈ pc.1.set :=
  View.cover_of_tiledL (runB m c t hc0 xo22 xs0 xs1 xs2 xs3 xs4).2.2.1 S256x256.size (by sl_kernel_rfl) y

/-- What case B leaves in output 17's staging buffer: its pieces read back over junk. -/
def out0_B_17 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S256x512 .bf16 :=
  VO0_17.read (Elt F) (VO0_17.writes (Elt F) VO0_17.junk (runB m c t hc0 xo22 xs0 xs1 xs2 xs3 xs4).2.2.1)

/-- Case B's pieces for output 18 tile its block (2 stores of `S1x256`, checked by the kernel's evaluation: Lib/Ring.lean `Piece.tiledL`, linear in the pieces, through a loop's `@[irreducible]` trip theorem too), so they cover it. -/
theorem cover0_B_18 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) (y : S1x512.Idx) :
    ∃ pc ∈ (runB m c t hc0 xo22 xs0 xs1 xs2 xs3 xs4).2.2.2.1, y ∈ pc.1.set :=
  View.cover_of_tiledL (runB m c t hc0 xo22 xs0 xs1 xs2 xs3 xs4).2.2.2.1 S1x256.size (by sl_kernel_rfl) y

/-- What case B leaves in output 18's staging buffer: its pieces read back over junk. -/
def out0_B_18 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S1x512 .f32 :=
  VO0_18.read (Elt F) (VO0_18.writes (Elt F) VO0_18.junk (runB m c t hc0 xo22 xs0 xs1 xs2 xs3 xs4).2.2.2.1)

/-- Case B's pieces for output 19 tile its block (2 stores of `S1x256`, checked by the kernel's evaluation: Lib/Ring.lean `Piece.tiledL`, linear in the pieces, through a loop's `@[irreducible]` trip theorem too), so they cover it. -/
theorem cover0_B_19 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) (y : S1x512.Idx) :
    ∃ pc ∈ (runB m c t hc0 xo22 xs0 xs1 xs2 xs3 xs4).2.2.2.2.1, y ∈ pc.1.set :=
  View.cover_of_tiledL (runB m c t hc0 xo22 xs0 xs1 xs2 xs3 xs4).2.2.2.2.1 S1x256.size (by sl_kernel_rfl) y

/-- What case B leaves in output 19's staging buffer: its pieces read back over junk. -/
def out0_B_19 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S1x512 .f32 :=
  VO0_19.read (Elt F) (VO0_19.writes (Elt F) VO0_19.junk (runB m c t hc0 xo22 xs0 xs1 xs2 xs3 xs4).2.2.2.2.1)

/-- Case B's pieces for output 22 tile its block (2 stores of `S256x32`, checked by the kernel's evaluation: Lib/Ring.lean `Piece.tiledL`, linear in the pieces, through a loop's `@[irreducible]` trip theorem too), so they cover it. -/
theorem cover0_B_22 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) (y : S256x32.Idx) :
    ∃ pc ∈ (runB m c t hc0 xo22 xs0 xs1 xs2 xs3 xs4).2.2.2.2.2.1, y ∈ pc.1.set :=
  View.cover_of_tiledL (runB m c t hc0 xo22 xs0 xs1 xs2 xs3 xs4).2.2.2.2.2.1 S256x32.size (by sl_kernel_rfl) y

/-- What case B leaves in output 22's staging buffer: its pieces read back over junk. -/
def out0_B_22 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S256x32 .f32 :=
  VO0_22.read (Elt F) (VO0_22.writes (Elt F) VO0_22.junk (runB m c t hc0 xo22 xs0 xs1 xs2 xs3 xs4).2.2.2.2.2.1)

/-- Case B stores nothing into scratch `arg24`: it holds what the point before left. -/
def sout0_B_0 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S256x4096 .bf16 := xs0

/-- Case B stores nothing into scratch `arg25`: it holds what the point before left. -/
def sout0_B_1 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S32x4096 .bf16 := xs1

/-- Case B stores nothing into scratch `arg26`: it holds what the point before left. -/
def sout0_B_2 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S32x4096 .bf16 := xs2

/-- Case B stores nothing into scratch `arg27`: it holds what the point before left. -/
def sout0_B_3 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S352x32 .bf16 := xs3

/-- Case B stores nothing into scratch `arg28`: it holds what the point before left. -/
def sout0_B_4 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S352x32 .bf16 := xs4

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x512 .f32 × Vec F S256x512 .f32 × Vec F S256x512 .bf16 × Vec F S1x512 .f32 × Vec F S1x512 .f32 × Vec F S256x32 .f32 × Vec F S256x4096 .bf16 × Vec F S32x4096 .bf16 × Vec F S32x4096 .bf16 × Vec F S352x32 .bf16 × Vec F S352x32 .bf16
  | 0, hn => (out0_A_15 m c ⟨0, hn⟩ ((hcond0_0 ⟨0, hn⟩).mpr (Nat.zero_mod _)), out0_A_16 m c ⟨0, hn⟩ ((hcond0_0 ⟨0, hn⟩).mpr (Nat.zero_mod _)), out0_A_17 m c ⟨0, hn⟩ ((hcond0_0 ⟨0, hn⟩).mpr (Nat.zero_mod _)), out0_A_18 m c ⟨0, hn⟩ ((hcond0_0 ⟨0, hn⟩).mpr (Nat.zero_mod _)), out0_A_19 m c ⟨0, hn⟩ ((hcond0_0 ⟨0, hn⟩).mpr (Nat.zero_mod _)), out0_A_22 m c ⟨0, hn⟩ ((hcond0_0 ⟨0, hn⟩).mpr (Nat.zero_mod _)), sout0_A_0 m c ⟨0, hn⟩ ((hcond0_0 ⟨0, hn⟩).mpr (Nat.zero_mod _)), sout0_A_1 m c ⟨0, hn⟩ ((hcond0_0 ⟨0, hn⟩).mpr (Nat.zero_mod _)), sout0_A_2 m c ⟨0, hn⟩ ((hcond0_0 ⟨0, hn⟩).mpr (Nat.zero_mod _)), sout0_A_3 m c ⟨0, hn⟩ ((hcond0_0 ⟨0, hn⟩).mpr (Nat.zero_mod _)), sout0_A_4 m c ⟨0, hn⟩ ((hcond0_0 ⟨0, hn⟩).mpr (Nat.zero_mod _)))
  | n + 1, hn =>
    if h0 : (n + 1) % 28 = 0 then
      (out0_A_15 m c ⟨n + 1, hn⟩ ((hcond0_0 ⟨n + 1, hn⟩).mpr h0), out0_A_16 m c ⟨n + 1, hn⟩ ((hcond0_0 ⟨n + 1, hn⟩).mpr h0), out0_A_17 m c ⟨n + 1, hn⟩ ((hcond0_0 ⟨n + 1, hn⟩).mpr h0), out0_A_18 m c ⟨n + 1, hn⟩ ((hcond0_0 ⟨n + 1, hn⟩).mpr h0), out0_A_19 m c ⟨n + 1, hn⟩ ((hcond0_0 ⟨n + 1, hn⟩).mpr h0), out0_A_22 m c ⟨n + 1, hn⟩ ((hcond0_0 ⟨n + 1, hn⟩).mpr h0), sout0_A_0 m c ⟨n + 1, hn⟩ ((hcond0_0 ⟨n + 1, hn⟩).mpr h0), sout0_A_1 m c ⟨n + 1, hn⟩ ((hcond0_0 ⟨n + 1, hn⟩).mpr h0), sout0_A_2 m c ⟨n + 1, hn⟩ ((hcond0_0 ⟨n + 1, hn⟩).mpr h0), sout0_A_3 m c ⟨n + 1, hn⟩ ((hcond0_0 ⟨n + 1, hn⟩).mpr h0), sout0_A_4 m c ⟨n + 1, hn⟩ ((hcond0_0 ⟨n + 1, hn⟩).mpr h0))
    else
      (out0_B_15 m c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_16 m c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_17 m c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_18 m c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_19 m c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_22 m c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_B_0 c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_B_1 c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_B_2 c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_B_3 c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_B_4 c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2)

/-- `outsAt0` at a point of case A: that case's contents. -/
theorem outsAt0_A (c : Dev nD) (t : Fin cfg0.N) (h0 : t.val % 28 = 0) :
    outsAt0 m c t.val t.isLt = (out0_A_15 m c t ((hcond0_0 t).mpr h0), out0_A_16 m c t ((hcond0_0 t).mpr h0), out0_A_17 m c t ((hcond0_0 t).mpr h0), out0_A_18 m c t ((hcond0_0 t).mpr h0), out0_A_19 m c t ((hcond0_0 t).mpr h0), out0_A_22 m c t ((hcond0_0 t).mpr h0), sout0_A_0 m c t ((hcond0_0 t).mpr h0), sout0_A_1 m c t ((hcond0_0 t).mpr h0), sout0_A_2 m c t ((hcond0_0 t).mpr h0), sout0_A_3 m c t ((hcond0_0 t).mpr h0), sout0_A_4 m c t ((hcond0_0 t).mpr h0)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 28 = 0) :
    outsAt0 m c t.val t.isLt = (out0_B_15 m c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_B_16 m c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_B_17 m c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_B_18 m c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_B_19 m c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_B_22 m c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, sout0_B_0 c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, sout0_B_1 c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, sout0_B_2 c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, sout0_B_3 c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, sout0_B_4 c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2.1) ∗ owns (c : Thread nD τ) scM0_3 fullShare ((outsAt0 m c n hn).2.2.2.2.2.2.2.2.2.1) ∗ owns (c : Thread nD τ) scM0_4 fullShare ((outsAt0 m c n hn).2.2.2.2.2.2.2.2.2.2) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2.1) ∗ owns (c : Thread nD τ) scM0_3 fullShare ((outsAt0 m c n hn).2.2.2.2.2.2.2.2.2.1) ∗ owns (c : Thread nD τ) scM0_4 fullShare ((outsAt0 m c n hn).2.2.2.2.2.2.2.2.2.2) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2.1) ∗ owns (c : Thread nD τ) scM0_2 fullShare ((outsAt0 m c (n - 1) (by omega)).2.2.2.2.2.2.2.2.1) ∗ owns (c : Thread nD τ) scM0_3 fullShare ((outsAt0 m c (n - 1) (by omega)).2.2.2.2.2.2.2.2.2.1) ∗ owns (c : Thread nD τ) scM0_4 fullShare ((outsAt0 m c (n - 1) (by omega)).2.2.2.2.2.2.2.2.2.2) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  cases n with
  | zero => exact absurd rfl hz
  | succ n => rfl

/-! ## The pipeline's proof data -/

/-- The output windows this certificate FORGETS (20, 21): nothing reads what the kernel leaves in them, so nothing
    of it is named (Lib/Pipeline/Dat.lean `Dat.toRForget`). -/
def forgets0 : Fin 23 → Bool := fun w => w.val == 20 || w.val == 21
theorem forgets0_15 : forgets0 (15 : Fin 23) = false := by decide
theorem forgets0_16 : forgets0 (16 : Fin 23) = false := by decide
theorem forgets0_17 : forgets0 (17 : Fin 23) = false := by decide
theorem forgets0_18 : forgets0 (18 : Fin 23) = false := by decide
theorem forgets0_19 : forgets0 (19 : Fin 23) = false := by decide
theorem forgets0_22 : forgets0 (22 : Fin 23) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2.1
    | ⟨17, _⟩ => (outsAt0 m c t.val t.isLt).2.2.1
    | ⟨18, _⟩ => (outsAt0 m c t.val t.isLt).2.2.2.1
    | ⟨19, _⟩ => (outsAt0 m c t.val t.isLt).2.2.2.2.1
    | ⟨20, h⟩ => Pipeline.Dat.unnamed (cfg := cfg0) ⟨20, h⟩ t
    | ⟨21, h⟩ => Pipeline.Dat.unnamed (cfg := cfg0) ⟨21, h⟩ t
    | ⟨22, _⟩ => (outsAt0 m c t.val t.isLt).2.2.2.2.2.1
    | ⟨_ + 23, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]
theorem after0_16 (c : Dev nD) (t : Fin cfg0.N) : (dats m 0 c).after 16 t = (outsAt0 m c t.val t.isLt).2.1 := by dsimp only [dats]
theorem after0_17 (c : Dev nD) (t : Fin cfg0.N) : (dats m 0 c).after 17 t = (outsAt0 m c t.val t.isLt).2.2.1 := by dsimp only [dats]
theorem after0_18 (c : Dev nD) (t : Fin cfg0.N) : (dats m 0 c).after 18 t = (outsAt0 m c t.val t.isLt).2.2.2.1 := by dsimp only [dats]
theorem after0_19 (c : Dev nD) (t : Fin cfg0.N) : (dats m 0 c).after 19 t = (outsAt0 m c t.val t.isLt).2.2.2.2.1 := by dsimp only [dats]
theorem after0_22 (c : Dev nD) (t : Fin cfg0.N) : (dats m 0 c).after 22 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
/-- At a point of case B output 22's current staging buffer holds what the body left at the point before: the point is
    not the first, the buffer was not written back between (`flush0_22`), the window is live and uncut (Lib/Pipeline/Frame.lean
    `Dat.before_out_kept`). -/
theorem before0_22_B (c : Dev nD) (t : Fin cfg0.N) (h0 : ¬t.val % 28 = 0) (d) :
    (dats m 0 c).before 22 t d = (outsAt0 m c (t.val - 1) (Nat.lt_of_le_of_lt (Nat.sub_le _ _) t.isLt)).2.2.2.2.2.1 := by
  have hN : t.val < 28 := lt_of_lt_of_eq t.isLt (show cfg0.N = 28 from N_0)
  rw [Dat.before_out_kept _ 22 rfl t (by omega) (Bool.eq_false_iff.mpr fun h => by have := (flush0_22 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare d)
    ∗ (∃ d, owns (c : Thread nD τ) (ms0_21 t) fullShare d)
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (∃ d, owns (c : Thread nD τ) (ms0_20 t) fullShare d)
    ∗ (∃ d, owns (c : Thread nD τ) (ms0_21 t) fullShare d)
    ∗ (dats m 0 c).leavesExact 22 t)

end Cert.Kernel.Hand

end
-- ==== Proof.Bits.Frame.lean ====
/- The kernel's frame: the body's obligation at every point, the run and the frame. -/
module

public import proofs.«01_k».proof.Proof.Bits.Outs
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun0_A kernelRun0_B

set_option maxHeartbeats 25600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ]
  have hN : t.val < 28 := lt_of_lt_of_eq t.isLt (show cfg0.N = 28 from N_0)
  by_cases h0 : t.val % 28 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    rw [show (dats m 0 c).leavesExact 16 t = owns (c : Thread nD τ) (ms0_16 t) fullShare ((dats m 0 c).after 16 t) from by
      unfold Dat.leavesExact; rw [liveAt0_16 t], after0_16]
    rw [show (dats m 0 c).leavesExact 17 t = owns (c : Thread nD τ) (ms0_17 t) fullShare ((dats m 0 c).after 17 t) from by
      unfold Dat.leavesExact; rw [liveAt0_17 t], after0_17]
    rw [show (dats m 0 c).leavesExact 18 t = owns (c : Thread nD τ) (ms0_18 t) fullShare ((dats m 0 c).after 18 t) from by
      unfold Dat.leavesExact; rw [liveAt0_18 t], after0_18]
    rw [show (dats m 0 c).leavesExact 19 t = owns (c : Thread nD τ) (ms0_19 t) fullShare ((dats m 0 c).after 19 t) from by
      unfold Dat.leavesExact; rw [liveAt0_19 t], after0_19]
    rw [show (dats m 0 c).leavesExact 22 t = owns (c : Thread nD τ) (ms0_22 t) fullShare ((dats m 0 c).after 22 t) from by
      unfold Dat.leavesExact; rw [liveAt0_22 t], after0_22]
    by_cases hz : t.val = 0
    · rw [PhiS_castSucc m c t, PhiS_zero m c _ _ hz, PhiA0_eq]
      rw [outsAt0_A m c t h0]
      unfold out0_A_15 out0_A_16 out0_A_17 out0_A_18 out0_A_19 out0_A_22 sout0_A_0 sout0_A_1 sout0_A_2 sout0_A_3 sout0_A_4 runA; (try dsimp only)
      iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((runA m c t ((hcond0_0 t).mpr h0)).2.2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iintro ⟨H0, H1, H2, H3, H4, H5, H6, H7, H8, H9, H10, H11, H12, H13, H14, ⟨%e15, H15⟩, ⟨%e16, H16⟩, ⟨%e17, H17⟩, ⟨%e18, H18⟩, ⟨%e19, H19⟩, H20, H21, ⟨%e22, H22⟩, ⟨%es0, HS0⟩, ⟨%es1, HS1⟩, ⟨%es2, HS2⟩, ⟨%es3, HS3⟩, ⟨%es4, HS4⟩, ⟨%fT5, HS5⟩, ⟨%fT6, HS6⟩, ⟨%fT7, HS7⟩, ⟨%fT8, HS8⟩⟩
      isplitl [HS0 HS1 HS2 HS3 HS4 HS5 HS6 HS7 HS8 Hg]
      · isplitl [HS0 HS1 HS2 HS3 HS4 HS5 HS6 HS7 HS8]
        · isplitl [HS0]
          · unfold owns; iexists _; isplitr
            swap; · iexact HS0
            ipureintro; exact View.read_writes_of_cover _ _ _ _ _ (scover0_A_0 m c t _)
          isplitl [HS1]
          · unfold owns; iexists _; isplitr
            swap; · iexact HS1
            ipureintro; exact View.read_writes_of_cover _ _ _ _ _ (scover0_A_1 m c t _)
          isplitl [HS2]
          · unfold owns; iexists _; isplitr
            swap; · iexact HS2
            ipureintro; exact View.read_writes_of_cover _ _ _ _ _ (scover0_A_2 m c t _)
          isplitl [HS3]
          · unfold owns; iexists _; isplitr
            swap; · iexact HS3
            ipureintro; exact View.read_writes_of_cover _ _ _ _ _ (scover0_A_3 m c t _)
          isplitl [HS4]
          · unfold owns; iexists _; isplitr
            swap; · iexact HS4
            ipureintro; exact View.read_writes_of_cover _ _ _ _ _ (scover0_A_4 m c t _)
          isplitl [HS5]
          · iexists _; unfold owns; iexists _; isplitr
            swap; · iexact HS5
            ipureintro; rfl
          isplitl [HS6]
          · iexists _; unfold owns; iexists _; isplitr
            swap; · iexact HS6
            ipureintro; rfl
          isplitl [HS7]
          · iexists _; unfold owns; iexists _; isplitr
            swap; · iexact HS7
            ipureintro; rfl
          iexists _; unfold owns; iexists _; isplitr
          swap; · iexact HS8
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact View.read_writes_of_cover _ _ _ _ _ (cover0_A_15 m c t _)
      isplitl [H16]
      · unfold owns; iexists _; isplitr
        swap; · iexact H16
        ipureintro; exact View.read_writes_of_cover _ _ _ _ _ (cover0_A_16 m c t _)
      isplitl [H17]
      · unfold owns; iexists _; isplitr
        swap; · iexact H17
        ipureintro; exact View.read_writes_of_cover _ _ _ _ _ (cover0_A_17 m c t _)
      isplitl [H18]
      · unfold owns; iexists _; isplitr
        swap; · iexact H18
        ipureintro; exact View.read_writes_of_cover _ _ _ _ _ (cover0_A_18 m c t _)
      isplitl [H19]
      · unfold owns; iexists _; isplitr
        swap; · iexact H19
        ipureintro; exact View.read_writes_of_cover _ _ _ _ _ (cover0_A_19 m c t _)
      isplitl [H20]; · iexact H20
      isplitl [H21]; · iexact H21
      unfold owns; iexists _; isplitr
      swap; · iexact H22
      ipureintro; exact View.read_writes_of_cover _ _ _ _ _ (cover0_A_22 m c t _)
    · exfalso; have hN : t.val < 28 := lt_of_lt_of_eq t.isLt (show cfg0.N = 28 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    rw [show (dats m 0 c).leavesExact 16 t = owns (c : Thread nD τ) (ms0_16 t) fullShare ((dats m 0 c).after 16 t) from by
      unfold Dat.leavesExact; rw [liveAt0_16 t], after0_16]
    rw [show (dats m 0 c).leavesExact 17 t = owns (c : Thread nD τ) (ms0_17 t) fullShare ((dats m 0 c).after 17 t) from by
      unfold Dat.leavesExact; rw [liveAt0_17 t], after0_17]
    rw [show (dats m 0 c).leavesExact 18 t = owns (c : Thread nD τ) (ms0_18 t) fullShare ((dats m 0 c).after 18 t) from by
      unfold Dat.leavesExact; rw [liveAt0_18 t], after0_18]
    rw [show (dats m 0 c).leavesExact 19 t = owns (c : Thread nD τ) (ms0_19 t) fullShare ((dats m 0 c).after 19 t) from by
      unfold Dat.leavesExact; rw [liveAt0_19 t], after0_19]
    rw [show (dats m 0 c).leavesExact 22 t = owns (c : Thread nD τ) (ms0_22 t) fullShare ((dats m 0 c).after 22 t) from by
      unfold Dat.leavesExact; rw [liveAt0_22 t], after0_22]
    by_cases hz : t.val = 0
    · exfalso; have hN : t.val < 28 := lt_of_lt_of_eq t.isLt (show cfg0.N = 28 from N_0); omega
    · rw [PhiS_castSucc m c t, PhiS_pos m c _ _ hz]
      rw [outsAt0_B m c t h0]
      simp only [before0_22_B m c t h0]
      unfold out0_B_15 out0_B_16 out0_B_17 out0_B_18 out0_B_19 out0_B_22 sout0_B_0 sout0_B_1 sout0_B_2 sout0_B_3 sout0_B_4 runB; (try dsimp only)
      iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((runB m c t (fun h => h0 ((hcond0_0 t).mp h)) _ _ _ _ _ _).2.2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexact H22
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iintro ⟨H0, H1, H2, H3, H4, H5, H6, H7, H8, H9, H10, H11, H12, H13, H14, ⟨%e15, H15⟩, ⟨%e16, H16⟩, ⟨%e17, H17⟩, ⟨%e18, H18⟩, ⟨%e19, H19⟩, H20, H21, ⟨%e22, H22⟩, HS0, HS1, HS2, HS3, HS4, ⟨%fT5, HS5⟩, ⟨%fT6, HS6⟩, ⟨%fT7, HS7⟩, ⟨%fT8, HS8⟩⟩
      isplitl [HS0 HS1 HS2 HS3 HS4 HS5 HS6 HS7 HS8 Hg]
      · isplitl [HS0 HS1 HS2 HS3 HS4 HS5 HS6 HS7 HS8]
        · isplitl [HS0]
          · iexact HS0
          isplitl [HS1]
          · iexact HS1
          isplitl [HS2]
          · iexact HS2
          isplitl [HS3]
          · iexact HS3
          isplitl [HS4]
          · iexact HS4
          isplitl [HS5]
          · iexists _; unfold owns; iexists _; isplitr
            swap; · iexact HS5
            ipureintro; rfl
          isplitl [HS6]
          · iexists _; unfold owns; iexists _; isplitr
            swap; · iexact HS6
            ipureintro; rfl
          isplitl [HS7]
          · iexists _; unfold owns; iexists _; isplitr
            swap; · iexact HS7
            ipureintro; rfl
          iexists _; unfold owns; iexists _; isplitr
          swap; · iexact HS8
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact View.read_writes_of_cover _ _ _ _ _ (cover0_B_15 m c t _ _ _ _ _ _ _)
      isplitl [H16]
      · unfold owns; iexists _; isplitr
        swap; · iexact H16
        ipureintro; exact View.read_writes_of_cover _ _ _ _ _ (cover0_B_16 m c t _ _ _ _ _ _ _)
      isplitl [H17]
      · unfold owns; iexists _; isplitr
        swap; · iexact H17
        ipureintro; exact View.read_writes_of_cover _ _ _ _ _ (cover0_B_17 m c t _ _ _ _ _ _ _)
      isplitl [H18]
      · unfold owns; iexists _; isplitr
        swap; · iexact H18
        ipureintro; exact View.read_writes_of_cover _ _ _ _ _ (cover0_B_18 m c t _ _ _ _ _ _ _)
      isplitl [H19]
      · unfold owns; iexists _; isplitr
        swap; · iexact H19
        ipureintro; exact View.read_writes_of_cover _ _ _ _ _ (cover0_B_19 m c t _ _ _ _ _ _ _)
      isplitl [H20]; · iexact H20
      isplitl [H21]; · iexact H21
      unfold owns; iexists _; isplitr
      swap; · iexact H22
      ipureintro; exact View.read_writes_of_cover _ _ _ _ _ (cover0_B_22 m c t _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8⟩, Hg⟩
  isplitl [HS0 HS1 HS2 HS3 HS4 HS5 HS6 HS7 HS8]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexact HS5
    isplitl [HS6]
    · iexact HS6
    isplitl [HS7]
    · iexact HS7
    iexact HS8
  iexact Hg

/-- The same after the last point. -/
theorem hout (c : Dev nD) : (dats m 0 c).Φ (Fin.last cfg0.N) ⊢ Pipeline.ΦA spec0 c :=
  Phi_out m c _ (by rw [Fin.val_last]; have : cfg0.N = 28 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 20, 21) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel.Hand

end
-- ==== Proof.Fwd.Spec.lean ====
/- What the results are, over the extended reals: each as a function of the argument arrays. -/
module

public import Idealize.ShloMosaic.Lib.Pointwise
public import Idealize.ShloMosaic.PureOps.Ideal.Laws

@[expose] public section

set_option maxRecDepth 16384

noncomputable section

namespace Cert.Fwd

open Idealize.ShloMosaic

/-- A weight from a high nibble: column data `c`, `s`, `z`. -/
def hiW (c : ℕ → BitVec 8) (s z : ℕ → EReal) (k : ℕ) : EReal :=
  (((((c k).toNat / 16 : ℕ) : ℝ) : EReal) - z (k / 64)) * s (k / 64)

/-- A weight from a low nibble. -/
def loW (c : ℕ → BitVec 8) (s z : ℕ → EReal) (k : ℕ) : EReal :=
  (((((c k).toNat % 16 : ℕ) : ℝ) : EReal) - z (32 + k / 64)) * s (32 + k / 64)

/-- A row times a column of weights. -/
def out (h : ℕ → EReal) (c : ℕ → BitVec 8) (s z : ℕ → EReal) (N : ℕ) : EReal :=
  (∑ k ∈ Finset.range N, h k * hiW c s z k) + ∑ k ∈ Finset.range N, h (2048 + k) * loW c s z k

/-- The squares of a column of weights, added. -/
def sumsq (c : ℕ → BitVec 8) (s z : ℕ → EReal) (N : ℕ) : EReal :=
  (∑ k ∈ Finset.range N, hiW c s z k * hiW c s z k) + ∑ k ∈ Finset.range N, loW c s z k * loW c s z k

/-- An array of extended reals of two axes. -/
abbrev Arr (m n : ℕ) : Type := (⟨2, ![m, n]⟩ : Shape).Idx → EReal

/-- An array of bytes of two axes. -/
abbrev Bytes (m n : ℕ) : Type := (⟨2, ![m, n]⟩ : Shape).Idx → BitVec 8

/-- An array of extended reals of one axis. -/
abbrev Line (n : ℕ) : Type := (⟨1, ![n]⟩ : Shape).Idx → EReal

/-- A row of an array, as a function of every natural number. -/
def row {m n : ℕ} (a : Arr m n) (o : Fin m) (k : ℕ) : EReal := if h : k < n then a (ix2 o ⟨k, h⟩) else 0

/-- A row of bytes, as a function of every natural number. -/
def rowB {m n : ℕ} (a : Bytes m n) (o : Fin m) (k : ℕ) : BitVec 8 := if h : k < n then a (ix2 o ⟨k, h⟩) else 0

theorem row_of_lt {m n : ℕ} (a : Arr m n) (o : Fin m) (k : ℕ) (h : k < n) : row a o k = a (ix2 o ⟨k, h⟩) := dif_pos h

theorem rowB_of_lt {m n : ℕ} (a : Bytes m n) (o : Fin m) (k : ℕ) (h : k < n) : rowB a o k = a (ix2 o ⟨k, h⟩) := dif_pos h

/-- The normalised input. -/
def hn (x : (⟨3, ![2, 128, 4096]⟩ : Shape).Idx → EReal) (nw : Line 4096) : Arr 256 4096 := fun i =>
  let xr : Fin 4096 → EReal := fun k => x (ix3 ⟨(i 0).val / 128, by have := (i 0).isLt; simp at this; omega⟩ ⟨(i 0).val % 128, by omega⟩ k)
  xr (i 1) * Ideal.div (Ideal.ofBits .f32 0x3F800000#32)
    (Ideal.sqrt (Ideal.div (∑ k : Fin 4096, xr k * xr k) (Ideal.ofBits .f32 0x45800000#32) + Ideal.ofBits .f32 0x3727C5AC#32))
    * nw (ix1 (i 1))

/-- The low-rank factor's products with itself. -/
def gram (a : Arr 32 4096) : Arr 32 32 := fun i => ∑ k : Fin 4096, a (ix2 (i 0) k) * a (ix2 (i 1) k)

/-- The input's products with the low-rank factor. -/
def tr (h : Arr 256 4096) (a : Arr 32 4096) : Arr 256 32 := fun i => ∑ k : Fin 4096, h (ix2 (i 0) k) * a (ix2 (i 1) k)

/-- The norm of output column `o`. -/
def norm (c : Bytes 14336 2048) (s z : Arr 14336 64) (a : Arr 32 4096) (b : Arr 14336 32) (o : Fin 14336) : EReal :=
  Ideal.sqrt (sumsq (rowB c o) (row s o) (row z o) 2048
    + Ideal.ofBits .f32 0x3FC00000#32
      * (∑ k : Fin 32, b (ix2 o k) * out (row a k) (rowB c o) (row s o) (row z o) 2048)
    + Ideal.ofBits .f32 0x3F100000#32
      * ∑ k : Fin 32, (∑ j : Fin 32, gram a (ix2 k j) * b (ix2 o j)) * b (ix2 o k))

/-- Output column `o` of row `r` before its magnitude. -/
def u (h : Arr 256 4096) (c : Bytes 14336 2048) (s z : Arr 14336 64) (a : Arr 32 4096) (b : Arr 14336 32)
    (r : Fin 256) (o : Fin 14336) : EReal :=
  out (row h r) (rowB c o) (row s o) (row z o) 2048
    + Ideal.ofBits .f32 0x3F400000#32 * ∑ k : Fin 32, tr h a (ix2 r k) * b (ix2 o k)

/-- Output column `o` of row `r`. -/
def y (h : Arr 256 4096) (c : Bytes 14336 2048) (s z : Arr 14336 64) (a : Arr 32 4096) (b : Arr 14336 32) (m : Line 14336)
    (r : Fin 256) (o : Fin 14336) : EReal :=
  Ideal.div (m (ix1 o)) (norm c s z a b o) * u h c s z a b r o

/-- The gated product of two outputs. -/
def gated (g v : EReal) : EReal := g * Ideal.logistic g * v

end Cert.Fwd
-- ==== Proof.Fwd.Ops.lean ====
/- The operations of one column tile of the kernel as definitions, and what each holds at an index over the
   extended reals. -/
module

public import proofs.«01_k».proof.Proof.Gen.KernelIdeal
public import Idealize.ShloMosaic.Lib.Pointwise
public import proofs.«01_k».proof.Proof.Fwd.Spec
public import Idealize.ShloMosaic.Lib.BitcastFour
public import Idealize.ShloMosaic.PureOps.Ideal.Laws

@[expose] public section

set_option maxRecDepth 16384

noncomputable section

namespace Cert.Fwd

open Cert.KernelIdeal Cert.KernelIdeal.Gen Idealize.ShloMosaic

variable {F : FTy → Type} [FloatOps F]

/-- A chunk of codes, transposed, four codes to a word. -/
def words (v : Vec F S256x128 .i8) : IVec S32x256 32 :=
  bitcast S32x256 32 (transpose S128x256 [1, 0] v transposes_S256x128_p1_0_S128x256)
    bitcasts_S128x256_w8_S32x256_w32

/-- The high nibbles of a chunk. -/
def qHi (v : Vec F S256x128 .i8) : FVec F S128x256 .bf16 :=
  uitofp .bf16 (bitcast S128x256 8 (andi (shrui (words (F := F) v) (broadcast S32x256 4#32)) (broadcast S32x256 252645135#32))
    bitcasts_S32x256_w32_S128x256_w8)

/-- The low nibbles of a chunk. -/
def qLo (v : Vec F S256x128 .i8) : FVec F S128x256 .bf16 :=
  uitofp .bf16 (bitcast S128x256 8 (andi (words (F := F) v) (broadcast S32x256 252645135#32))
    bitcasts_S32x256_w32_S128x256_w8)

/-- A row of a table, repeated for a group. -/
def rowT (z : Vec F S1x256 .f32) : FVec F S64x256 .bf16 :=
  truncf .bf16 (broadcastTo S64x256 (shapeCast S1x256 z shapeCasts_S1x256_S1x256) broadcasts_S1x256_S64x256)
    bitsLt_bf16_f32

/-- A chunk of weights from its nibbles and its two groups' zeros and scales. -/
def dq (q : FVec F S128x256 .bf16) (z0 s0 z1 s1 : Vec F S1x256 .f32) : FVec F S128x256 .bf16 :=
  concatenate S128x256 0
    [⟨S64x256, mulf (subf (extractStridedSlice S64x256 ![0, 0] q slices_S128x256_o0_0_S64x256) (rowT z0)) (rowT s0)⟩,
     ⟨S64x256, mulf (subf (extractStridedSlice S64x256 ![64, 0] q slices_S128x256_o64_0_S64x256) (rowT z1)) (rowT s1)⟩]
    concatenates_S64x256_S64x256_S128x256_d0

/-- A chunk's product. -/
def dotw (h : Vec F S256x128 .bf16) (a : Vec F S32x128 .bf16) (w : FVec F S128x256 .bf16) : FVec F S288x256 .f32 :=
  matmul dot_S288x128_S128x256_S288x256_1_0_0_1_n_n none
    (concatenate S288x128 0 [⟨S256x128, h⟩, ⟨S32x128, a⟩] concatenates_S256x128_S32x128_S288x128_d0) w
    (constant S288x256 .f32 0x00000000#32)

/-- The square of one slice of a chunk of weights. -/
def sq (o : Fin 2 → Nat) (w : FVec F S128x256 .bf16) (h : S128x256.Slices o S16x128) : FVec F S16x128 .f32 :=
  mulf (extf .f32 (extractStridedSlice S16x128 o w h) bitsLt_bf16_f32)
    (extf .f32 (extractStridedSlice S16x128 o w h) bitsLt_bf16_f32)

/-- A chunk's squares, added down to 16 rows. -/
def ssq (w : FVec F S128x256 .bf16) : FVec F S16x256 .f32 :=
  concatenate S16x256 1
    [⟨S16x128, addf (addf (addf (addf (addf (addf (addf (sq ![0, 0] w slices_S128x256_o0_0_S16x128)
        (sq ![16, 0] w slices_S128x256_o16_0_S16x128)) (sq ![32, 0] w slices_S128x256_o32_0_S16x128))
        (sq ![48, 0] w slices_S128x256_o48_0_S16x128)) (sq ![64, 0] w slices_S128x256_o64_0_S16x128))
        (sq ![80, 0] w slices_S128x256_o80_0_S16x128)) (sq ![96, 0] w slices_S128x256_o96_0_S16x128))
        (sq ![112, 0] w slices_S128x256_o112_0_S16x128)⟩,
     ⟨S16x128, addf (addf (addf (addf (addf (addf (addf (sq ![0, 128] w slices_S128x256_o0_128_S16x128)
        (sq ![16, 128] w slices_S128x256_o16_128_S16x128)) (sq ![32, 128] w slices_S128x256_o32_128_S16x128))
        (sq ![48, 128] w slices_S128x256_o48_128_S16x128)) (sq ![64, 128] w slices_S128x256_o64_128_S16x128))
        (sq ![80, 128] w slices_S128x256_o80_128_S16x128)) (sq ![96, 128] w slices_S128x256_o96_128_S16x128))
        (sq ![112, 128] w slices_S128x256_o112_128_S16x128)⟩]
    concatenates_S16x128_S16x128_S16x256_d1

/-! ### At an index -/

theorem hi_byte (a : BitVec 32) (b : BitVec 8) (p : ℕ) (hp : p < 4) (x : BitVec 8)
    (hx : ∀ q, q < 8 → x.getLsbD q = ((a >>> 4) &&& 252645135#32).getLsbD (8 * p + q))
    (hb : ∀ q, q < 8 → b.getLsbD q = a.getLsbD (8 * p + q)) : x = b >>> 4 := by
  apply BitVec.eq_of_getLsbD_eq
  intro q hq
  rw [hx q hq, BitVec.getLsbD_and, BitVec.getLsbD_ushiftRight, BitVec.getLsbD_ushiftRight]
  by_cases h4 : q < 4
  · rw [hb (4 + q) (by omega)]
    have : (252645135#32).getLsbD (8 * p + q) = true := by
      interval_cases p <;> interval_cases q <;> rfl
    rw [this, Bool.and_true]; congr 1; omega
  · have : (252645135#32).getLsbD (8 * p + q) = false := by
      interval_cases p <;> interval_cases q <;> first | rfl | omega
    rw [this, Bool.and_false, BitVec.getLsbD_of_ge _ _ (by omega)]

theorem lo_byte (a : BitVec 32) (b : BitVec 8) (p : ℕ) (hp : p < 4) (x : BitVec 8)
    (hx : ∀ q, q < 8 → x.getLsbD q = (a &&& 252645135#32).getLsbD (8 * p + q))
    (hb : ∀ q, q < 8 → b.getLsbD q = a.getLsbD (8 * p + q)) : x = b &&& 15#8 := by
  apply BitVec.eq_of_getLsbD_eq
  intro q hq
  rw [hx q hq, BitVec.getLsbD_and, BitVec.getLsbD_and, hb q hq]
  congr 1
  interval_cases p <;> interval_cases q <;> rfl

/-- Bit `q` of the byte at row `k`, lane `l`, of a word vector. -/
theorem bytes_getLsbD (x : IVec S32x256 32) (k : Fin 128) (l : Fin 256) (q : ℕ) (hq : q < 8) :
    (bitcast S128x256 8 x bitcasts_S32x256_w32_S128x256_w8 (ix2 k l)).getLsbD q
      = (x (ix2 ⟨k.val / 4, by omega⟩ l)).getLsbD (8 * (k.val % 4) + q) := by
  rw [bitcast_getLsbD x _ _ q hq (by decide)]
  have hr : S128x256.row (ix2 k l) = k.val := rfl
  have e2 : (S128x256.row (ix2 k l) * 8 + q) % 32 = 8 * (k.val % 4) + q := by rw [hr]; omega
  rw [e2]
  congr 2
  funext c
  match c with
  | ⟨0, _⟩ => exact Fin.ext ((Shape.Bitcasts.srcIdx_row _ _ _ _ ⟨0, Nat.zero_lt_two⟩ rfl).trans (by rw [hr]; show _ = k.val / 4; omega))
  | ⟨1, _⟩ => exact Fin.ext (by rfl)

theorem words_getLsbD (v : Vec Ideal S256x128 .i8) (k : Fin 128) (l : Fin 256) (q : ℕ) (hq : q < 8) :
    (v (ix2 l k)).getLsbD q = (words (F := Ideal) v (ix2 ⟨k.val / 4, by omega⟩ l)).getLsbD (8 * (k.val % 4) + q) := by
  unfold words
  have := bitcast_8_32_getLsbD_ix2 (transpose S128x256 [1, 0] v transposes_S256x128_p1_0_S128x256)
    bitcasts_S128x256_w8_S32x256_w32 ⟨k.val / 4, by omega⟩ l (8 * (k.val % 4) + q) (by omega) k
    (by show k.val = 4 * (k.val / 4) + _; omega)
  refine Eq.trans ?_ this.symm
  have e : (8 * (k.val % 4) + q) % 8 = q := by omega
  rw [e]
  have : transpose S128x256 [1, 0] v transposes_S256x128_p1_0_S128x256 (ix2 k l) = v (ix2 l k) := by pointwise
  exact congrArg (fun b : BitVec 8 => b.getLsbD q) this.symm

theorem qHi_apply (v : Vec Ideal S256x128 .i8) (k : Fin 128) (l : Fin 256) :
    qHi (F := Ideal) v (ix2 k l) = (((((v (ix2 l k)).toNat / 16 : ℕ) : ℝ)) : EReal) := by
  have h := hi_byte (words (F := Ideal) v (ix2 ⟨k.val / 4, by omega⟩ l)) (v (ix2 l k)) (k.val % 4) (by omega)
    (bitcast S128x256 8 (andi (shrui (words (F := Ideal) v) (broadcast S32x256 4#32)) (broadcast S32x256 252645135#32))
      bitcasts_S32x256_w32_S128x256_w8 (ix2 k l))
    (fun q hq => bytes_getLsbD _ k l q hq) (fun q hq => words_getLsbD v k l q hq)
  show (((BitVec.toNat (bitcast S128x256 8 _ _ (ix2 k l)) : ℕ) : ℝ) : EReal) = _
  rw [h, BitVec.toNat_ushiftRight, Nat.shiftRight_eq_div_pow]

theorem qLo_apply (v : Vec Ideal S256x128 .i8) (k : Fin 128) (l : Fin 256) :
    qLo (F := Ideal) v (ix2 k l) = (((((v (ix2 l k)).toNat % 16 : ℕ) : ℝ)) : EReal) := by
  have h := lo_byte (words (F := Ideal) v (ix2 ⟨k.val / 4, by omega⟩ l)) (v (ix2 l k)) (k.val % 4) (by omega)
    (bitcast S128x256 8 (andi (words (F := Ideal) v) (broadcast S32x256 252645135#32))
      bitcasts_S32x256_w32_S128x256_w8 (ix2 k l))
    (fun q hq => bytes_getLsbD _ k l q hq) (fun q hq => words_getLsbD v k l q hq)
  show (((BitVec.toNat (bitcast S128x256 8 _ _ (ix2 k l)) : ℕ) : ℝ) : EReal) = _
  rw [h, BitVec.toNat_and]
  have : (15#8).toNat = 2 ^ 4 - 1 := rfl
  rw [this, Nat.and_two_pow_sub_one_eq_mod]

theorem dq_apply (q : FVec Ideal S128x256 .bf16) (z0 s0 z1 s1 : Vec Ideal S1x256 .f32) (k : Fin 128) (l : Fin 256) :
    dq q z0 s0 z1 s1 (ix2 k l) = if k.val < 64 then (q (ix2 k l) - z0 (ix2 0 l)) * s0 (ix2 0 l)
      else (q (ix2 k l) - z1 (ix2 0 l)) * s1 (ix2 0 l) := by
  unfold dq rowT
  pointwise
  by_cases hk : k.val < 64
  · simp only [hk, dif_pos, if_pos]
  · have e : (⟨64 + (k.val - 64), by omega⟩ : Fin 128) = k := Fin.ext (by show 64 + (k.val - 64) = k.val; omega)
    simp only [hk, dif_neg, if_neg, not_false_eq_true, e]

theorem dotw_apply (h : Vec Ideal S256x128 .bf16) (a : Vec Ideal S32x128 .bf16) (w : FVec Ideal S128x256 .bf16)
    (r : Fin 288) (l : Fin 256) :
    dotw h a w (ix2 r l) = ∑ k : Fin 128, (if hr : r.val < 256 then h (ix2 ⟨r.val, hr⟩ k)
      else a (ix2 ⟨r.val - 256, by omega⟩ k)) * w (ix2 k l) := by
  unfold dotw
  pointwise

theorem ssq_apply (w : FVec Ideal S128x256 .bf16) (t : Fin 16) (l : Fin 256) :
    ssq w (ix2 t l) = ∑ i : Fin 8, w (ix2 ⟨16 * i.val + t.val, by omega⟩ l) * w (ix2 ⟨16 * i.val + t.val, by omega⟩ l) := by
  unfold ssq sq
  pointwise
  simp only [Fin.sum_univ_eight]
  by_cases hl : l.val < 128
  · simp only [hl, dif_pos]
    simp [Fin.val_zero, Fin.val_one]
  · have e : (⟨128 + (l.val - 128), by omega⟩ : Fin 256) = l := Fin.ext (by show 128 + (l.val - 128) = l.val; omega)
    simp only [hl, dif_neg, not_false_eq_true, e]
    simp [Fin.val_zero, Fin.val_one]

/-! ### A column tile -/

/-- The weights of chunk `n`'s high nibbles. -/
def wH (C : ℕ → Vec F S256x128 .i8) (Z S : ℕ → Vec F S1x256 .f32) (n : ℕ) : FVec F S128x256 .bf16 :=
  dq (qHi (C n)) (Z (2 * n)) (S (2 * n)) (Z (2 * n + 1)) (S (2 * n + 1))

/-- The weights of chunk `n`'s low nibbles. -/
def wL (C : ℕ → Vec F S256x128 .i8) (Z S : ℕ → Vec F S1x256 .f32) (n : ℕ) : FVec F S128x256 .bf16 :=
  dq (qLo (C n)) (Z (32 + 2 * n)) (S (32 + 2 * n)) (Z (32 + 2 * n + 1)) (S (32 + 2 * n + 1))

/-- The product accumulated over chunks `0 … n`. -/
def acc (H : ℕ → Vec F S256x128 .bf16) (A : ℕ → Vec F S32x128 .bf16) (C : ℕ → Vec F S256x128 .i8)
    (Z S : ℕ → Vec F S1x256 .f32) : ℕ → FVec F S288x256 .f32
  | 0 => addf (dotw (H 0) (A 0) (wH C Z S 0)) (dotw (H 16) (A 16) (wL C Z S 0))
  | n + 1 => addf (addf (acc H A C Z S n) (dotw (H (n + 1)) (A (n + 1)) (wH C Z S (n + 1))))
      (dotw (H (16 + (n + 1))) (A (16 + (n + 1))) (wL C Z S (n + 1)))

/-- The squares accumulated over chunks `0 … n`. -/
def ss (C : ℕ → Vec F S256x128 .i8) (Z S : ℕ → Vec F S1x256 .f32) : ℕ → FVec F S16x256 .f32
  | 0 => addf (ssq (wH C Z S 0)) (ssq (wL C Z S 0))
  | n + 1 => addf (addf (ss C Z S n) (ssq (wH C Z S (n + 1)))) (ssq (wL C Z S (n + 1)))

section Column

variable (C : ℕ → Vec Ideal S256x128 .i8) (Z S : ℕ → Vec Ideal S1x256 .f32) (l : Fin 256)
  (c : ℕ → BitVec 8) (s z : ℕ → EReal)
  (hC : ∀ n, n < 16 → ∀ k : Fin 128, C n (ix2 l k) = c (128 * n + k.val))
  (hS : ∀ g, g < 64 → S g (ix2 0 l) = s g) (hZ : ∀ g, g < 64 → Z g (ix2 0 l) = z g)

include hC hS hZ

theorem wH_apply (n : ℕ) (hn : n < 16) (k : Fin 128) : wH C Z S n (ix2 k l) = hiW c s z (128 * n + k.val) := by
  unfold wH hiW
  rw [dq_apply, qHi_apply, hC n hn, hS _ (by omega), hS _ (by omega), hZ _ (by omega), hZ _ (by omega)]
  have hk := k.isLt
  split
  · have : (128 * n + k.val) / 64 = 2 * n := by omega
    rw [this]
  · have : (128 * n + k.val) / 64 = 2 * n + 1 := by omega
    rw [this]

theorem wL_apply (n : ℕ) (hn : n < 16) (k : Fin 128) : wL C Z S n (ix2 k l) = loW c s z (128 * n + k.val) := by
  unfold wL loW
  rw [dq_apply, qLo_apply, hC n hn, hS _ (by omega), hS _ (by omega), hZ _ (by omega), hZ _ (by omega)]
  have hk := k.isLt
  split
  · have : (128 * n + k.val) / 64 = 2 * n := by omega
    rw [this]
  · have : (128 * n + k.val) / 64 = 2 * n + 1 := by omega
    rw [this, Nat.add_assoc]

theorem acc_apply (H : ℕ → Vec Ideal S256x128 .bf16) (A : ℕ → Vec Ideal S32x128 .bf16) (r : Fin 288) (h : ℕ → EReal)
    (hh : ∀ n, n < 32 → ∀ k : Fin 128, (if hr : r.val < 256 then H n (ix2 ⟨r.val, hr⟩ k)
      else A n (ix2 ⟨r.val - 256, by omega⟩ k)) = h (128 * n + k.val)) :
    ∀ n, n < 16 → acc H A C Z S n (ix2 r l) = out h c s z (128 * (n + 1)) := by
  have hd : ∀ n, n < 16 → dotw (H n) (A n) (wH C Z S n) (ix2 r l)
      = ∑ k ∈ Finset.range 128, h (128 * n + k) * hiW c s z (128 * n + k) := by
    intro n hn
    rw [dotw_apply, Finset.sum_range]
    exact Finset.sum_congr rfl fun k _ => by rw [hh n (by omega), wH_apply C Z S l c s z hC hS hZ n hn]
  have hl : ∀ n, n < 16 → dotw (H (16 + n)) (A (16 + n)) (wL C Z S n) (ix2 r l)
      = ∑ k ∈ Finset.range 128, h (2048 + (128 * n + k)) * loW c s z (128 * n + k) := by
    intro n hn
    rw [dotw_apply, Finset.sum_range]
    refine Finset.sum_congr rfl fun k _ => ?_
    rw [hh (16 + n) (by omega), wL_apply C Z S l c s z hC hS hZ n hn]
    have : 128 * (16 + n) + k.val = 2048 + (128 * n + k.val) := by omega
    rw [this]
  intro n
  induction n with
  | zero =>
    intro _
    show dotw (H 0) (A 0) (wH C Z S 0) (ix2 r l) + dotw (H (16 + 0)) (A (16 + 0)) (wL C Z S 0) (ix2 r l) = _
    rw [hd 0 (by omega), hl 0 (by omega)]
    simp only [out, Nat.mul_zero, Nat.zero_add, Nat.mul_one]
  | succ n ih =>
    intro hn
    show (acc H A C Z S n (ix2 r l) + dotw (H (n + 1)) (A (n + 1)) (wH C Z S (n + 1)) (ix2 r l))
      + dotw (H (16 + (n + 1))) (A (16 + (n + 1))) (wL C Z S (n + 1)) (ix2 r l) = _
    rw [hd _ hn, hl _ hn, ih (by omega)]
    have e : 128 * (n + 1 + 1) = 128 * (n + 1) + 128 := by omega
    rw [out, out, e, Finset.sum_range_add, Finset.sum_range_add, add_assoc, add_add_add_comm]

theorem ss_apply : ∀ n, n < 16 → ∑ t : Fin 16, ss C Z S n (ix2 t l) = sumsq c s z (128 * (n + 1)) := by
  have h8 : ∀ f : ℕ → EReal, ∑ t : Fin 16, ∑ i : Fin 8, f (16 * i.val + t.val) = ∑ k ∈ Finset.range 128, f k := by
    intro f
    rw [Finset.sum_range, Fin.sum_univ_tiles 8 16 rfl, Finset.sum_comm]
    exact Finset.sum_congr rfl fun i _ => Finset.sum_congr rfl fun t _ => by rw [Nat.mul_comm]
  have hd : ∀ n, n < 16 → ∑ t : Fin 16, ssq (wH C Z S n) (ix2 t l)
      = ∑ k ∈ Finset.range 128, hiW c s z (128 * n + k) * hiW c s z (128 * n + k) := by
    intro n hn
    rw [← h8 fun k => hiW c s z (128 * n + k) * hiW c s z (128 * n + k)]
    refine Finset.sum_congr rfl fun t _ => ?_
    rw [ssq_apply]
    exact Finset.sum_congr rfl fun i _ => by rw [wH_apply C Z S l c s z hC hS hZ n hn]
  have hl : ∀ n, n < 16 → ∑ t : Fin 16, ssq (wL C Z S n) (ix2 t l)
      = ∑ k ∈ Finset.range 128, loW c s z (128 * n + k) * loW c s z (128 * n + k) := by
    intro n hn
    rw [← h8 fun k => loW c s z (128 * n + k) * loW c s z (128 * n + k)]
    refine Finset.sum_congr rfl fun t _ => ?_
    rw [ssq_apply]
    exact Finset.sum_congr rfl fun i _ => by rw [wL_apply C Z S l c s z hC hS hZ n hn]
  intro n
  induction n with
  | zero =>
    intro _
    show ∑ t : Fin 16, (ssq (wH C Z S 0) (ix2 t l) + ssq (wL C Z S 0) (ix2 t l)) = _
    rw [Finset.sum_add_distrib, hd 0 (by omega), hl 0 (by omega)]
    simp only [sumsq, Nat.mul_zero, Nat.zero_add, Nat.mul_one]
  | succ n ih =>
    intro hn
    show ∑ t : Fin 16, ((ss C Z S n (ix2 t l) + ssq (wH C Z S (n + 1)) (ix2 t l)) + ssq (wL C Z S (n + 1)) (ix2 t l)) = _
    rw [Finset.sum_add_distrib, Finset.sum_add_distrib, hd _ hn, hl _ hn, ih (by omega)]
    have e : 128 * (n + 1 + 1) = 128 * (n + 1) + 128 := by omega
    rw [sumsq, sumsq, e, Finset.sum_range_add, Finset.sum_range_add, add_assoc, add_add_add_comm]

end Column

/-- The low-rank rows times a tile's `b`. -/
def lo (b : Vec F S256x32 .bf16) (L : Vec F S352x32 .bf16) : FVec F S352x256 .f32 :=
  matmul dot_S352x32_S32x256_S352x256_1_0_0_1_n_n none L (transpose S32x256 [1, 0] b transposes_S256x32_p1_0_S32x256)
    (constant S352x256 .f32 0x00000000#32)

/-- A tile's output before its magnitude. -/
def uT (a : FVec F S288x256 .f32) (b : Vec F S256x32 .bf16) (L : Vec F S352x32 .bf16) : FVec F S256x256 .f32 :=
  addf (extractStridedSlice S256x256 ![0, 0] a slices_S288x256_o0_0_S256x256)
    (mulf (broadcast S256x256 (Scalar.ofBits .f32 0x3F400000#32))
      (extractStridedSlice S256x256 ![0, 0] (lo b L) slices_S352x256_o0_0_S256x256))

/-- A tile's norms. -/
def nT (a : FVec F S288x256 .f32) (q : FVec F S16x256 .f32) (b : Vec F S256x32 .bf16) (L : Vec F S352x32 .bf16) :
    FVec F S1x256 .f32 :=
  let b32 : FVec F S32x256 .f32 := extf .f32 (transpose S32x256 [1, 0] b transposes_S256x32_p1_0_S32x256) bitsLt_bf16_f32
  let g : FVec F S32x256 .f32 := addf (addf (extractStridedSlice S32x256 ![256, 0] (lo b L) slices_S352x256_o256_0_S32x256)
    (extractStridedSlice S32x256 ![288, 0] (lo b L) slices_S352x256_o288_0_S32x256))
    (extractStridedSlice S32x256 ![320, 0] (lo b L) slices_S352x256_o320_0_S32x256)
  sqrt (addf (addf (shapeCast S1x256 (multiReduction .add [0] S256 q 0x00000000#32 reduces_S16x256_S256 (.inl rfl) rfl)
      shapeCasts_S256_S1x256)
    (mulf (broadcast S1x256 (Scalar.ofBits .f32 0x3FC00000#32))
      (shapeCast S1x256 (multiReduction .add [0] S256 (mulf b32
        (extractStridedSlice S32x256 ![256, 0] a slices_S288x256_o256_0_S32x256)) 0x00000000#32 reduces_S32x256_S256 (.inl rfl) rfl)
        shapeCasts_S256_S1x256)))
    (mulf (broadcast S1x256 (Scalar.ofBits .f32 0x3F100000#32))
      (shapeCast S1x256 (multiReduction .add [0] S256 (mulf g b32) 0x00000000#32 reduces_S32x256_S256 (.inl rfl) rfl)
        shapeCasts_S256_S1x256)))

/-- A tile's magnitudes over its norms. -/
def rT (n : FVec F S1x256 .f32) (mag : Vec F S1x256 .f32) : FVec F S1x256 .f32 :=
  divf (shapeCast S1x256 mag shapeCasts_S1x256_S1x256) n

theorem uT_apply (a : FVec Ideal S288x256 .f32) (b : Vec Ideal S256x32 .bf16) (L : Vec Ideal S352x32 .bf16)
    (r l : Fin 256) :
    uT a b L (ix2 r l) = a (ix2 ⟨r.val, by omega⟩ l)
      + Ideal.ofBits .f32 0x3F400000#32 * ∑ k : Fin 32, L (ix2 ⟨r.val, by omega⟩ k) * b (ix2 l k) := by
  unfold uT lo
  pointwise

theorem nT_apply (a : FVec Ideal S288x256 .f32) (q : FVec Ideal S16x256 .f32) (b : Vec Ideal S256x32 .bf16)
    (L : Vec Ideal S352x32 .bf16) (l : Fin 256) :
    nT a q b L (ix2 0 l) = Ideal.sqrt ((∑ t : Fin 16, q (ix2 t l))
      + Ideal.ofBits .f32 0x3FC00000#32 * (∑ k : Fin 32, b (ix2 l k) * a (ix2 ⟨256 + k.val, by omega⟩ l))
      + Ideal.ofBits .f32 0x3F100000#32 * ∑ k : Fin 32, ((∑ j : Fin 32, L (ix2 ⟨256 + k.val, by omega⟩ j) * b (ix2 l j))
        + (∑ j : Fin 32, L (ix2 ⟨288 + k.val, by omega⟩ j) * b (ix2 l j))
        + ∑ j : Fin 32, L (ix2 ⟨320 + k.val, by omega⟩ j) * b (ix2 l j)) * b (ix2 l k)) := by
  unfold nT lo
  pointwise

theorem rT_apply (n : FVec Ideal S1x256 .f32) (mag : Vec Ideal S1x256 .f32) (l : Fin 256) :
    rT n mag (ix2 0 l) = Ideal.div (mag (ix2 0 l)) (n (ix2 0 l)) := by
  unfold rT
  pointwise

end Cert.Fwd
-- ==== Proof.Fwd.Tile.lean ====
/- Half of a grid point's columns for one of the two projections: the loads it makes, what it computes from them, and
   what that is over the extended reals. -/
module

public import proofs.«01_k».proof.Proof.Fwd.Ops

@[expose] public section

set_option maxRecDepth 16384

noncomputable section

namespace Cert.Fwd

open Cert.KernelIdeal Cert.KernelIdeal.Gen Idealize.ShloMosaic

variable {F : FTy → Type} [FloatOps F]

/-- What one projection loads at a grid point: chunks of the input and of the low-rank factor, and for each half
    of the columns its codes, zeros, scales, `b` and magnitudes; the low-rank rows are shared. -/
structure Half (F : FTy → Type) where
  H : ℕ → Vec F S256x128 .bf16
  A : ℕ → Vec F S32x128 .bf16
  C : ℕ → ℕ → Vec F S256x128 .i8
  Z : ℕ → ℕ → Vec F S1x256 .f32
  S : ℕ → ℕ → Vec F S1x256 .f32
  b : ℕ → Vec F S256x32 .bf16
  L : Vec F S352x32 .bf16
  m : ℕ → Vec F S1x256 .f32

/-- A half's output before its magnitude. -/
def Half.u (X : Half F) (p : ℕ) : FVec F S256x256 .f32 := uT (acc X.H X.A (X.C p) (X.Z p) (X.S p) 15) (X.b p) X.L

/-- A half's norms. -/
def Half.n (X : Half F) (p : ℕ) : FVec F S1x256 .f32 :=
  nT (acc X.H X.A (X.C p) (X.Z p) (X.S p) 15) (ss (X.C p) (X.Z p) (X.S p) 15) (X.b p) X.L

/-- A half's magnitudes over its norms. -/
def Half.r (X : Half F) (p : ℕ) : FVec F S1x256 .f32 := rT (X.n p) (X.m p)

/-- The gated product of the two projections' tiles. -/
def aT (ug : FVec F S256x256 .f32) (rg : FVec F S1x256 .f32) (uu : FVec F S256x256 .f32) (ru : FVec F S1x256 .f32) :
    FVec F S256x256 .bf16 :=
  truncf .bf16 (mulf (mulf (mulf (broadcastTo S256x256 rg broadcasts_S1x256_S256x256) ug)
      (logistic (mulf (broadcastTo S256x256 rg broadcasts_S1x256_S256x256) ug)))
    (mulf (broadcastTo S256x256 ru broadcasts_S1x256_S256x256) uu)) bitsLt_bf16_f32

/-- The gated tile of half `p`. -/
def actT (G U : Half F) (p : ℕ) : FVec F S256x256 .bf16 := aT (G.u p) (G.r p) (U.u p) (U.r p)

/-- A gated tile times its part of the next low-rank factor, added to what was accumulated. -/
def dT (a : FVec F S256x256 .bf16) (d : Vec F S256x32 .f32) (w : Vec F S32x256 .bf16) : FVec F S256x32 .f32 :=
  addf (shapeCast S256x32 d shapeCasts_S256x32_S256x32)
    (matmul dot_S256x256_S32x256_S256x32_1_1_0_0_n_n none a w (constant S256x32 .f32 0x00000000#32))

theorem aT_apply (ug : FVec Ideal S256x256 .f32) (rg : FVec Ideal S1x256 .f32) (uu : FVec Ideal S256x256 .f32)
    (ru : FVec Ideal S1x256 .f32) (r l : Fin 256) :
    aT ug rg uu ru (ix2 r l) = gated (rg (ix2 0 l) * ug (ix2 r l)) (ru (ix2 0 l) * uu (ix2 r l)) := by
  unfold aT gated
  pointwise

theorem dT_apply (a : FVec Ideal S256x256 .bf16) (d : Vec Ideal S256x32 .f32) (w : Vec Ideal S32x256 .bf16)
    (r : Fin 256) (k : Fin 32) :
    dT a d w (ix2 r k) = d (ix2 r k) + ∑ l : Fin 256, a (ix2 r l) * w (ix2 k l) := by
  unfold dT
  pointwise

/-- Column `l` of half `p` at point `t`, among all. -/
def col (t : Fin 28) (p : Fin 2) (l : Fin 256) : Fin 14336 := ⟨512 * t.val + 256 * p.val + l.val, by omega⟩

/-- A half's loads are the parts of whole arrays that belong to grid point `t`. -/
structure Half.Ok (X : Half Ideal) (h : Arr 256 4096) (c : Bytes 14336 2048) (s z : Arr 14336 64) (a : Arr 32 4096)
    (b : Arr 14336 32) (m : Line 14336) (t : Fin 28) : Prop where
  H : ∀ n, n < 32 → ∀ (r : Fin 256) (k : Fin 128), X.H n (ix2 r k) = row h r (128 * n + k.val)
  A : ∀ n, n < 32 → ∀ (r : Fin 32) (k : Fin 128), X.A n (ix2 r k) = row a r (128 * n + k.val)
  C : ∀ (p : Fin 2) (n : ℕ), n < 16 → ∀ (l : Fin 256) (k : Fin 128),
    X.C p.val n (ix2 l k) = rowB c (col t p l) (128 * n + k.val)
  S : ∀ (p : Fin 2) (g : ℕ), g < 64 → ∀ l : Fin 256, X.S p.val g (ix2 0 l) = row s (col t p l) g
  Z : ∀ (p : Fin 2) (g : ℕ), g < 64 → ∀ l : Fin 256, X.Z p.val g (ix2 0 l) = row z (col t p l) g
  b : ∀ (p : Fin 2) (l : Fin 256) (k : Fin 32), X.b p.val (ix2 l k) = b (ix2 (col t p l) k)
  m : ∀ (p : Fin 2) (l : Fin 256), X.m p.val (ix2 0 l) = m (ix1 (col t p l))
  L0 : ∀ (r : Fin 256) (k : Fin 32), X.L (ix2 ⟨r.val, by omega⟩ k) = tr h a (ix2 r k)
  L1 : ∀ k j : Fin 32, X.L (ix2 ⟨256 + k.val, by omega⟩ j) = gram a (ix2 k j)
  L2 : ∀ k j : Fin 32, X.L (ix2 ⟨288 + k.val, by omega⟩ j) = 0
  L3 : ∀ k j : Fin 32, X.L (ix2 ⟨320 + k.val, by omega⟩ j) = 0

namespace Half

variable {X : Half Ideal} {h : Arr 256 4096} {c : Bytes 14336 2048} {s z : Arr 14336 64} {a : Arr 32 4096}
  {b : Arr 14336 32} {m : Line 14336} {t : Fin 28} (ok : X.Ok h c s z a b m t) (p : Fin 2)

include ok

theorem acc_hi (r l : Fin 256) : acc X.H X.A (X.C p.val) (X.Z p.val) (X.S p.val) 15 (ix2 ⟨r.val, by omega⟩ l)
    = out (row h r) (rowB c (col t p l)) (row s (col t p l)) (row z (col t p l)) 2048 := by
  refine acc_apply (X.C p.val) (X.Z p.val) (X.S p.val) l _ _ _ (fun n hn k => ok.C p n hn l k)
    (fun g hg => ok.S p g hg l) (fun g hg => ok.Z p g hg l) X.H X.A _ (row h r) (fun n hn k => ?_) 15 (by omega)
  rw [dif_pos r.isLt]; exact ok.H n hn r k

theorem acc_lo (k : Fin 32) (l : Fin 256) :
    acc X.H X.A (X.C p.val) (X.Z p.val) (X.S p.val) 15 (ix2 ⟨256 + k.val, by omega⟩ l)
    = out (row a k) (rowB c (col t p l)) (row s (col t p l)) (row z (col t p l)) 2048 := by
  refine acc_apply (X.C p.val) (X.Z p.val) (X.S p.val) l _ _ _ (fun n hn k => ok.C p n hn l k)
    (fun g hg => ok.S p g hg l) (fun g hg => ok.Z p g hg l) X.H X.A _ (row a k) (fun n hn j => ?_) 15 (by omega)
  rw [dif_neg (by show ¬ 256 + k.val < 256; omega)]
  have e : (⟨256 + k.val - 256, by omega⟩ : Fin 32) = k := Fin.ext (by show 256 + k.val - 256 = k.val; omega)
  exact (congrArg (fun q => X.A n (ix2 q j)) e).trans (ok.A n hn k j)

theorem u_apply (r l : Fin 256) : X.u p.val (ix2 r l) = Cert.Fwd.u h c s z a b r (col t p l) := by
  unfold Half.u Cert.Fwd.u
  rw [uT_apply, acc_hi ok]
  simp only [ok.L0, ok.b]

theorem n_apply (l : Fin 256) : X.n p.val (ix2 0 l) = norm c s z a b (col t p l) := by
  unfold Half.n norm
  rw [nT_apply, ss_apply (X.C p.val) (X.Z p.val) (X.S p.val) l _ _ _ (fun n hn k => ok.C p n hn l k)
    (fun g hg => ok.S p g hg l) (fun g hg => ok.Z p g hg l) 15 (by omega)]
  simp only [ok.L1, ok.L2, ok.L3, ok.b, acc_lo ok, zero_mul, Finset.sum_const_zero, add_zero]

theorem r_apply (l : Fin 256) : X.r p.val (ix2 0 l) = Ideal.div (m (ix1 (col t p l))) (norm c s z a b (col t p l)) := by
  unfold Half.r
  rw [rT_apply, n_apply ok, ok.m]

end Half

theorem actT_apply {G U : Half Ideal} {h : Arr 256 4096} {c c' : Bytes 14336 2048} {s z s' z' : Arr 14336 64}
    {a a' : Arr 32 4096} {b b' : Arr 14336 32} {m m' : Line 14336} {t : Fin 28} (g : G.Ok h c s z a b m t)
    (u : U.Ok h c' s' z' a' b' m' t) (p : Fin 2) (r l : Fin 256) :
    actT G U p.val (ix2 r l) = gated (y h c s z a b m r (col t p l)) (y h c' s' z' a' b' m' r (col t p l)) := by
  unfold actT y
  rw [aT_apply, Half.u_apply g, Half.r_apply g, Half.u_apply u, Half.r_apply u]

end Cert.Fwd
-- ==== Proof.Fwd.Rows.lean ====
/- What the first point stores in its scratch buffers, over the extended reals. -/
module

public import proofs.«01_k».proof.Proof.Gen.KernelIdeal.Skeleton
public import proofs.«01_k».proof.Proof.Fwd.Spec

@[expose] public section

set_option maxRecDepth 16384

noncomputable section

namespace Cert.Fwd

open Cert.KernelIdeal Cert.KernelIdeal.Gen Idealize.ShloMosaic

/-- Every element is a real number. -/
def AllReal {m n : ℕ} (a : Arr m n) : Prop := ∀ (i : Fin m) (j : Fin n), ∃ q : ℝ, a (ix2 i j) = (q : EReal)

theorem gram_real {a : Arr 32 4096} (h : AllReal a) (i j : Fin 32) : ∃ q : ℝ, gram a (ix2 i j) = (q : EReal) := by
  unfold gram
  refine Finset.sum_induction (fun k => a (ix2 i k) * a (ix2 j k)) (fun x => ∃ q : ℝ, x = (q : EReal)) ?_ ⟨0, by simp⟩ ?_
  · rintro _ _ ⟨p, rfl⟩ ⟨q, rfl⟩; exact ⟨p + q, by norm_cast⟩
  · intro k _
    obtain ⟨p, hp⟩ := h i k
    obtain ⟨q, hq⟩ := h j k
    exact ⟨p * q, by rw [hp, hq]; norm_cast⟩

theorem sub_self_real {x : EReal} (h : ∃ q : ℝ, x = (q : EReal)) : x - x = 0 := by
  obtain ⟨q, rfl⟩ := h
  rw [← EReal.coe_sub, _root_.sub_self]; rfl

theorem pay3_eq {X : Vec Ideal S256x4096 .bf16} {W : Vec Ideal S1x4096 .f32}
    {x : (⟨3, ![2, 128, 4096]⟩ : Shape).Idx → EReal} {nw : Line 4096}
    (hX : ∀ (r : Fin 256) (k : Fin 4096), X (ix2 r k) = x (ix3 ⟨r.val / 128, by omega⟩ ⟨r.val % 128, by omega⟩ k))
    (hW : ∀ k : Fin 4096, W (ix2 0 k) = nw (ix1 k)) : k0_pay3 (F := Ideal) X W = hn x nw := by
  funext i
  idx_vars i
  unfold k0_pay3 hn
  pointwise
  simp only [hX, hW]

theorem pay4_eq (x : Vec Ideal S32x4096 .bf16) : k0_pay4 (F := Ideal) x = x := by
  funext i; idx_vars i; unfold k0_pay4; pointwise

theorem pay5_eq (x : Vec Ideal S32x4096 .bf16) : k0_pay5 (F := Ideal) x = x := by
  funext i; idx_vars i; unfold k0_pay5; pointwise

theorem pay11_apply (r : Fin 256) (k : Fin 32) : k0_pay11 (F := Ideal) (ix2 r k) = 0 := by
  unfold k0_pay11; pointwise

section
variable (h : Vec Ideal S256x4096 .bf16) (a : Vec Ideal S32x4096 .bf16)

theorem pay9_0 (r : Fin 256) (k : Fin 32) : k0_pay9 (F := Ideal) h a a (ix2 ⟨r.val, by omega⟩ k) = tr h a (ix2 r k) := by
  unfold k0_pay9 k0_pay6 tr; pointwise

theorem pay9_1 (k j : Fin 32) : k0_pay9 (F := Ideal) h a a (ix2 ⟨256 + k.val, by omega⟩ j) = gram a (ix2 k j) := by
  unfold k0_pay9 gram; pointwise

theorem pay9_2 (ha : AllReal a) (k j : Fin 32) : k0_pay9 (F := Ideal) h a a (ix2 ⟨288 + k.val, by omega⟩ j) = 0 := by
  unfold k0_pay9; pointwise
  rw [dif_neg (show ¬ 288 + k.val < 256 by omega), dif_neg (show ¬ 288 + k.val - 256 < 32 by omega),
    dif_pos (show 288 + k.val - 256 - 32 < 32 by omega)]
  exact sub_self_real (gram_real ha ⟨288 + k.val - 256 - 32, by omega⟩ j)

theorem pay9_3 (ha : AllReal a) (k j : Fin 32) : k0_pay9 (F := Ideal) h a a (ix2 ⟨320 + k.val, by omega⟩ j) = 0 := by
  unfold k0_pay9; pointwise
  rw [dif_neg (show ¬ 320 + k.val < 256 by omega), dif_neg (show ¬ 320 + k.val - 256 < 32 by omega),
    dif_neg (show ¬ 320 + k.val - 256 - 32 < 32 by omega)]
  have e : ∀ x : EReal, x - x = 0 → x - x - (x - x) = 0 := fun x h => by rw [h]; exact _root_.sub_zero _
  exact e _ (sub_self_real (gram_real ha ⟨320 + k.val - 256 - 32 - 32, by omega⟩ j))

theorem pay10_eq : k0_pay10 (F := Ideal) h a a = k0_pay9 (F := Ideal) h a a := rfl

end

end Cert.Fwd
-- ==== Proof.Dn.Spec.lean ====
/- What the down call's results are, over the extended reals: each as a function of the argument arrays. -/
module

public import proofs.«01_k».proof.Proof.Fwd.Rows

@[expose] public section

set_option maxRecDepth 16384

noncomputable section

namespace Cert.Dn

open Cert.Fwd Idealize.ShloMosaic

/-- A weight from a low nibble. -/
def loW (c : ℕ → BitVec 8) (s z : ℕ → EReal) (k : ℕ) : EReal :=
  (((((c k).toNat % 16 : ℕ) : ℝ) : EReal) - z (112 + k / 64)) * s (112 + k / 64)

/-- A row times a column of weights. -/
def out (h : ℕ → EReal) (c : ℕ → BitVec 8) (s z : ℕ → EReal) (N : ℕ) : EReal :=
  (∑ k ∈ Finset.range N, h k * hiW c s z k) + ∑ k ∈ Finset.range N, h (7168 + k) * loW c s z k

/-- The squares of a column of weights, added. -/
def sumsq (c : ℕ → BitVec 8) (s z : ℕ → EReal) (N : ℕ) : EReal :=
  (∑ k ∈ Finset.range N, hiW c s z k * hiW c s z k) + ∑ k ∈ Finset.range N, loW c s z k * loW c s z k

/-- An input of three axes. -/
abbrev Cube : Type := (⟨3, ![2, 128, 4096]⟩ : Shape).Idx → EReal

/-- Row `r`, column `o`, of an input of three axes. -/
def at3 (x : Cube) (r : Fin 256) (o : Fin 4096) : EReal := x (ix3 ⟨r.val / 128, by omega⟩ ⟨r.val % 128, by omega⟩ o)

/-- The low-rank factor's products with itself. -/
def gram (a : Arr 32 14336) : Arr 32 32 := fun i => ∑ k : Fin 14336, a (ix2 (i 0) k) * a (ix2 (i 1) k)

/-- The norm of output column `o`. -/
def norm (c : Bytes 4096 7168) (s z : Arr 4096 224) (a : Arr 32 14336) (b : Arr 4096 32) (o : Fin 4096) : EReal :=
  Ideal.sqrt (sumsq (rowB c o) (row s o) (row z o) 7168
    + Ideal.ofBits .f32 0x3FC00000#32
      * (∑ k : Fin 32, b (ix2 o k) * out (row a k) (rowB c o) (row s o) (row z o) 7168)
    + Ideal.ofBits .f32 0x3F100000#32
      * ∑ k : Fin 32, (∑ j : Fin 32, gram a (ix2 k j) * b (ix2 o j)) * b (ix2 o k))

/-- Output column `o` of row `r` before its magnitude. -/
def u (h : Arr 256 14336) (d : Arr 256 32) (c : Bytes 4096 7168) (s z : Arr 4096 224) (b : Arr 4096 32)
    (r : Fin 256) (o : Fin 4096) : EReal :=
  out (row h r) (rowB c o) (row s o) (row z o) 7168
    + Ideal.ofBits .f32 0x3F400000#32 * ∑ k : Fin 32, d (ix2 r k) * b (ix2 o k)

/-- Output column `o` of row `r`, added to the input. -/
def y (x : Cube) (h : Arr 256 14336) (d : Arr 256 32) (c : Bytes 4096 7168) (s z : Arr 4096 224) (a : Arr 32 14336)
    (b : Arr 4096 32) (m : Line 4096) (r : Fin 256) (o : Fin 4096) : EReal :=
  at3 x r o + Ideal.div (m (ix1 o)) (norm c s z a b o) * u h d c s z b r o

/-- The magnitude's gradient at column `o`. -/
def dmag (g : Cube) (h : Arr 256 14336) (d : Arr 256 32) (c : Bytes 4096 7168) (s z : Arr 4096 224) (a : Arr 32 14336)
    (b : Arr 4096 32) (o : Fin 4096) : EReal :=
  Ideal.div (∑ r : Fin 256, at3 g r o * u h d c s z b r o) (norm c s z a b o)

/-- The gradient of `b` at column `o`. -/
def db (g : Cube) (d : Arr 256 32) (c : Bytes 4096 7168) (s z : Arr 4096 224) (a : Arr 32 14336)
    (b : Arr 4096 32) (m : Line 4096) (o : Fin 4096) (k : Fin 32) : EReal :=
  Ideal.ofBits .f32 0x3F400000#32
    * ∑ r : Fin 256, d (ix2 r k) * (at3 g r o * Ideal.div (m (ix1 o)) (norm c s z a b o))

theorem sum_real {n : ℕ} (f : Fin n → EReal) (h : ∀ k, ∃ q : ℝ, f k = (q : EReal)) : ∃ q : ℝ, ∑ k, f k = (q : EReal) := by
  refine Finset.sum_induction f (fun x => ∃ q : ℝ, x = (q : EReal)) ?_ ⟨0, EReal.coe_zero.symm⟩ (fun k _ => h k)
  rintro _ _ ⟨p, rfl⟩ ⟨q, rfl⟩
  exact ⟨p + q, by norm_cast⟩

theorem mul_real {x y : EReal} (hx : ∃ q : ℝ, x = (q : EReal)) (hy : ∃ q : ℝ, y = (q : EReal)) : ∃ q : ℝ, x * y = (q : EReal) := by
  obtain ⟨p, rfl⟩ := hx
  obtain ⟨q, rfl⟩ := hy
  exact ⟨p * q, by norm_cast⟩

theorem gram_real {a : Arr 32 14336} (h : AllReal a) (i j : Fin 32) : ∃ q : ℝ, gram a (ix2 i j) = (q : EReal) :=
  sum_real (fun k => a (ix2 i k) * a (ix2 j k)) fun k => mul_real (h i k) (h j k)

end Cert.Dn
-- ==== Proof.Dn.Tile.lean ====
/- The operations of one column tile of the down call, and what each holds at an index over the extended reals. -/
module

public import proofs.«01_k».proof.Proof.Gen.DownIdeal
public import proofs.«01_k».proof.Proof.Fwd.Tile
public import proofs.«01_k».proof.Proof.Dn.Spec

@[expose] public section

set_option maxRecDepth 16384

noncomputable section

namespace Cert.Dn

open Cert.Fwd (hiW row rowB row_of_lt rowB_of_lt Arr Bytes Line dq qHi qLo dq_apply qHi_apply qLo_apply dotw dotw_apply ssq ssq_apply wH uT nT rT uT_apply nT_apply rT_apply)
open Cert.DownIdeal Cert.DownIdeal.Gen Idealize.ShloMosaic

variable {F : FTy → Type} [FloatOps F]

/-- The weights of chunk `n`'s low nibbles. -/
def wL (C : ℕ → Vec F S256x128 .i8) (Z S : ℕ → Vec F S1x256 .f32) (n : ℕ) : FVec F S128x256 .bf16 :=
  dq (qLo (C n)) (Z (112 + 2 * n)) (S (112 + 2 * n)) (Z (112 + 2 * n + 1)) (S (112 + 2 * n + 1))

/-- The product accumulated over chunks `0 … n`. -/
def acc (H : ℕ → Vec F S256x128 .bf16) (A : ℕ → Vec F S32x128 .bf16) (C : ℕ → Vec F S256x128 .i8)
    (Z S : ℕ → Vec F S1x256 .f32) : ℕ → FVec F S288x256 .f32
  | 0 => addf (dotw (H 0) (A 0) (wH C Z S 0)) (dotw (H 56) (A 56) (wL C Z S 0))
  | n + 1 => addf (addf (acc H A C Z S n) (dotw (H (n + 1)) (A (n + 1)) (wH C Z S (n + 1))))
      (dotw (H (56 + (n + 1))) (A (56 + (n + 1))) (wL C Z S (n + 1)))

/-- The squares accumulated over chunks `0 … n`. -/
def ss (C : ℕ → Vec F S256x128 .i8) (Z S : ℕ → Vec F S1x256 .f32) : ℕ → FVec F S16x256 .f32
  | 0 => addf (ssq (wH C Z S 0)) (ssq (wL C Z S 0))
  | n + 1 => addf (addf (ss C Z S n) (ssq (wH C Z S (n + 1)))) (ssq (wL C Z S (n + 1)))

section Column

variable (C : ℕ → Vec Ideal S256x128 .i8) (Z S : ℕ → Vec Ideal S1x256 .f32) (l : Fin 256)
  (c : ℕ → BitVec 8) (s z : ℕ → EReal)
  (hC : ∀ n, n < 56 → ∀ k : Fin 128, C n (ix2 l k) = c (128 * n + k.val))
  (hS : ∀ g, g < 224 → S g (ix2 0 l) = s g) (hZ : ∀ g, g < 224 → Z g (ix2 0 l) = z g)

include hC hS hZ

theorem wH_at (n : ℕ) (hn : n < 56) (k : Fin 128) : wH C Z S n (ix2 k l) = hiW c s z (128 * n + k.val) := by
  unfold wH hiW
  rw [dq_apply, qHi_apply, hC n hn, hS _ (by omega), hS _ (by omega), hZ _ (by omega), hZ _ (by omega)]
  have hk := k.isLt
  split
  · have : (128 * n + k.val) / 64 = 2 * n := by omega
    rw [this]
  · have : (128 * n + k.val) / 64 = 2 * n + 1 := by omega
    rw [this]

theorem wL_apply (n : ℕ) (hn : n < 56) (k : Fin 128) : wL C Z S n (ix2 k l) = loW c s z (128 * n + k.val) := by
  unfold wL loW
  rw [dq_apply, qLo_apply, hC n hn, hS _ (by omega), hS _ (by omega), hZ _ (by omega), hZ _ (by omega)]
  have hk := k.isLt
  split
  · have : (128 * n + k.val) / 64 = 2 * n := by omega
    rw [this]
  · have : (128 * n + k.val) / 64 = 2 * n + 1 := by omega
    rw [this, Nat.add_assoc]

theorem acc_apply (H : ℕ → Vec Ideal S256x128 .bf16) (A : ℕ → Vec Ideal S32x128 .bf16) (r : Fin 288) (h : ℕ → EReal)
    (hh : ∀ n, n < 112 → ∀ k : Fin 128, (if hr : r.val < 256 then H n (ix2 ⟨r.val, hr⟩ k)
      else A n (ix2 ⟨r.val - 256, by omega⟩ k)) = h (128 * n + k.val)) :
    ∀ n, n < 56 → acc H A C Z S n (ix2 r l) = out h c s z (128 * (n + 1)) := by
  have hd : ∀ n, n < 56 → dotw (H n) (A n) (wH C Z S n) (ix2 r l)
      = ∑ k ∈ Finset.range 128, h (128 * n + k) * hiW c s z (128 * n + k) := by
    intro n hn
    rw [dotw_apply, Finset.sum_range]
    exact Finset.sum_congr rfl fun k _ => by rw [hh n (by omega), wH_at C Z S l c s z hC hS hZ n hn]
  have hl : ∀ n, n < 56 → dotw (H (56 + n)) (A (56 + n)) (wL C Z S n) (ix2 r l)
      = ∑ k ∈ Finset.range 128, h (7168 + (128 * n + k)) * loW c s z (128 * n + k) := by
    intro n hn
    rw [dotw_apply, Finset.sum_range]
    refine Finset.sum_congr rfl fun k _ => ?_
    rw [hh (56 + n) (by omega), wL_apply C Z S l c s z hC hS hZ n hn]
    have : 128 * (56 + n) + k.val = 7168 + (128 * n + k.val) := by omega
    rw [this]
  intro n
  induction n with
  | zero =>
    intro _
    show dotw (H 0) (A 0) (wH C Z S 0) (ix2 r l) + dotw (H (56 + 0)) (A (56 + 0)) (wL C Z S 0) (ix2 r l) = _
    rw [hd 0 (by omega), hl 0 (by omega)]
    simp only [out, Nat.mul_zero, Nat.zero_add, Nat.mul_one]
  | succ n ih =>
    intro hn
    show (acc H A C Z S n (ix2 r l) + dotw (H (n + 1)) (A (n + 1)) (wH C Z S (n + 1)) (ix2 r l))
      + dotw (H (56 + (n + 1))) (A (56 + (n + 1))) (wL C Z S (n + 1)) (ix2 r l) = _
    rw [hd _ hn, hl _ hn, ih (by omega)]
    have e : 128 * (n + 1 + 1) = 128 * (n + 1) + 128 := by omega
    rw [out, out, e, Finset.sum_range_add, Finset.sum_range_add, add_assoc, add_add_add_comm]

theorem ss_apply : ∀ n, n < 56 → ∑ t : Fin 16, ss C Z S n (ix2 t l) = sumsq c s z (128 * (n + 1)) := by
  have h8 : ∀ f : ℕ → EReal, ∑ t : Fin 16, ∑ i : Fin 8, f (16 * i.val + t.val) = ∑ k ∈ Finset.range 128, f k := by
    intro f
    rw [Finset.sum_range, Fin.sum_univ_tiles 8 16 rfl, Finset.sum_comm]
    exact Finset.sum_congr rfl fun i _ => Finset.sum_congr rfl fun t _ => by rw [Nat.mul_comm]
  have hd : ∀ n, n < 56 → ∑ t : Fin 16, ssq (wH C Z S n) (ix2 t l)
      = ∑ k ∈ Finset.range 128, hiW c s z (128 * n + k) * hiW c s z (128 * n + k) := by
    intro n hn
    rw [← h8 fun k => hiW c s z (128 * n + k) * hiW c s z (128 * n + k)]
    refine Finset.sum_congr rfl fun t _ => ?_
    rw [ssq_apply]
    exact Finset.sum_congr rfl fun i _ => by rw [wH_at C Z S l c s z hC hS hZ n hn]
  have hl : ∀ n, n < 56 → ∑ t : Fin 16, ssq (wL C Z S n) (ix2 t l)
      = ∑ k ∈ Finset.range 128, loW c s z (128 * n + k) * loW c s z (128 * n + k) := by
    intro n hn
    rw [← h8 fun k => loW c s z (128 * n + k) * loW c s z (128 * n + k)]
    refine Finset.sum_congr rfl fun t _ => ?_
    rw [ssq_apply]
    exact Finset.sum_congr rfl fun i _ => by rw [wL_apply C Z S l c s z hC hS hZ n hn]
  intro n
  induction n with
  | zero =>
    intro _
    show ∑ t : Fin 16, (ssq (wH C Z S 0) (ix2 t l) + ssq (wL C Z S 0) (ix2 t l)) = _
    rw [Finset.sum_add_distrib, hd 0 (by omega), hl 0 (by omega)]
    simp only [sumsq, Nat.mul_zero, Nat.zero_add, Nat.mul_one]
  | succ n ih =>
    intro hn
    show ∑ t : Fin 16, ((ss C Z S n (ix2 t l) + ssq (wH C Z S (n + 1)) (ix2 t l)) + ssq (wL C Z S (n + 1)) (ix2 t l)) = _
    rw [Finset.sum_add_distrib, Finset.sum_add_distrib, hd _ hn, hl _ hn, ih (by omega)]
    have e : 128 * (n + 1 + 1) = 128 * (n + 1) + 128 := by omega
    rw [sumsq, sumsq, e, Finset.sum_range_add, Finset.sum_range_add, add_assoc, add_add_add_comm]

end Column

/-- What a grid point loads: chunks of the activations and of the low-rank factor, its codes, zeros, scales, `b` and
    magnitudes, the low-rank rows and their first part, and its columns of the input and of the output's gradient. -/
structure Tile (F : FTy → Type) where
  H : ℕ → Vec F S256x128 .bf16
  A : ℕ → Vec F S32x128 .bf16
  C : ℕ → Vec F S256x128 .i8
  Z : ℕ → Vec F S1x256 .f32
  S : ℕ → Vec F S1x256 .f32
  b : Vec F S256x32 .bf16
  L : Vec F S352x32 .bf16
  T : Vec F S256x32 .bf16
  m : Vec F S1x256 .f32
  X : Vec F S256x256 .bf16
  D : Vec F S256x256 .bf16

/-- The tile's output before its magnitude. -/
def Tile.u (X : Tile F) : FVec F S256x256 .f32 := uT (acc X.H X.A X.C X.Z X.S 55) X.b X.L

/-- The tile's norms. -/
def Tile.n (X : Tile F) : FVec F S1x256 .f32 := nT (acc X.H X.A X.C X.Z X.S 55) (ss X.C X.Z X.S 55) X.b X.L

/-- The tile's magnitudes over its norms. -/
def Tile.r (X : Tile F) : FVec F S1x256 .f32 := rT X.n X.m

/-- The input plus the output. -/
def yT (u : FVec F S256x256 .f32) (r : FVec F S1x256 .f32) (x : Vec F S256x256 .bf16) : FVec F S256x256 .bf16 :=
  truncf .bf16 (addf (extf .f32 (shapeCast S256x256 x shapeCasts_S256x256_S256x256 : FVec F S256x256 .bf16) bitsLt_bf16_f32)
    (mulf (broadcastTo S256x256 r broadcasts_S1x256_S256x256) u)) bitsLt_bf16_f32

/-- The magnitude's gradient. -/
def gT (u : FVec F S256x256 .f32) (n : FVec F S1x256 .f32) (d : Vec F S256x256 .bf16) : FVec F S1x256 .f32 :=
  divf (shapeCast S1x256 (multiReduction .add [0] S256
    (mulf (extf .f32 (shapeCast S256x256 d shapeCasts_S256x256_S256x256 : FVec F S256x256 .bf16) bitsLt_bf16_f32) u)
    0x00000000#32 reduces_S256x256_S256 (.inl rfl) rfl) shapeCasts_S256_S1x256) n

/-- The gradient of `b`. -/
def bT (r : FVec F S1x256 .f32) (d : Vec F S256x256 .bf16) (t : Vec F S256x32 .bf16) : FVec F S256x32 .f32 :=
  transpose S256x32 [1, 0] (mulf (broadcast S32x256 (Scalar.ofBits .f32 0x3F400000#32))
    (matmul dot_S32x256_S256x256_S32x256_1_0_0_1_n_n none (transpose S32x256 [1, 0] t transposes_S256x32_p1_0_S32x256)
      (truncf .bf16 (mulf (extf .f32 (shapeCast S256x256 d shapeCasts_S256x256_S256x256 : FVec F S256x256 .bf16) bitsLt_bf16_f32)
        (broadcastTo S256x256 r broadcasts_S1x256_S256x256)) bitsLt_bf16_f32)
      (constant S32x256 .f32 0x00000000#32))) transposes_S32x256_p1_0_S256x32

/-- The low-rank rows. -/
def lT (t : Vec F S256x32 .f32) (a : Vec F S32x14336 .bf16) : FVec F S352x32 .bf16 :=
  let g : FVec F S32x32 .f32 := matmul dot_S32x14336_S32x14336_S32x32_1_1_0_0_n_n none a a (constant S32x32 .f32 0x00000000#32)
  let g0 : FVec F S32x32 .bf16 := truncf .bf16 g bitsLt_bf16_f32
  let e : FVec F S32x32 .f32 := subf g (extf .f32 g0 bitsLt_bf16_f32)
  let g1 : FVec F S32x32 .bf16 := truncf .bf16 e bitsLt_bf16_f32
  let g2 : FVec F S32x32 .bf16 := truncf .bf16 (subf e (extf .f32 g1 bitsLt_bf16_f32)) bitsLt_bf16_f32
  shapeCast S352x32 (concatenate S352x32 0 [⟨S256x32, (truncf .bf16 t bitsLt_bf16_f32 : FVec F S256x32 .bf16)⟩, ⟨S32x32, g0⟩, ⟨S32x32, g1⟩, ⟨S32x32, g2⟩]
    concatenates_S256x32_S32x32_S32x32_S32x32_S352x32_d0) shapeCasts_S352x32_S352x32

/-- A transposed table. -/
def tabT (x : Vec F S256x224 .bf16) : FVec F S224x256 .f32 :=
  shapeCast S224x256 (extf .f32 (transpose S224x256 [1, 0] x transposes_S256x224_p1_0_S224x256 : FVec F S224x256 .bf16) bitsLt_bf16_f32)
    shapeCasts_S224x256_S224x256

theorem yT_apply (u : FVec Ideal S256x256 .f32) (r : FVec Ideal S1x256 .f32) (x : Vec Ideal S256x256 .bf16) (i l : Fin 256) :
    yT u r x (ix2 i l) = x (ix2 i l) + r (ix2 0 l) * u (ix2 i l) := by
  unfold yT
  pointwise

theorem gT_apply (u : FVec Ideal S256x256 .f32) (n : FVec Ideal S1x256 .f32) (d : Vec Ideal S256x256 .bf16) (l : Fin 256) :
    gT u n d (ix2 0 l) = Ideal.div (∑ r : Fin 256, d (ix2 r l) * u (ix2 r l)) (n (ix2 0 l)) := by
  unfold gT
  pointwise

theorem bT_apply (r : FVec Ideal S1x256 .f32) (d : Vec Ideal S256x256 .bf16) (t : Vec Ideal S256x32 .bf16) (l : Fin 256) (k : Fin 32) :
    bT r d t (ix2 l k) = Ideal.ofBits .f32 0x3F400000#32 * ∑ i : Fin 256, t (ix2 i k) * (d (ix2 i l) * r (ix2 0 l)) := by
  unfold bT
  pointwise

theorem tabT_apply (x : Vec Ideal S256x224 .bf16) (g : Fin 224) (l : Fin 256) : tabT x (ix2 g l) = x (ix2 l g) := by
  unfold tabT
  pointwise

section
variable (t : Vec Ideal S256x32 .f32) (a : Vec Ideal S32x14336 .bf16)

theorem lT_0 (r : Fin 256) (k : Fin 32) : lT t a (ix2 ⟨r.val, by omega⟩ k) = t (ix2 r k) := by
  unfold lT; pointwise

theorem lT_1 (k j : Fin 32) : lT t a (ix2 ⟨256 + k.val, by omega⟩ j) = gram a (ix2 k j) := by
  unfold lT gram; pointwise

theorem lT_2 (ha : Cert.Fwd.AllReal a) (k j : Fin 32) : lT t a (ix2 ⟨288 + k.val, by omega⟩ j) = 0 := by
  unfold lT; pointwise
  rw [dif_neg (show ¬ 288 + k.val < 256 by omega), dif_neg (show ¬ 288 + k.val - 256 < 32 by omega),
    dif_pos (show 288 + k.val - 256 - 32 < 32 by omega)]
  exact Cert.Fwd.sub_self_real (gram_real ha ⟨288 + k.val - 256 - 32, by omega⟩ j)

theorem lT_3 (ha : Cert.Fwd.AllReal a) (k j : Fin 32) : lT t a (ix2 ⟨320 + k.val, by omega⟩ j) = 0 := by
  unfold lT; pointwise
  rw [dif_neg (show ¬ 320 + k.val < 256 by omega), dif_neg (show ¬ 320 + k.val - 256 < 32 by omega),
    dif_neg (show ¬ 320 + k.val - 256 - 32 < 32 by omega)]
  have e : ∀ x : EReal, x - x = 0 → x - x - (x - x) = 0 := fun x h => by rw [h]; exact _root_.sub_zero _
  exact e _ (Cert.Fwd.sub_self_real (gram_real ha ⟨320 + k.val - 256 - 32 - 32, by omega⟩ j))

end

/-- Column `l` of point `t`, among all. -/
def col (t : Fin 16) (l : Fin 256) : Fin 4096 := ⟨256 * t.val + l.val, by omega⟩

/-- A tile's loads are the parts of whole arrays that belong to grid point `t`. -/
structure Tile.Ok (X : Tile Ideal) (x g : Cube) (h : Arr 256 14336) (d : Arr 256 32) (c : Bytes 4096 7168) (s z : Arr 4096 224)
    (a : Arr 32 14336) (b : Arr 4096 32) (m : Line 4096) (t : Fin 16) : Prop where
  H : ∀ n, n < 112 → ∀ (r : Fin 256) (k : Fin 128), X.H n (ix2 r k) = row h r (128 * n + k.val)
  A : ∀ n, n < 112 → ∀ (r : Fin 32) (k : Fin 128), X.A n (ix2 r k) = row a r (128 * n + k.val)
  C : ∀ n, n < 56 → ∀ (l : Fin 256) (k : Fin 128), X.C n (ix2 l k) = rowB c (col t l) (128 * n + k.val)
  S : ∀ g, g < 224 → ∀ l : Fin 256, X.S g (ix2 0 l) = row s (col t l) g
  Z : ∀ g, g < 224 → ∀ l : Fin 256, X.Z g (ix2 0 l) = row z (col t l) g
  b : ∀ (l : Fin 256) (k : Fin 32), X.b (ix2 l k) = b (ix2 (col t l) k)
  m : ∀ l : Fin 256, X.m (ix2 0 l) = m (ix1 (col t l))
  D : ∀ r l : Fin 256, X.D (ix2 r l) = at3 g r (col t l)
  T : ∀ (r : Fin 256) (k : Fin 32), X.T (ix2 r k) = d (ix2 r k)
  L0 : ∀ (r : Fin 256) (k : Fin 32), X.L (ix2 ⟨r.val, by omega⟩ k) = d (ix2 r k)
  L1 : ∀ k j : Fin 32, X.L (ix2 ⟨256 + k.val, by omega⟩ j) = gram a (ix2 k j)
  L2 : ∀ k j : Fin 32, X.L (ix2 ⟨288 + k.val, by omega⟩ j) = 0
  L3 : ∀ k j : Fin 32, X.L (ix2 ⟨320 + k.val, by omega⟩ j) = 0
  X : ∀ r l : Fin 256, X.X (ix2 r l) = at3 x r (col t l)

namespace Tile

variable {X : Tile Ideal} {x g : Cube} {h : Arr 256 14336} {d : Arr 256 32} {c : Bytes 4096 7168} {s z : Arr 4096 224}
  {a : Arr 32 14336} {b : Arr 4096 32} {m : Line 4096} {t : Fin 16} (ok : X.Ok x g h d c s z a b m t)

include ok

theorem acc_hi (r l : Fin 256) : acc X.H X.A X.C X.Z X.S 55 (ix2 ⟨r.val, by omega⟩ l)
    = out (row h r) (rowB c (col t l)) (row s (col t l)) (row z (col t l)) 7168 := by
  refine acc_apply X.C X.Z X.S l _ _ _ (fun n hn k => ok.C n hn l k)
    (fun g hg => ok.S g hg l) (fun g hg => ok.Z g hg l) X.H X.A _ (row h r) (fun n hn k => ?_) 55 (by omega)
  rw [dif_pos r.isLt]; exact ok.H n hn r k

theorem acc_lo (k : Fin 32) (l : Fin 256) : acc X.H X.A X.C X.Z X.S 55 (ix2 ⟨256 + k.val, by omega⟩ l)
    = out (row a k) (rowB c (col t l)) (row s (col t l)) (row z (col t l)) 7168 := by
  refine acc_apply X.C X.Z X.S l _ _ _ (fun n hn k => ok.C n hn l k)
    (fun g hg => ok.S g hg l) (fun g hg => ok.Z g hg l) X.H X.A _ (row a k) (fun n hn j => ?_) 55 (by omega)
  rw [dif_neg (by show ¬ 256 + k.val < 256; omega)]
  have e : (⟨256 + k.val - 256, by omega⟩ : Fin 32) = k := Fin.ext (by show 256 + k.val - 256 = k.val; omega)
  exact (congrArg (fun q => X.A n (ix2 q j)) e).trans (ok.A n hn k j)

theorem u_apply (r l : Fin 256) : X.u (ix2 r l) = Cert.Dn.u h d c s z b r (col t l) := by
  unfold Tile.u Cert.Dn.u
  rw [uT_apply, acc_hi ok]
  simp only [ok.L0, ok.b]

theorem n_apply (l : Fin 256) : X.n (ix2 0 l) = norm c s z a b (col t l) := by
  unfold Tile.n norm
  rw [nT_apply, ss_apply X.C X.Z X.S l _ _ _ (fun n hn k => ok.C n hn l k)
    (fun g hg => ok.S g hg l) (fun g hg => ok.Z g hg l) 55 (by omega)]
  simp only [ok.L1, ok.L2, ok.L3, ok.b, acc_lo ok, zero_mul, Finset.sum_const_zero, add_zero]

theorem r_apply (l : Fin 256) : X.r (ix2 0 l) = Ideal.div (m (ix1 (col t l))) (norm c s z a b (col t l)) := by
  unfold Tile.r
  rw [rT_apply, n_apply ok, ok.m]

theorem y_apply (r l : Fin 256) : yT X.u X.r X.X (ix2 r l) = Cert.Dn.y x h d c s z a b m r (col t l) := by
  unfold Cert.Dn.y
  rw [yT_apply, u_apply ok, r_apply ok, ok.X]

theorem g_apply (l : Fin 256) : gT X.u X.n X.D (ix2 0 l) = dmag g h d c s z a b (col t l) := by
  unfold dmag
  rw [gT_apply, n_apply ok]
  simp only [u_apply ok, ok.D]

theorem b_apply (l : Fin 256) (k : Fin 32) : bT X.r X.D X.T (ix2 l k) = db g d c s z a b m (col t l) k := by
  unfold db
  rw [bT_apply]
  simp only [r_apply ok, ok.D, ok.T]

end Tile

end Cert.Dn
-- ==== Proof.Fwd.Loads.lean ====
/- The loads of the kernel's body, as functions of what the buffers hold. -/
module

public import proofs.«01_k».proof.Proof.Fwd.Tile
public import Idealize.ShloMosaic.Lib.Pipeline.FrameBody
public import Idealize.ShloMosaic.Lib.Pipeline.Value
public import Idealize.ShloMosaic.Lib.WholeRead
public import proofs.«01_k».proof.Proof.Gen.KernelIdeal.Skeleton

@[expose] public section

set_option maxRecDepth 16384

noncomputable section

namespace Cert.Fwd

open Cert.KernelIdeal Cert.KernelIdeal.Gen Idealize.ShloMosaic

variable {F : FTy → Type} [FloatOps F]

/-! ### The rectangles lie inside -/

theorem inbC (p n : ℕ) : ∀ a, (![256 * (p % 2), 128 * (n % 16)] : Fin 2 → Nat) a + S256x128.size a ≤ S512x2048.size a := by
  intro a
  match a with
  | ⟨0, _⟩ => show 256 * (p % 2) + 256 ≤ 512; omega
  | ⟨1, _⟩ => show 128 * (n % 16) + 128 ≤ 2048; omega

theorem inbT (p n : ℕ) : ∀ a, (![n % 64, 256 * (p % 2)] : Fin 2 → Nat) a + S1x256.size a ≤ S64x512.size a := by
  intro a
  match a with
  | ⟨0, _⟩ => show n % 64 + 1 ≤ 64; omega
  | ⟨1, _⟩ => show 256 * (p % 2) + 256 ≤ 512; omega

theorem inbH (n : ℕ) : ∀ a, (![0, 128 * (n % 32)] : Fin 2 → Nat) a + S256x128.size a ≤ S256x4096.size a := by
  intro a
  match a with
  | ⟨0, _⟩ => show 0 + 256 ≤ 256; omega
  | ⟨1, _⟩ => show 128 * (n % 32) + 128 ≤ 4096; omega

theorem inbA (n : ℕ) : ∀ a, (![0, 128 * (n % 32)] : Fin 2 → Nat) a + S32x128.size a ≤ S32x4096.size a := by
  intro a
  match a with
  | ⟨0, _⟩ => show 0 + 32 ≤ 32; omega
  | ⟨1, _⟩ => show 128 * (n % 32) + 128 ≤ 4096; omega

theorem inbB (p : ℕ) : ∀ a, (![256 * (p % 2), 0] : Fin 2 → Nat) a + S256x32.size a ≤ S512x32.size a := by
  intro a
  match a with
  | ⟨0, _⟩ => show 256 * (p % 2) + 256 ≤ 512; omega
  | ⟨1, _⟩ => show 0 + 32 ≤ 32; omega

theorem inbM (p : ℕ) : ∀ a, (![0, 256 * (p % 2)] : Fin 2 → Nat) a + S1x256.size a ≤ S1x512.size a := by
  intro a
  match a with
  | ⟨0, _⟩ => show 0 + 1 ≤ 1; omega
  | ⟨1, _⟩ => show 256 * (p % 2) + 256 ≤ 512; omega

theorem inbD (p : ℕ) : ∀ a, (![0, 256 * (p % 2)] : Fin 2 → Nat) a + S32x256.size a ≤ S32x512.size a := by
  intro a
  match a with
  | ⟨0, _⟩ => show 0 + 32 ≤ 32; omega
  | ⟨1, _⟩ => show 256 * (p % 2) + 256 ≤ 512; omega

theorem inbW (M N : ℕ) : ∀ a, (![0, 0] : Fin 2 → Nat) a + (⟨2, ![M, N]⟩ : Shape).size a ≤ (⟨2, ![M, N]⟩ : Shape).size a := by
  intro a
  match a with
  | ⟨0, _⟩ => show 0 + M ≤ M; omega
  | ⟨1, _⟩ => show 0 + N ≤ N; omega

/-! ### Loads of what a buffer was given -/

/-- A whole buffer. -/
def rdW {M N : ℕ} {e : EltTy} (m : Memref sig .tc .vmem ⟨2, ![M, N]⟩ e) (h : m.IsWhole) (x : Vec F ⟨2, ![M, N]⟩ e) :
    Vec F ⟨2, ![M, N]⟩ e :=
  View.readAt (Elt F) m.view (Rect.unit (s := ⟨2, ![M, N]⟩) ![0, 0] (⟨2, ![M, N]⟩ : Shape).size (inbW M N)).toLoadRect (h.unread x)

/-- A chunk of codes. -/
def ldC (m : Memref sig .tc .vmem S512x2048 .i8) (h : m.IsWhole) (x : Vec F S512x2048 .i8) (p n : ℕ) : Vec F S256x128 .i8 :=
  View.readAt (Elt F) m.view (Rect.unit (s := S512x2048) ![256 * (p % 2), 128 * (n % 16)] S256x128.size (inbC p n)).toLoadRect (h.unread x)

/-- A half's `b`. -/
def ldB (m : Memref sig .tc .vmem S512x32 .bf16) (h : m.IsWhole) (x : Vec F S512x32 .bf16) (p : ℕ) : Vec F S256x32 .bf16 :=
  View.readAt (Elt F) m.view (Rect.unit (s := S512x32) ![256 * (p % 2), 0] S256x32.size (inbB p)).toLoadRect (h.unread x)

/-- A half's magnitudes. -/
def ldM (m : Memref sig .tc .vmem S1x512 .f32) (h : m.IsWhole) (x : Vec F S1x512 .f32) (p : ℕ) : Vec F S1x256 .f32 :=
  View.readAt (Elt F) m.view (Rect.unit (s := S1x512) ![0, 256 * (p % 2)] S1x256.size (inbM p)).toLoadRect (h.unread x)

/-- A half's part of the next low-rank factor. -/
def ldD (m : Memref sig .tc .vmem S32x512 .bf16) (h : m.IsWhole) (x : Vec F S32x512 .bf16) (p : ℕ) : Vec F S32x256 .bf16 :=
  View.readAt (Elt F) m.view (Rect.unit (s := S32x512) ![0, 256 * (p % 2)] S32x256.size (inbD p)).toLoadRect (h.unread x)

/-- A chunk of the normalised input that a point before stored. -/
def ldHu (m : Memref sig .tc .vmem S256x4096 .bf16) (h : m.IsWhole) (x : Vec F S256x4096 .bf16) (n : ℕ) : Vec F S256x128 .bf16 :=
  View.readAt (Elt F) m.view (Rect.unit (s := S256x4096) ![0, 128 * (n % 32)] S256x128.size (inbH n)).toLoadRect (h.unread x)

/-- A chunk of the low-rank factor that a point before stored. -/
def ldAu (m : Memref sig .tc .vmem S32x4096 .bf16) (h : m.IsWhole) (x : Vec F S32x4096 .bf16) (n : ℕ) : Vec F S32x128 .bf16 :=
  View.readAt (Elt F) m.view (Rect.unit (s := S32x4096) ![0, 128 * (n % 32)] S32x128.size (inbA n)).toLoadRect (h.unread x)

/-! ### Loads of what this point stored -/

/-- A store of a whole buffer. -/
def stW {M N : ℕ} {e : EltTy} (x : Vec F ⟨2, ![M, N]⟩ e) : View.Piece (Elt F) ⟨2, ![M, N]⟩ e :=
  ⟨Rect.unit (s := ⟨2, ![M, N]⟩) ![0, 0] (⟨2, ![M, N]⟩ : Shape).size (inbW M N), x⟩

/-- The last whole store of a buffer, loaded. -/
def ldW {M N : ℕ} {e : EltTy} (m : Memref sig .tc .vmem ⟨2, ![M, N]⟩ e) (L : List (View.Piece (Elt F) ⟨2, ![M, N]⟩ e)) :
    Vec F ⟨2, ![M, N]⟩ e :=
  m.view.readCov L (Rect.unit (s := ⟨2, ![M, N]⟩) ![0, 0] (⟨2, ![M, N]⟩ : Shape).size (inbW M N)).toLoadRect

/-- A row of a table. -/
def ldT (m : Memref sig .tc .vmem S64x512 .f32) (x : Vec F S64x512 .f32) (p n : ℕ) : Vec F S1x256 .f32 :=
  m.view.readCov [stW x] (Rect.unit (s := S64x512) ![n % 64, 256 * (p % 2)] S1x256.size (inbT p n)).toLoadRect

/-- A chunk of the normalised input. -/
def ldH (m : Memref sig .tc .vmem S256x4096 .bf16) (x : Vec F S256x4096 .bf16) (n : ℕ) : Vec F S256x128 .bf16 :=
  m.view.readCov [stW x] (Rect.unit (s := S256x4096) ![0, 128 * (n % 32)] S256x128.size (inbH n)).toLoadRect

/-- A chunk of the low-rank factor. -/
def ldA (m : Memref sig .tc .vmem S32x4096 .bf16) (x : Vec F S32x4096 .bf16) (n : ℕ) : Vec F S32x128 .bf16 :=
  m.view.readCov [stW x] (Rect.unit (s := S32x4096) ![0, 128 * (n % 32)] S32x128.size (inbA n)).toLoadRect

/-- The loads of one projection at a point, from the blocks that the point reads. -/
def halfOf (H : ℕ → Vec F S256x128 .bf16) (A : ℕ → Vec F S32x128 .bf16) (L : Vec F S352x32 .bf16)
    (mc : Memref sig .tc .vmem S512x2048 .i8) (hc : mc.IsWhole) (c : Vec F S512x2048 .i8)
    (ms : Memref sig .tc .vmem S512x64 .bf16) (hs : ms.IsWhole) (s : Vec F S512x64 .bf16) (ts : Memref sig .tc .vmem S64x512 .f32)
    (mz : Memref sig .tc .vmem S512x64 .bf16) (hz : mz.IsWhole) (z : Vec F S512x64 .bf16) (tz : Memref sig .tc .vmem S64x512 .f32)
    (mb : Memref sig .tc .vmem S512x32 .bf16) (hb : mb.IsWhole) (b : Vec F S512x32 .bf16)
    (mm : Memref sig .tc .vmem S1x512 .f32) (hm : mm.IsWhole) (m : Vec F S1x512 .f32) : Half F where
  H := H
  A := A
  L := L
  C := ldC mc hc c
  S := ldT ts (k0_pay12 (rdW ms hs s))
  Z := ldT tz (k0_pay12 (rdW mz hz z))
  b := ldB mb hb b
  m := ldM mm hm m

/-! ### What the loads hold -/

theorem readCov_whole {M N : ℕ} {e : EltTy} (m : Memref sig .tc .vmem ⟨2, ![M, N]⟩ e) (x : Vec F ⟨2, ![M, N]⟩ e)
    (L : List (View.Piece (Elt F) ⟨2, ![M, N]⟩ e)) (B : LoadRect ⟨2, ![M, N]⟩) :
    m.view.readCov (stW x :: L) B = fun i => x (B.idx i) := by
  rw [View.readCov_eq_canon']
  unfold stW
  rw [View.canon_cons_unit_zero (funext fun a => by match a with | ⟨0, _⟩ => rfl | ⟨1, _⟩ => rfl)]

theorem idx_whole {M N : ℕ} (i : (Rect.unit (s := ⟨2, ![M, N]⟩) ![0, 0] (⟨2, ![M, N]⟩ : Shape).size (inbW M N)).shape.Idx) :
    (Rect.unit (s := ⟨2, ![M, N]⟩) ![0, 0] (⟨2, ![M, N]⟩ : Shape).size (inbW M N)).toLoadRect.idx i = i := by
  funext a
  match a with
  | ⟨0, _⟩ => exact Fin.ext (by show 0 + 1 * (i ⟨0, _⟩).val = (i ⟨0, _⟩).val; omega)
  | ⟨1, _⟩ => exact Fin.ext (by show 0 + 1 * (i ⟨1, _⟩).val = (i ⟨1, _⟩).val; omega)

theorem ldW_eq {M N : ℕ} {e : EltTy} (m : Memref sig .tc .vmem ⟨2, ![M, N]⟩ e) (x : Vec F ⟨2, ![M, N]⟩ e)
    (L : List (View.Piece (Elt F) ⟨2, ![M, N]⟩ e)) : ldW m (stW x :: L) = x := by
  unfold ldW
  rw [readCov_whole]
  exact funext fun i => congrArg x (idx_whole i)

theorem rdW_eq {M N : ℕ} {e : EltTy} (m : Memref sig .tc .vmem ⟨2, ![M, N]⟩ e) (h : m.IsWhole) (x : Vec F ⟨2, ![M, N]⟩ e) :
    rdW m h x = x := by
  unfold rdW
  exact funext fun i => (h.readAt_unread x _ i).trans (congrArg x (idx_whole i))

/-! ### A load at an index -/

theorem idx_at {M N m n : ℕ} (o0 o1 : ℕ) (inb : ∀ a, (![o0, o1] : Fin 2 → Nat) a + (![m, n] : Fin 2 → Nat) a ≤ (⟨2, ![M, N]⟩ : Shape).size a)
    (a : Fin m) (b : Fin n) (A : Fin M) (B : Fin N) (hA : A.val = o0 + a.val) (hB : B.val = o1 + b.val) :
    (Rect.unit (s := ⟨2, ![M, N]⟩) ![o0, o1] ![m, n] inb).toLoadRect.idx (ix2 a b) = ix2 A B := by
  funext c
  match c with
  | ⟨0, _⟩ => exact Fin.ext (by show o0 + 1 * a.val = A.val; omega)
  | ⟨1, _⟩ => exact Fin.ext (by show o1 + 1 * b.val = B.val; omega)

theorem rd_at {M N m n : ℕ} {e : EltTy} (v : Memref sig .tc .vmem ⟨2, ![M, N]⟩ e) (h : v.IsWhole) (x : Vec F ⟨2, ![M, N]⟩ e) (o0 o1 : ℕ)
    (inb : ∀ a, (![o0, o1] : Fin 2 → Nat) a + (![m, n] : Fin 2 → Nat) a ≤ (⟨2, ![M, N]⟩ : Shape).size a)
    (a : Fin m) (b : Fin n) (A : Fin M) (B : Fin N) (hA : A.val = o0 + a.val) (hB : B.val = o1 + b.val) :
    View.readAt (Elt F) v.view (Rect.unit (s := ⟨2, ![M, N]⟩) ![o0, o1] ![m, n] inb).toLoadRect (h.unread x) (ix2 a b) = x (ix2 A B) :=
  (h.readAt_unread x _ _).trans (congrArg x (idx_at o0 o1 inb a b A B hA hB))

theorem cov_at {M N m n : ℕ} {e : EltTy} (v : Memref sig .tc .vmem ⟨2, ![M, N]⟩ e) (x : Vec F ⟨2, ![M, N]⟩ e) (o0 o1 : ℕ)
    (inb : ∀ a, (![o0, o1] : Fin 2 → Nat) a + (![m, n] : Fin 2 → Nat) a ≤ (⟨2, ![M, N]⟩ : Shape).size a)
    (a : Fin m) (b : Fin n) (A : Fin M) (B : Fin N) (hA : A.val = o0 + a.val) (hB : B.val = o1 + b.val) :
    v.view.readCov [stW x] (Rect.unit (s := ⟨2, ![M, N]⟩) ![o0, o1] ![m, n] inb).toLoadRect (ix2 a b) = x (ix2 A B) :=
  (congrFun (readCov_whole v x [] _) _).trans (congrArg x (idx_at o0 o1 inb a b A B hA hB))

theorem ldC_apply (m : Memref sig .tc .vmem S512x2048 .i8) (h : m.IsWhole) (x : Vec F S512x2048 .i8) (p : Fin 2) (n : ℕ) (hn : n < 16)
    (l : Fin 256) (k : Fin 128) : ldC m h x p.val n (ix2 l k) = x (ix2 ⟨256 * p.val + l.val, by omega⟩ ⟨128 * n + k.val, by omega⟩) :=
  rd_at m h x _ _ (inbC p.val n) l k _ _ (by show 256 * p.val + l.val = 256 * (p.val % 2) + l.val; omega) (by show 128 * n + k.val = 128 * (n % 16) + k.val; omega)

theorem ldB_apply (m : Memref sig .tc .vmem S512x32 .bf16) (h : m.IsWhole) (x : Vec F S512x32 .bf16) (p : Fin 2)
    (l : Fin 256) (k : Fin 32) : ldB m h x p.val (ix2 l k) = x (ix2 ⟨256 * p.val + l.val, by omega⟩ k) :=
  rd_at m h x _ _ (inbB p.val) l k _ _ (by show 256 * p.val + l.val = 256 * (p.val % 2) + l.val; omega) (by show k.val = 0 + k.val; omega)

theorem ldM_apply (m : Memref sig .tc .vmem S1x512 .f32) (h : m.IsWhole) (x : Vec F S1x512 .f32) (p : Fin 2)
    (l : Fin 256) : ldM m h x p.val (ix2 0 l) = x (ix2 0 ⟨256 * p.val + l.val, by omega⟩) :=
  rd_at m h x _ _ (inbM p.val) 0 l _ _ rfl (by show 256 * p.val + l.val = 256 * (p.val % 2) + l.val; omega)

theorem ldD_apply (m : Memref sig .tc .vmem S32x512 .bf16) (h : m.IsWhole) (x : Vec F S32x512 .bf16) (p : Fin 2)
    (k : Fin 32) (l : Fin 256) : ldD m h x p.val (ix2 k l) = x (ix2 k ⟨256 * p.val + l.val, by omega⟩) :=
  rd_at m h x _ _ (inbD p.val) k l _ _ (by show k.val = 0 + k.val; omega) (by show 256 * p.val + l.val = 256 * (p.val % 2) + l.val; omega)

theorem ldHu_apply (m : Memref sig .tc .vmem S256x4096 .bf16) (h : m.IsWhole) (x : Vec F S256x4096 .bf16) (n : ℕ) (hn : n < 32)
    (r : Fin 256) (k : Fin 128) : ldHu m h x n (ix2 r k) = x (ix2 r ⟨128 * n + k.val, by omega⟩) :=
  rd_at m h x _ _ (inbH n) r k _ _ (by show r.val = 0 + r.val; omega) (by show 128 * n + k.val = 128 * (n % 32) + k.val; omega)

theorem ldAu_apply (m : Memref sig .tc .vmem S32x4096 .bf16) (h : m.IsWhole) (x : Vec F S32x4096 .bf16) (n : ℕ) (hn : n < 32)
    (r : Fin 32) (k : Fin 128) : ldAu m h x n (ix2 r k) = x (ix2 r ⟨128 * n + k.val, by omega⟩) :=
  rd_at m h x _ _ (inbA n) r k _ _ (by show r.val = 0 + r.val; omega) (by show 128 * n + k.val = 128 * (n % 32) + k.val; omega)

theorem ldH_apply (m : Memref sig .tc .vmem S256x4096 .bf16) (x : Vec F S256x4096 .bf16) (n : ℕ) (hn : n < 32)
    (r : Fin 256) (k : Fin 128) : ldH m x n (ix2 r k) = x (ix2 r ⟨128 * n + k.val, by omega⟩) :=
  cov_at m x _ _ (inbH n) r k _ _ (by show r.val = 0 + r.val; omega) (by show 128 * n + k.val = 128 * (n % 32) + k.val; omega)

theorem ldA_apply (m : Memref sig .tc .vmem S32x4096 .bf16) (x : Vec F S32x4096 .bf16) (n : ℕ) (hn : n < 32)
    (r : Fin 32) (k : Fin 128) : ldA m x n (ix2 r k) = x (ix2 r ⟨128 * n + k.val, by omega⟩) :=
  cov_at m x _ _ (inbA n) r k _ _ (by show r.val = 0 + r.val; omega) (by show 128 * n + k.val = 128 * (n % 32) + k.val; omega)

theorem ldT_apply (m : Memref sig .tc .vmem S64x512 .f32) (x : Vec F S64x512 .f32) (p : Fin 2) (g : ℕ) (hg : g < 64)
    (l : Fin 256) : ldT m x p.val g (ix2 0 l) = x (ix2 ⟨g, hg⟩ ⟨256 * p.val + l.val, by omega⟩) :=
  cov_at m x _ _ (inbT p.val g) 0 l _ _ (by show g = g % 64 + 0; omega) (by show 256 * p.val + l.val = 256 * (p.val % 2) + l.val; omega)

/-- A transposed table at an index. -/
theorem table_apply (x : Vec Ideal S512x64 .bf16) (g : Fin 64) (l : Fin 512) :
    k0_pay12 (F := Ideal) x (ix2 g l) = x (ix2 l g) := by
  unfold k0_pay12
  pointwise

/-! ### A projection's loads are parts of whole arrays -/

theorem halfOf_ok {H : ℕ → Vec Ideal S256x128 .bf16} {A : ℕ → Vec Ideal S32x128 .bf16} {L : Vec Ideal S352x32 .bf16}
    {mc : Memref sig .tc .vmem S512x2048 .i8} {hc : mc.IsWhole} {c : Vec Ideal S512x2048 .i8}
    {ms : Memref sig .tc .vmem S512x64 .bf16} {hs : ms.IsWhole} {s : Vec Ideal S512x64 .bf16} {ts : Memref sig .tc .vmem S64x512 .f32}
    {mz : Memref sig .tc .vmem S512x64 .bf16} {hz : mz.IsWhole} {z : Vec Ideal S512x64 .bf16} {tz : Memref sig .tc .vmem S64x512 .f32}
    {mb : Memref sig .tc .vmem S512x32 .bf16} {hb : mb.IsWhole} {b : Vec Ideal S512x32 .bf16}
    {mm : Memref sig .tc .vmem S1x512 .f32} {hm : mm.IsWhole} {m : Vec Ideal S1x512 .f32}
    {h : Arr 256 4096} {a : Arr 32 4096} {C : Bytes 14336 2048} {S Z : Arr 14336 64} {B : Arr 14336 32} {M : Line 14336} {t : Fin 28}
    (eH : ∀ n, n < 32 → ∀ (r : Fin 256) (k : Fin 128), H n (ix2 r k) = row h r (128 * n + k.val))
    (eA : ∀ n, n < 32 → ∀ (r : Fin 32) (k : Fin 128), A n (ix2 r k) = row a r (128 * n + k.val))
    (L0 : ∀ (r : Fin 256) (k : Fin 32), L (ix2 ⟨r.val, by omega⟩ k) = tr h a (ix2 r k))
    (L1 : ∀ k j : Fin 32, L (ix2 ⟨256 + k.val, by omega⟩ j) = gram a (ix2 k j))
    (L2 : ∀ k j : Fin 32, L (ix2 ⟨288 + k.val, by omega⟩ j) = 0)
    (L3 : ∀ k j : Fin 32, L (ix2 ⟨320 + k.val, by omega⟩ j) = 0)
    (ec : ∀ (l : Fin 512) (k : Fin 2048), c (ix2 l k) = C (ix2 ⟨512 * t.val + l.val, by omega⟩ k))
    (es : ∀ (l : Fin 512) (k : Fin 64), s (ix2 l k) = S (ix2 ⟨512 * t.val + l.val, by omega⟩ k))
    (ez : ∀ (l : Fin 512) (k : Fin 64), z (ix2 l k) = Z (ix2 ⟨512 * t.val + l.val, by omega⟩ k))
    (eb : ∀ (l : Fin 512) (k : Fin 32), b (ix2 l k) = B (ix2 ⟨512 * t.val + l.val, by omega⟩ k))
    (em : ∀ (l : Fin 512), m (ix2 0 l) = M (ix1 ⟨512 * t.val + l.val, by omega⟩)) :
    (halfOf H A L mc hc c ms hs s ts mz hz z tz mb hb b mm hm m).Ok h C S Z a B M t where
  H := eH
  A := eA
  L0 := L0
  L1 := L1
  L2 := L2
  L3 := L3
  C p n hn l k := by
    refine (ldC_apply mc hc c p n hn l k).trans ?_
    rw [ec, rowB_of_lt _ _ _ (show 128 * n + k.val < 2048 by omega)]
    exact congrArg (fun o => C (ix2 o _)) (Fin.ext (by show 512 * t.val + (256 * p.val + l.val) = 512 * t.val + 256 * p.val + l.val; omega))
  S p g hg l := by
    refine (ldT_apply ts _ p g hg l).trans ?_
    rw [table_apply, rdW_eq, es, row_of_lt _ _ _ hg]
    exact congrArg (fun o => S (ix2 o _)) (Fin.ext (by show 512 * t.val + (256 * p.val + l.val) = 512 * t.val + 256 * p.val + l.val; omega))
  Z p g hg l := by
    refine (ldT_apply tz _ p g hg l).trans ?_
    rw [table_apply, rdW_eq, ez, row_of_lt _ _ _ hg]
    exact congrArg (fun o => Z (ix2 o _)) (Fin.ext (by show 512 * t.val + (256 * p.val + l.val) = 512 * t.val + 256 * p.val + l.val; omega))
  b p l k := by
    refine (ldB_apply mb hb b p l k).trans ?_
    rw [eb]
    exact congrArg (fun o => B (ix2 o _)) (Fin.ext (by show 512 * t.val + (256 * p.val + l.val) = 512 * t.val + 256 * p.val + l.val; omega))
  m p l := by
    refine (ldM_apply mm hm m p l).trans ?_
    rw [em]
    exact congrArg (fun o => M (ix1 o)) (Fin.ext (by show 512 * t.val + (256 * p.val + l.val) = 512 * t.val + 256 * p.val + l.val; omega))

end Cert.Fwd
-- ==== Proof.Dn.Loads.lean ====
/- The loads of the down call's body, as functions of what the buffers hold. -/
module

public import proofs.«01_k».proof.Proof.Dn.Tile
public import proofs.«01_k».proof.Proof.Fwd.Loads
public import Idealize.ShloMosaic.Lib.Pipeline.FrameBody
public import Idealize.ShloMosaic.Lib.Pipeline.Value
public import Idealize.ShloMosaic.Lib.WholeRead
public import proofs.«01_k».proof.Proof.Gen.DownIdeal.Skeleton

@[expose] public section

set_option maxRecDepth 16384

noncomputable section

namespace Cert.Dn

open Cert.Fwd (stW inbW idx_whole idx_at)
open Cert.DownIdeal Cert.DownIdeal.Gen Idealize.ShloMosaic

variable {F : FTy → Type} [FloatOps F]

/-! ### The rectangles lie inside -/

theorem inbC (n : ℕ) : ∀ a, (![0, 128 * (n % 56)] : Fin 2 → Nat) a + S256x128.size a ≤ S256x7168.size a := by
  intro a
  match a with
  | ⟨0, _⟩ => show 0 + 256 ≤ 256; omega
  | ⟨1, _⟩ => show 128 * (n % 56) + 128 ≤ 7168; omega

theorem inbT (n : ℕ) : ∀ a, (![n % 224, 0] : Fin 2 → Nat) a + S1x256.size a ≤ S224x256.size a := by
  intro a
  match a with
  | ⟨0, _⟩ => show n % 224 + 1 ≤ 224; omega
  | ⟨1, _⟩ => show 0 + 256 ≤ 256; omega

theorem inbH (n : ℕ) : ∀ a, (![0, 128 * (n % 112)] : Fin 2 → Nat) a + S256x128.size a ≤ S256x14336.size a := by
  intro a
  match a with
  | ⟨0, _⟩ => show 0 + 256 ≤ 256; omega
  | ⟨1, _⟩ => show 128 * (n % 112) + 128 ≤ 14336; omega

theorem inbA (n : ℕ) : ∀ a, (![0, 128 * (n % 112)] : Fin 2 → Nat) a + S32x128.size a ≤ S32x14336.size a := by
  intro a
  match a with
  | ⟨0, _⟩ => show 0 + 32 ≤ 32; omega
  | ⟨1, _⟩ => show 128 * (n % 112) + 128 ≤ 14336; omega

theorem inbL : ∀ a, (![0, 0] : Fin 2 → Nat) a + S256x32.size a ≤ S352x32.size a := by
  intro a
  match a with
  | ⟨0, _⟩ => show 0 + 256 ≤ 352; omega
  | ⟨1, _⟩ => show 0 + 32 ≤ 32; omega

/-! ### The loads -/

/-- A whole buffer. -/
def rdW {M N : ℕ} {e : EltTy} (m : Memref sig .tc .vmem ⟨2, ![M, N]⟩ e) (h : m.IsWhole) (x : Vec F ⟨2, ![M, N]⟩ e) :
    Vec F ⟨2, ![M, N]⟩ e :=
  View.readAt (Elt F) m.view (Rect.unit (s := ⟨2, ![M, N]⟩) ![0, 0] (⟨2, ![M, N]⟩ : Shape).size (inbW M N)).toLoadRect (h.unread x)

/-- A chunk of codes. -/
def ldC (m : Memref sig .tc .vmem S256x7168 .i8) (h : m.IsWhole) (x : Vec F S256x7168 .i8) (n : ℕ) : Vec F S256x128 .i8 :=
  View.readAt (Elt F) m.view (Rect.unit (s := S256x7168) ![0, 128 * (n % 56)] S256x128.size (inbC n)).toLoadRect (h.unread x)

/-- A chunk of the activations. -/
def ldH (m : Memref sig .tc .vmem S256x14336 .bf16) (h : m.IsWhole) (x : Vec F S256x14336 .bf16) (n : ℕ) : Vec F S256x128 .bf16 :=
  View.readAt (Elt F) m.view (Rect.unit (s := S256x14336) ![0, 128 * (n % 112)] S256x128.size (inbH n)).toLoadRect (h.unread x)

/-- A chunk of the low-rank factor. -/
def ldA (m : Memref sig .tc .vmem S32x14336 .bf16) (h : m.IsWhole) (x : Vec F S32x14336 .bf16) (n : ℕ) : Vec F S32x128 .bf16 :=
  View.readAt (Elt F) m.view (Rect.unit (s := S32x14336) ![0, 128 * (n % 112)] S32x128.size (inbA n)).toLoadRect (h.unread x)

/-- The last whole store of a buffer, loaded. -/
def ldW {M N : ℕ} {e : EltTy} (m : Memref sig .tc .vmem ⟨2, ![M, N]⟩ e) (L : List (View.Piece (Elt F) ⟨2, ![M, N]⟩ e)) :
    Vec F ⟨2, ![M, N]⟩ e :=
  m.view.readCov L (Rect.unit (s := ⟨2, ![M, N]⟩) ![0, 0] (⟨2, ![M, N]⟩ : Shape).size (inbW M N)).toLoadRect

/-- A row of a table. -/
def ldT (m : Memref sig .tc .vmem S224x256 .f32) (x : Vec F S224x256 .f32) (n : ℕ) : Vec F S1x256 .f32 :=
  m.view.readCov [stW x] (Rect.unit (s := S224x256) ![n % 224, 0] S1x256.size (inbT n)).toLoadRect

/-- The first low-rank rows, of what this point stored. -/
def ldL (m : Memref sig .tc .vmem S352x32 .bf16) (x : Vec F S352x32 .bf16) : Vec F S256x32 .bf16 :=
  m.view.readCov [stW x] (Rect.unit (s := S352x32) ![0, 0] S256x32.size inbL).toLoadRect

/-- The first low-rank rows, of what a point before stored. -/
def rdL (m : Memref sig .tc .vmem S352x32 .bf16) (h : m.IsWhole) (x : Vec F S352x32 .bf16) : Vec F S256x32 .bf16 :=
  View.readAt (Elt F) m.view (Rect.unit (s := S352x32) ![0, 0] S256x32.size inbL).toLoadRect (h.unread x)

/-! ### What the loads hold -/

theorem canon_stW {M N : ℕ} {e : EltTy} (x : Vec F ⟨2, ![M, N]⟩ e) (L : List (View.Piece (Elt F) ⟨2, ![M, N]⟩ e)) :
    View.canon (stW x :: L) = x := by
  unfold stW
  rw [View.canon_cons_unit_zero (funext fun a => by match a with | ⟨0, _⟩ => rfl | ⟨1, _⟩ => rfl)]

/-- What one store of a whole buffer leaves in it. -/
theorem left_stW {M N : ℕ} {e : EltTy} (v : View sig .tc .vmem ⟨2, ![M, N]⟩ e) (x : Vec F ⟨2, ![M, N]⟩ e) :
    v.read (Elt F) (v.writes (Elt F) v.junk [stW x]) = x :=
  (View.read_writes_junk_eq_canon v [stW x]).trans (canon_stW x [])

theorem readCov_whole {M N : ℕ} {e : EltTy} (m : Memref sig .tc .vmem ⟨2, ![M, N]⟩ e) (x : Vec F ⟨2, ![M, N]⟩ e)
    (L : List (View.Piece (Elt F) ⟨2, ![M, N]⟩ e)) (B : LoadRect ⟨2, ![M, N]⟩) :
    m.view.readCov (stW x :: L) B = fun i => x (B.idx i) := by
  rw [View.readCov_eq_canon', canon_stW]

theorem ldW_eq {M N : ℕ} {e : EltTy} (m : Memref sig .tc .vmem ⟨2, ![M, N]⟩ e) (x : Vec F ⟨2, ![M, N]⟩ e)
    (L : List (View.Piece (Elt F) ⟨2, ![M, N]⟩ e)) : ldW m (stW x :: L) = x := by
  unfold ldW
  rw [readCov_whole]
  exact funext fun i => congrArg x (idx_whole i)

theorem rdW_eq {M N : ℕ} {e : EltTy} (m : Memref sig .tc .vmem ⟨2, ![M, N]⟩ e) (h : m.IsWhole) (x : Vec F ⟨2, ![M, N]⟩ e) :
    rdW m h x = x := by
  unfold rdW
  exact funext fun i => (h.readAt_unread x _ i).trans (congrArg x (idx_whole i))

theorem rd_at {M N m n : ℕ} {e : EltTy} (v : Memref sig .tc .vmem ⟨2, ![M, N]⟩ e) (h : v.IsWhole) (x : Vec F ⟨2, ![M, N]⟩ e) (o0 o1 : ℕ)
    (inb : ∀ a, (![o0, o1] : Fin 2 → Nat) a + (![m, n] : Fin 2 → Nat) a ≤ (⟨2, ![M, N]⟩ : Shape).size a)
    (a : Fin m) (b : Fin n) (A : Fin M) (B : Fin N) (hA : A.val = o0 + a.val) (hB : B.val = o1 + b.val) :
    View.readAt (Elt F) v.view (Rect.unit (s := ⟨2, ![M, N]⟩) ![o0, o1] ![m, n] inb).toLoadRect (h.unread x) (ix2 a b) = x (ix2 A B) :=
  (h.readAt_unread x _ _).trans (congrArg x (idx_at o0 o1 inb a b A B hA hB))

theorem cov_at {M N m n : ℕ} {e : EltTy} (v : Memref sig .tc .vmem ⟨2, ![M, N]⟩ e) (x : Vec F ⟨2, ![M, N]⟩ e) (o0 o1 : ℕ)
    (inb : ∀ a, (![o0, o1] : Fin 2 → Nat) a + (![m, n] : Fin 2 → Nat) a ≤ (⟨2, ![M, N]⟩ : Shape).size a)
    (a : Fin m) (b : Fin n) (A : Fin M) (B : Fin N) (hA : A.val = o0 + a.val) (hB : B.val = o1 + b.val) :
    v.view.readCov [stW x] (Rect.unit (s := ⟨2, ![M, N]⟩) ![o0, o1] ![m, n] inb).toLoadRect (ix2 a b) = x (ix2 A B) :=
  (congrFun (readCov_whole v x [] _) _).trans (congrArg x (idx_at o0 o1 inb a b A B hA hB))

theorem ldC_apply (m : Memref sig .tc .vmem S256x7168 .i8) (h : m.IsWhole) (x : Vec F S256x7168 .i8) (n : ℕ) (hn : n < 56)
    (l : Fin 256) (k : Fin 128) : ldC m h x n (ix2 l k) = x (ix2 l ⟨128 * n + k.val, by omega⟩) :=
  rd_at m h x _ _ (inbC n) l k _ _ (by show l.val = 0 + l.val; omega) (by show 128 * n + k.val = 128 * (n % 56) + k.val; omega)

theorem ldH_apply (m : Memref sig .tc .vmem S256x14336 .bf16) (h : m.IsWhole) (x : Vec F S256x14336 .bf16) (n : ℕ) (hn : n < 112)
    (r : Fin 256) (k : Fin 128) : ldH m h x n (ix2 r k) = x (ix2 r ⟨128 * n + k.val, by omega⟩) :=
  rd_at m h x _ _ (inbH n) r k _ _ (by show r.val = 0 + r.val; omega) (by show 128 * n + k.val = 128 * (n % 112) + k.val; omega)

theorem ldA_apply (m : Memref sig .tc .vmem S32x14336 .bf16) (h : m.IsWhole) (x : Vec F S32x14336 .bf16) (n : ℕ) (hn : n < 112)
    (r : Fin 32) (k : Fin 128) : ldA m h x n (ix2 r k) = x (ix2 r ⟨128 * n + k.val, by omega⟩) :=
  rd_at m h x _ _ (inbA n) r k _ _ (by show r.val = 0 + r.val; omega) (by show 128 * n + k.val = 128 * (n % 112) + k.val; omega)

theorem ldT_apply (m : Memref sig .tc .vmem S224x256 .f32) (x : Vec F S224x256 .f32) (g : ℕ) (hg : g < 224)
    (l : Fin 256) : ldT m x g (ix2 0 l) = x (ix2 ⟨g, hg⟩ l) :=
  cov_at m x _ _ (inbT g) 0 l _ _ (by show g = g % 224 + 0; omega) (by show l.val = 0 + l.val; omega)

theorem ldL_apply (m : Memref sig .tc .vmem S352x32 .bf16) (x : Vec F S352x32 .bf16) (r : Fin 256) (k : Fin 32) :
    ldL m x (ix2 r k) = x (ix2 ⟨r.val, by omega⟩ k) :=
  cov_at m x _ _ inbL r k _ _ (by show r.val = 0 + r.val; omega) (by show k.val = 0 + k.val; omega)

theorem rdL_apply (m : Memref sig .tc .vmem S352x32 .bf16) (h : m.IsWhole) (x : Vec F S352x32 .bf16) (r : Fin 256) (k : Fin 32) :
    rdL m h x (ix2 r k) = x (ix2 ⟨r.val, by omega⟩ k) :=
  rd_at m h x _ _ inbL r k _ _ (by show r.val = 0 + r.val; omega) (by show k.val = 0 + k.val; omega)

end Cert.Dn
-- ==== Proof.Dn.Link.lean ====
/- The pieces that a grid point's run leaves in the down call's outputs, as the tile computed from its loads. -/
module

public import proofs.«01_k».proof.Proof.Gen.DownIdeal.Frame
public import proofs.«01_k».proof.Proof.Dn.Loads

@[expose] public section

set_option maxRecDepth 16384

noncomputable section

namespace Cert.Dn

open Cert.Fwd (stW)
open Cert.DownIdeal Cert.DownIdeal.Gen Idealize.ShloMosaic Idealize.ShloMosaic.TcCoe

variable {F : FTy → Type} [FloatOps F]

variable (m : (ℓ : Loc nD τ sig) → Buf (Elt F) ℓ) (c : Dev nD) (t : Fin cfg0.N)

/-- A point's loads, given the low-rank rows. -/
def tile (L : Vec F S352x32 .bf16) (T : Vec F S256x32 .bf16) : Tile F where
  H := ldH (ms0_2 t) (hs0_2 t) (iblk m c 2 t)
  A := ldA (ms0_3 t) (hs0_3 t) (iblk m c 3 t)
  C := ldC (ms0_5 t) (hs0_5 t) (iblk m c 5 t)
  Z := ldT scM0_3 (tabT (rdW (ms0_7 t) (hs0_7 t) (iblk m c 7 t)))
  S := ldT scM0_2 (tabT (rdW (ms0_6 t) (hs0_6 t) (iblk m c 6 t)))
  b := rdW (ms0_8 t) (hs0_8 t) (iblk m c 8 t)
  L := L
  T := T
  m := rdW (ms0_9 t) (hs0_9 t) (iblk m c 9 t)
  X := rdW (ms0_0 t) (hs0_0 t) (iblk m c 0 t)
  D := rdW (ms0_1 t) (hs0_1 t) (iblk m c 1 t)

/-- The low-rank rows, as the first point computes them. -/
def lA : Vec F S352x32 .bf16 := lT (rdW (ms0_4 t) (hs0_4 t) (iblk m c 4 t)) (rdW (ms0_3 t) (hs0_3 t) (iblk m c 3 t))

/-- The first point's loads. -/
def tileA : Tile F := tile m c t (ldW scM0_1 [stW (lA m c t)]) (ldL scM0_1 (lA m c t))

/-- A later point's loads, from what the point before left. -/
def tileB (xs1 : Vec F S352x32 .bf16) : Tile F :=
  tile m c t (rdW scM0_1 (Memref.isWhole_whole _) xs1) (rdL scM0_1 (Memref.isWhole_whole _) xs1)

section A

variable (hc0 : cond0_0 (grid0.coords t))

/-- The first point's run. -/
def runA := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) hc0 (iblk m c 0 t) (iblk m c 1 t) (iblk m c 2 t) (iblk m c 3 t) (iblk m c 4 t) (iblk m c 5 t) (iblk m c 6 t) (iblk m c 7 t) (iblk m c 8 t) (iblk m c 9 t)

set_option maxHeartbeats 0

theorem runA_10 : (runA m c t hc0).1 = [stW (yT (tileA m c t).u (tileA m c t).r (tileA m c t).X)] := by sl_kernel_rfl
theorem runA_12 : (runA m c t hc0).2.2.1 = [stW (tileA m c t).n] := by sl_kernel_rfl
theorem runA_13 : (runA m c t hc0).2.2.2.1 = [stW (gT (tileA m c t).u (tileA m c t).n (tileA m c t).D)] := by sl_kernel_rfl
theorem runA_14 : (runA m c t hc0).2.2.2.2.1 = [stW (bT (tileA m c t).r (tileA m c t).D (tileA m c t).T)] := by sl_kernel_rfl
theorem runA_s1 : (runA m c t hc0).2.2.2.2.2.2.1 = [stW (lA m c t)] := by sl_kernel_rfl

end A

section B

variable (hc0 : ¬cond0_0 (grid0.coords t)) (xo11 : Vec F S14336x256 .f32) (xo15 : Vec F S32x256 .f32) (xs1 : Vec F S352x32 .bf16)

/-- A later point's run. -/
def runB := kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) hc0 (iblk m c 0 t) (iblk m c 1 t) (iblk m c 2 t) (iblk m c 3 t) (iblk m c 4 t) (iblk m c 5 t) (iblk m c 6 t) (iblk m c 7 t) (iblk m c 8 t) (iblk m c 9 t) xo11 xo15 xs1

set_option maxHeartbeats 0

theorem runB_10 : (runB m c t hc0 xo11 xo15 xs1).1 = [stW (yT (tileB m c t xs1).u (tileB m c t xs1).r (tileB m c t xs1).X)] := by sl_kernel_rfl
theorem runB_12 : (runB m c t hc0 xo11 xo15 xs1).2.2.1 = [stW (tileB m c t xs1).n] := by sl_kernel_rfl
theorem runB_13 : (runB m c t hc0 xo11 xo15 xs1).2.2.2.1 = [stW (gT (tileB m c t xs1).u (tileB m c t xs1).n (tileB m c t xs1).D)] := by
  sl_kernel_rfl
theorem runB_14 : (runB m c t hc0 xo11 xo15 xs1).2.2.2.2.1 = [stW (bT (tileB m c t xs1).r (tileB m c t xs1).D (tileB m c t xs1).T)] := by
  sl_kernel_rfl

end B

end Cert.Dn
-- ==== Proof.Dn.Blocks.lean ====
/- The blocks that a grid point of the down call reads, as parts of the argument arrays. -/
module

public import proofs.«01_k».proof.Proof.Gen.DownIdeal.Frame.Runs
public import proofs.«01_k».proof.Proof.Dn.Tile

@[expose] public section

set_option maxRecDepth 16384

noncomputable section

namespace Cert.Dn

open Cert.DownIdeal Cert.DownIdeal.Gen Idealize.ShloMosaic Idealize.ShloMosaic.TcCoe Idealize.ShloMosaic.StableHlo
open Cert.Fwd (Arr Bytes Line)

/-- The grid has 16 points. -/
abbrev pt (t : Fin cfg0.N) : Fin 16 := ⟨t.val, lt_of_lt_of_eq t.isLt N_0⟩

theorem cast_x (x : Cube) (r : Fin 256) (k : Fin 4096) :
    shapeCast S256x4096 x shapeCasts_S2x128x4096_S256x4096 (ix2 r k) = at3 x r k := by
  unfold at3
  pointwise
theorem cast_m (x : Line 4096) (k : Fin 4096) :
    shapeCast S1x4096 x shapeCasts_S4096_S1x4096 (ix2 0 k) = x (ix1 k) := by
  pointwise

variable (m : (ℓ : Loc nD τ sig) → Buf (Elt Ideal) ℓ) (c : Dev nD) (t : Fin cfg0.N)

/-! ### The arguments -/

abbrev x0 : Cube := m ((c : Thread nD τ).loc main_arg0)
abbrev x1 : Cube := m ((c : Thread nD τ).loc main_arg1)
abbrev x2 : Arr 256 14336 := m ((c : Thread nD τ).loc main_arg2)
abbrev x3 : Arr 256 32 := m ((c : Thread nD τ).loc main_arg3)
abbrev x4 : Bytes 4096 7168 := m ((c : Thread nD τ).loc main_arg4)
abbrev x5 : Arr 4096 224 := m ((c : Thread nD τ).loc main_arg5)
abbrev x6 : Arr 4096 224 := m ((c : Thread nD τ).loc main_arg6)
abbrev x7 : Arr 32 14336 := m ((c : Thread nD τ).loc main_arg7)
abbrev x8 : Arr 4096 32 := m ((c : Thread nD τ).loc main_arg8)
abbrev x9 : Line 4096 := m ((c : Thread nD τ).loc main_arg9)

theorem V_v0 : V m c main_v0 = shapeCast S256x4096 (m ((c : Thread nD τ).loc main_arg0)) shapeCasts_S2x128x4096_S256x4096 := by
  show StableHlo.after hostOps0 (fun b => m (c, b)) main_v0 = _
  after_results
  rfl
theorem V_v1 : V m c main_v1 = shapeCast S256x4096 (m ((c : Thread nD τ).loc main_arg1)) shapeCasts_S2x128x4096_S256x4096 := by
  show StableHlo.after hostOps0 (fun b => m (c, b)) main_v1 = _
  after_results
  rfl
theorem V_v2 : V m c main_v2 = shapeCast S1x4096 (m ((c : Thread nD τ).loc main_arg9)) shapeCasts_S4096_S1x4096 := by
  show StableHlo.after hostOps0 (fun b => m (c, b)) main_v2 = _
  after_results
  rfl

theorem at0' : ∀ t : Fin cfg0.N, win0_0.index t (0 : Fin 2) = 0 ∧ win0_0.index t (1 : Fin 2) = t.val :=
  (by decide +kernel : ∀ t : Fin grid0.N, _)

theorem blk0 (l : Fin 256) (k : Fin 256) : iblk m c 0 t (ix2 l k) = at3 (x0 m c) l (col (pt t) k) := by
  obtain ⟨e0, e1⟩ := at0' t
  show V m c main_v0 (((cfg0.win 0).blk t).view.emb (ix2 l k)) = _
  rw [V_v0]
  suffices e : ((cfg0.win 0).blk t).view.emb (ix2 l k) = (ix2 l (col (pt t) k) : S256x4096.Idx) from
    (congrArg (shapeCast S256x4096 (x0 m c) shapeCasts_S2x128x4096_S256x4096) e).trans (cast_x _ l (col (pt t) k))
  refine funext fun a => Fin.ext ?_
  match a with
  | ⟨0, _⟩ => show win0_0.index t (0 : Fin 2) * 256 + 1 * l.val = l.val; omega
  | ⟨1, _⟩ => show win0_0.index t (1 : Fin 2) * 256 + 1 * k.val = 256 * t.val + k.val; omega

theorem at1' : ∀ t : Fin cfg0.N, win0_1.index t (0 : Fin 2) = 0 ∧ win0_1.index t (1 : Fin 2) = t.val :=
  (by decide +kernel : ∀ t : Fin grid0.N, _)

theorem blk1 (l : Fin 256) (k : Fin 256) : iblk m c 1 t (ix2 l k) = at3 (x1 m c) l (col (pt t) k) := by
  obtain ⟨e0, e1⟩ := at1' t
  show V m c main_v1 (((cfg0.win 1).blk t).view.emb (ix2 l k)) = _
  rw [V_v1]
  suffices e : ((cfg0.win 1).blk t).view.emb (ix2 l k) = (ix2 l (col (pt t) k) : S256x4096.Idx) from
    (congrArg (shapeCast S256x4096 (x1 m c) shapeCasts_S2x128x4096_S256x4096) e).trans (cast_x _ l (col (pt t) k))
  refine funext fun a => Fin.ext ?_
  match a with
  | ⟨0, _⟩ => show win0_1.index t (0 : Fin 2) * 256 + 1 * l.val = l.val; omega
  | ⟨1, _⟩ => show win0_1.index t (1 : Fin 2) * 256 + 1 * k.val = 256 * t.val + k.val; omega

theorem at2' : ∀ t : Fin cfg0.N, win0_2.index t (0 : Fin 2) = 0 ∧ win0_2.index t (1 : Fin 2) = 0 :=
  (by decide +kernel : ∀ t : Fin grid0.N, _)

theorem blk2 (l : Fin 256) (k : Fin 14336) : iblk m c 2 t (ix2 l k) = x2 m c (ix2 l k) := by
  obtain ⟨e0, e1⟩ := at2' t
  show V m c main_arg2 (((cfg0.win 2).blk t).view.emb (ix2 l k)) = _
  rw [V_main_arg2]
  refine congrArg _ (funext fun a => Fin.ext ?_)
  match a with
  | ⟨0, _⟩ => show win0_2.index t (0 : Fin 2) * 256 + 1 * l.val = l.val; omega
  | ⟨1, _⟩ => show win0_2.index t (1 : Fin 2) * 14336 + 1 * k.val = k.val; omega

theorem at3' : ∀ t : Fin cfg0.N, win0_3.index t (0 : Fin 2) = 0 ∧ win0_3.index t (1 : Fin 2) = 0 :=
  (by decide +kernel : ∀ t : Fin grid0.N, _)

theorem blk3 (l : Fin 32) (k : Fin 14336) : iblk m c 3 t (ix2 l k) = x7 m c (ix2 l k) := by
  obtain ⟨e0, e1⟩ := at3' t
  show V m c main_arg7 (((cfg0.win 3).blk t).view.emb (ix2 l k)) = _
  rw [V_main_arg7]
  refine congrArg _ (funext fun a => Fin.ext ?_)
  match a with
  | ⟨0, _⟩ => show win0_3.index t (0 : Fin 2) * 32 + 1 * l.val = l.val; omega
  | ⟨1, _⟩ => show win0_3.index t (1 : Fin 2) * 14336 + 1 * k.val = k.val; omega

theorem at4' : ∀ t : Fin cfg0.N, win0_4.index t (0 : Fin 2) = 0 ∧ win0_4.index t (1 : Fin 2) = 0 :=
  (by decide +kernel : ∀ t : Fin grid0.N, _)

theorem blk4 (l : Fin 256) (k : Fin 32) : iblk m c 4 t (ix2 l k) = x3 m c (ix2 l k) := by
  obtain ⟨e0, e1⟩ := at4' t
  show V m c main_arg3 (((cfg0.win 4).blk t).view.emb (ix2 l k)) = _
  rw [V_main_arg3]
  refine congrArg _ (funext fun a => Fin.ext ?_)
  match a with
  | ⟨0, _⟩ => show win0_4.index t (0 : Fin 2) * 256 + 1 * l.val = l.val; omega
  | ⟨1, _⟩ => show win0_4.index t (1 : Fin 2) * 32 + 1 * k.val = k.val; omega

theorem at5' : ∀ t : Fin cfg0.N, win0_5.index t (0 : Fin 2) = t.val ∧ win0_5.index t (1 : Fin 2) = 0 :=
  (by decide +kernel : ∀ t : Fin grid0.N, _)

theorem blk5 (l : Fin 256) (k : Fin 7168) : iblk m c 5 t (ix2 l k) = x4 m c (ix2 (col (pt t) l) k) := by
  obtain ⟨e0, e1⟩ := at5' t
  show V m c main_arg4 (((cfg0.win 5).blk t).view.emb (ix2 l k)) = _
  rw [V_main_arg4]
  refine congrArg _ (funext fun a => Fin.ext ?_)
  match a with
  | ⟨0, _⟩ => show win0_5.index t (0 : Fin 2) * 256 + 1 * l.val = 256 * t.val + l.val; omega
  | ⟨1, _⟩ => show win0_5.index t (1 : Fin 2) * 7168 + 1 * k.val = k.val; omega

theorem at6' : ∀ t : Fin cfg0.N, win0_6.index t (0 : Fin 2) = t.val ∧ win0_6.index t (1 : Fin 2) = 0 :=
  (by decide +kernel : ∀ t : Fin grid0.N, _)

theorem blk6 (l : Fin 256) (k : Fin 224) : iblk m c 6 t (ix2 l k) = x5 m c (ix2 (col (pt t) l) k) := by
  obtain ⟨e0, e1⟩ := at6' t
  show V m c main_arg5 (((cfg0.win 6).blk t).view.emb (ix2 l k)) = _
  rw [V_main_arg5]
  refine congrArg _ (funext fun a => Fin.ext ?_)
  match a with
  | ⟨0, _⟩ => show win0_6.index t (0 : Fin 2) * 256 + 1 * l.val = 256 * t.val + l.val; omega
  | ⟨1, _⟩ => show win0_6.index t (1 : Fin 2) * 224 + 1 * k.val = k.val; omega

theorem at7' : ∀ t : Fin cfg0.N, win0_7.index t (0 : Fin 2) = t.val ∧ win0_7.index t (1 : Fin 2) = 0 :=
  (by decide +kernel : ∀ t : Fin grid0.N, _)

theorem blk7 (l : Fin 256) (k : Fin 224) : iblk m c 7 t (ix2 l k) = x6 m c (ix2 (col (pt t) l) k) := by
  obtain ⟨e0, e1⟩ := at7' t
  show V m c main_arg6 (((cfg0.win 7).blk t).view.emb (ix2 l k)) = _
  rw [V_main_arg6]
  refine congrArg _ (funext fun a => Fin.ext ?_)
  match a with
  | ⟨0, _⟩ => show win0_7.index t (0 : Fin 2) * 256 + 1 * l.val = 256 * t.val + l.val; omega
  | ⟨1, _⟩ => show win0_7.index t (1 : Fin 2) * 224 + 1 * k.val = k.val; omega

theorem at8' : ∀ t : Fin cfg0.N, win0_8.index t (0 : Fin 2) = t.val ∧ win0_8.index t (1 : Fin 2) = 0 :=
  (by decide +kernel : ∀ t : Fin grid0.N, _)

theorem blk8 (l : Fin 256) (k : Fin 32) : iblk m c 8 t (ix2 l k) = x8 m c (ix2 (col (pt t) l) k) := by
  obtain ⟨e0, e1⟩ := at8' t
  show V m c main_arg8 (((cfg0.win 8).blk t).view.emb (ix2 l k)) = _
  rw [V_main_arg8]
  refine congrArg _ (funext fun a => Fin.ext ?_)
  match a with
  | ⟨0, _⟩ => show win0_8.index t (0 : Fin 2) * 256 + 1 * l.val = 256 * t.val + l.val; omega
  | ⟨1, _⟩ => show win0_8.index t (1 : Fin 2) * 32 + 1 * k.val = k.val; omega

theorem at9' : ∀ t : Fin cfg0.N, win0_9.index t (0 : Fin 2) = 0 ∧ win0_9.index t (1 : Fin 2) = t.val :=
  (by decide +kernel : ∀ t : Fin grid0.N, _)

theorem blk9 (k : Fin 256) : iblk m c 9 t (ix2 0 k) = x9 m c (ix1 (col (pt t) k)) := by
  obtain ⟨e0, e1⟩ := at9' t
  show V m c main_v2 (((cfg0.win 9).blk t).view.emb (ix2 0 k)) = _
  rw [V_v2]
  suffices e : ((cfg0.win 9).blk t).view.emb (ix2 0 k) = (ix2 0 (col (pt t) k) : S1x4096.Idx) from
    (congrArg (shapeCast S1x4096 (x9 m c) shapeCasts_S4096_S1x4096) e).trans (cast_m _ (col (pt t) k))
  refine funext fun a => Fin.ext ?_
  match a with
  | ⟨0, _⟩ => show win0_9.index t (0 : Fin 2) * 1 + 1 * 0 = 0; omega
  | ⟨1, _⟩ => show win0_9.index t (1 : Fin 2) * 256 + 1 * k.val = 256 * t.val + k.val; omega

end Cert.Dn
-- ==== Proof.Dn.Inv.lean ====
/- What the down call's outputs hold after every grid point, and after the run, over the extended reals. -/
module

public import proofs.«01_k».proof.Proof.Gen.DownIdeal.Value
public import proofs.«01_k».proof.Proof.Dn.Link
public import proofs.«01_k».proof.Proof.Dn.Blocks

@[expose] public section

set_option maxRecDepth 16384

noncomputable section

namespace Cert.Dn

open Cert.DownIdeal Cert.DownIdeal.Gen Cert.DownIdeal.Value Idealize.ShloMosaic Idealize.ShloMosaic.TcCoe
open Cert.Fwd (row rowB row_of_lt rowB_of_lt AllReal)

variable (m : (ℓ : Loc nD τ sig) → Buf (Elt Ideal) ℓ) (c : Dev nD) (t : Fin cfg0.N)

/-! ### The results -/

def yF (r : Fin 256) (o : Fin 4096) : EReal :=
  y (x0 m c) (x2 m c) (x3 m c) (x4 m c) (x5 m c) (x6 m c) (x7 m c) (x8 m c) (x9 m c) r o
def nF (o : Fin 4096) : EReal := norm (x4 m c) (x5 m c) (x6 m c) (x7 m c) (x8 m c) o
def gF (o : Fin 4096) : EReal := dmag (x1 m c) (x2 m c) (x3 m c) (x4 m c) (x5 m c) (x6 m c) (x7 m c) (x8 m c) o
def bF (o : Fin 4096) (k : Fin 32) : EReal := db (x1 m c) (x3 m c) (x4 m c) (x5 m c) (x6 m c) (x7 m c) (x8 m c) (x9 m c) o k

/-- A block of a result, at point `t`. -/
def blkY (f : Fin 256 → Fin 4096 → EReal) (t : Fin 16) : S256x256.Idx → EReal := fun i => f (i 0) (col t (i 1))
def blkR (f : Fin 4096 → EReal) (t : Fin 16) : S1x256.Idx → EReal := fun i => f (col t (i 1))
def blkC (f : Fin 4096 → Fin 32 → EReal) (t : Fin 16) : S256x32.Idx → EReal := fun i => f (col t (i 0)) (i 1)

/-- The low-rank rows. -/
def lX : Vec Ideal S352x32 .bf16 := lT (F := Ideal) (x3 m c) (x7 m c)

theorem lA_eq : lA m c t = lX m c := by
  unfold lA lX
  rw [rdW_eq, rdW_eq]
  refine congrArg₂ (lT (F := Ideal)) ?_ ?_
  · funext i
    idx_vars i
    exact blk4 m c t i0 i1
  · funext i
    idx_vars i
    exact blk3 m c t i0 i1

/-! ### A point's loads are parts of the argument arrays -/

theorem tab_at (M : Memref sig .tc .vmem S224x256 .f32) (w : Memref sig .tc .vmem S256x224 .bf16) (hw : w.IsWhole)
    (x : Vec Ideal S256x224 .bf16) (g : ℕ) (hg : g < 224) (l : Fin 256) :
    (ldT (F := Ideal) M (tabT (F := Ideal) (rdW w hw x)) g (ix2 0 l) : EReal) = x (ix2 l ⟨g, hg⟩) := by
  refine (ldT_apply (F := Ideal) M (tabT (F := Ideal) (rdW w hw x)) g hg l).trans ?_
  rw [tabT_apply, rdW_eq]

/-- A row of a transposed table, in the array it was cut from. -/
theorem tab_row (M : Memref sig .tc .vmem S224x256 .f32) (w : Memref sig .tc .vmem S256x224 .bf16) (hw : w.IsWhole)
    (x : Vec Ideal S256x224 .bf16) (X : Cert.Fwd.Arr 4096 224) (T : Fin 16) (e : ∀ (l : Fin 256) (k : Fin 224), x (ix2 l k) = X (ix2 (col T l) k))
    (g : ℕ) (hg : g < 224) (l : Fin 256) : (ldT (F := Ideal) M (tabT (F := Ideal) (rdW w hw x)) g (ix2 0 l) : EReal) = row X (col T l) g := by
  rw [row_of_lt _ _ _ hg, ← e]
  exact tab_at M w hw x g hg l

theorem tile_S (L : Vec Ideal S352x32 .bf16) (T : Vec Ideal S256x32 .bf16) (g : ℕ) (hg : g < 224) (l : Fin 256) :
    ((tile m c t L T).S g (ix2 0 l) : EReal) = row (x5 m c) (col (pt t) l) g := by
  unfold tile
  dsimp only
  exact tab_row scM0_2 (ms0_6 t) (hs0_6 t) (iblk m c 6 t) (x5 m c) (pt t) (blk6 m c t) g hg l

theorem tile_Z (L : Vec Ideal S352x32 .bf16) (T : Vec Ideal S256x32 .bf16) (g : ℕ) (hg : g < 224) (l : Fin 256) :
    ((tile m c t L T).Z g (ix2 0 l) : EReal) = row (x6 m c) (col (pt t) l) g := by
  unfold tile
  dsimp only
  exact tab_row scM0_3 (ms0_7 t) (hs0_7 t) (iblk m c 7 t) (x6 m c) (pt t) (blk7 m c t) g hg l

set_option maxHeartbeats 0 in
theorem tile_ok (ha : AllReal (x7 m c)) (T : Vec Ideal S256x32 .bf16) (hT : ∀ (r : Fin 256) (k : Fin 32), T (ix2 r k) = x3 m c (ix2 r k)) :
    (tile m c t (lX m c) T).Ok (x0 m c) (x1 m c) (x2 m c) (x3 m c) (x4 m c) (x5 m c) (x6 m c) (x7 m c) (x8 m c) (x9 m c) (pt t) where
  H n hn r k := by
    refine (ldH_apply (ms0_2 t) (hs0_2 t) (iblk m c 2 t) n hn r k).trans ?_
    rw [blk2, row_of_lt _ _ _ (show 128 * n + k.val < 14336 by omega)]
  A n hn r k := by
    refine (ldA_apply (ms0_3 t) (hs0_3 t) (iblk m c 3 t) n hn r k).trans ?_
    rw [blk3, row_of_lt _ _ _ (show 128 * n + k.val < 14336 by omega)]
  C n hn l k := by
    refine (ldC_apply (ms0_5 t) (hs0_5 t) (iblk m c 5 t) n hn l k).trans ?_
    rw [blk5, rowB_of_lt _ _ _ (show 128 * n + k.val < 7168 by omega)]
  S g hg l := tile_S m c t _ _ g hg l
  Z g hg l := tile_Z m c t _ _ g hg l
  b l k := (congrFun (rdW_eq (ms0_8 t) (hs0_8 t) (iblk m c 8 t)) _).trans (blk8 m c t l k)
  m l := (congrFun (rdW_eq (ms0_9 t) (hs0_9 t) (iblk m c 9 t)) _).trans (blk9 m c t l)
  D r l := (congrFun (rdW_eq (ms0_1 t) (hs0_1 t) (iblk m c 1 t)) _).trans (blk1 m c t r l)
  T := hT
  L0 r k := lT_0 (x3 m c) (x7 m c) r k
  L1 k j := lT_1 (x3 m c) (x7 m c) k j
  L2 k j := lT_2 (x3 m c) (x7 m c) ha k j
  L3 k j := lT_3 (x3 m c) (x7 m c) ha k j
  X r l := (congrFun (rdW_eq (ms0_0 t) (hs0_0 t) (iblk m c 0 t)) _).trans (blk0 m c t r l)

theorem tileA_ok (ha : AllReal (x7 m c)) :
    (tileA m c t).Ok (x0 m c) (x1 m c) (x2 m c) (x3 m c) (x4 m c) (x5 m c) (x6 m c) (x7 m c) (x8 m c) (x9 m c) (pt t) := by
  unfold tileA
  rw [ldW_eq, lA_eq]
  exact tile_ok m c t ha _ fun r k => (ldL_apply scM0_1 (lX m c) r k).trans (lT_0 (x3 m c) (x7 m c) r k)

theorem tileB_ok (ha : AllReal (x7 m c)) :
    (tileB m c t (lX m c)).Ok (x0 m c) (x1 m c) (x2 m c) (x3 m c) (x4 m c) (x5 m c) (x6 m c) (x7 m c) (x8 m c) (x9 m c) (pt t) := by
  unfold tileB
  rw [rdW_eq]
  exact tile_ok m c t ha _ fun r k => (rdL_apply scM0_1 (Memref.isWhole_whole _) (lX m c) r k).trans (lT_0 (x3 m c) (x7 m c) r k)

section
variable {m c t} {X : Tile Ideal}
  (ok : X.Ok (x0 m c) (x1 m c) (x2 m c) (x3 m c) (x4 m c) (x5 m c) (x6 m c) (x7 m c) (x8 m c) (x9 m c) (pt t))

include ok

theorem y_blk : yT X.u X.r X.X = blkY (yF m c) (pt t) := by
  funext i
  idx_vars i
  exact Tile.y_apply ok i0 i1

theorem n_blk : X.n = blkR (nF m c) (pt t) := by
  funext i
  have e : i = ix2 0 (i 1) := funext fun a => match a with
    | ⟨0, _⟩ => Fin.ext (by have h : (i 0).val < 1 := (i 0).isLt; show (i 0).val = 0; omega)
    | ⟨1, _⟩ => rfl
  rw [e]
  exact Tile.n_apply ok (i 1)

theorem g_blk : gT X.u X.n X.D = blkR (gF m c) (pt t) := by
  funext i
  have e : i = ix2 0 (i 1) := funext fun a => match a with
    | ⟨0, _⟩ => Fin.ext (by have h : (i 0).val < 1 := (i 0).isLt; show (i 0).val = 0; omega)
    | ⟨1, _⟩ => rfl
  rw [e]
  exact Tile.g_apply ok (i 1)

theorem b_blk : bT X.r X.D X.T = blkC (bF m c) (pt t) := by
  funext i
  idx_vars i
  exact Tile.b_apply ok i0 i1

end

/-! ### After every point -/

/-- What a point leaves: its blocks of the results, and the low-rank rows. -/
structure Left (n : ℕ) (hn : n < cfg0.N) : Prop where
  y : (outsAt0 m c n hn).1 = blkY (yF m c) (pt ⟨n, hn⟩)
  nm : (outsAt0 m c n hn).2.2.1 = blkR (nF m c) (pt ⟨n, hn⟩)
  g : (outsAt0 m c n hn).2.2.2.1 = blkR (gF m c) (pt ⟨n, hn⟩)
  b : (outsAt0 m c n hn).2.2.2.2.1 = blkC (bF m c) (pt ⟨n, hn⟩)
  l : (outsAt0 m c n hn).2.2.2.2.2.2 = lX m c

set_option maxHeartbeats 0 in
theorem inv_first (ha : AllReal (x7 m c)) (hn : 0 < cfg0.N) : Left m c 0 hn := by
  have hc : cond0_0 (grid0.coords ⟨0, hn⟩) := (hcond0_0 _).mpr (Nat.zero_mod _)
  have e := outsAt0_A m c ⟨0, hn⟩ (Nat.zero_mod _)
  refine ⟨(congrArg (fun p => p.1) e).trans ?_, (congrArg (fun p => p.2.2.1) e).trans ?_, (congrArg (fun p => p.2.2.2.1) e).trans ?_,
    (congrArg (fun p => p.2.2.2.2.1) e).trans ?_, (congrArg (fun p => p.2.2.2.2.2.2) e).trans ?_⟩
  · exact (congrArg (fun L => VO0_10.read (Elt Ideal) (VO0_10.writes (Elt Ideal) VO0_10.junk L)) (runA_10 m c ⟨0, hn⟩ hc)).trans
      ((left_stW VO0_10 _).trans (y_blk (tileA_ok m c ⟨0, hn⟩ ha)))
  · exact (congrArg (fun L => VO0_12.read (Elt Ideal) (VO0_12.writes (Elt Ideal) VO0_12.junk L)) (runA_12 m c ⟨0, hn⟩ hc)).trans
      ((left_stW VO0_12 _).trans (n_blk (tileA_ok m c ⟨0, hn⟩ ha)))
  · exact (congrArg (fun L => VO0_13.read (Elt Ideal) (VO0_13.writes (Elt Ideal) VO0_13.junk L)) (runA_13 m c ⟨0, hn⟩ hc)).trans
      ((left_stW VO0_13 _).trans (g_blk (tileA_ok m c ⟨0, hn⟩ ha)))
  · exact (congrArg (fun L => VO0_14.read (Elt Ideal) (VO0_14.writes (Elt Ideal) VO0_14.junk L)) (runA_14 m c ⟨0, hn⟩ hc)).trans
      ((left_stW VO0_14 _).trans (b_blk (tileA_ok m c ⟨0, hn⟩ ha)))
  · exact (congrArg (fun L => VS0_1.read (Elt Ideal) (VS0_1.writes (Elt Ideal) VS0_1.junk L)) (runA_s1 m c ⟨0, hn⟩ hc)).trans
      ((left_stW VS0_1 _).trans (lA_eq m c ⟨0, hn⟩))

set_option maxHeartbeats 0 in
theorem inv_next (ha : AllReal (x7 m c)) (n : ℕ) (hn : n + 1 < cfg0.N) (ih : Left m c n (Nat.lt_of_succ_lt hn)) : Left m c (n + 1) hn := by
  have hN : n + 1 < 16 := lt_of_lt_of_eq hn N_0
  have h0 : ¬ (⟨n + 1, hn⟩ : Fin cfg0.N).val % 16 = 0 := by show ¬ (n + 1) % 16 = 0; omega
  have hc : ¬cond0_0 (grid0.coords ⟨n + 1, hn⟩) := fun h => h0 ((hcond0_0 _).mp h)
  have e := outsAt0_B m c ⟨n + 1, hn⟩ h0
  simp only [Nat.add_sub_cancel, ih.l] at e
  refine ⟨?_, ?_, ?_, ?_, ?_⟩
  · rw [e]
    exact (congrArg (fun L => VO0_10.read (Elt Ideal) (VO0_10.writes (Elt Ideal) VO0_10.junk L)) (runB_10 m c ⟨n + 1, hn⟩ hc (outsAt0 m c n (Nat.lt_of_succ_lt hn)).2.1
      (outsAt0 m c n (Nat.lt_of_succ_lt hn)).2.2.2.2.2.1 (lX m c))).trans
      ((left_stW VO0_10 _).trans (y_blk (tileB_ok m c ⟨n + 1, hn⟩ ha)))
  · rw [e]
    exact (congrArg (fun L => VO0_12.read (Elt Ideal) (VO0_12.writes (Elt Ideal) VO0_12.junk L)) (runB_12 m c ⟨n + 1, hn⟩ hc (outsAt0 m c n (Nat.lt_of_succ_lt hn)).2.1
      (outsAt0 m c n (Nat.lt_of_succ_lt hn)).2.2.2.2.2.1 (lX m c))).trans
      ((left_stW VO0_12 _).trans (n_blk (tileB_ok m c ⟨n + 1, hn⟩ ha)))
  · rw [e]
    exact (congrArg (fun L => VO0_13.read (Elt Ideal) (VO0_13.writes (Elt Ideal) VO0_13.junk L)) (runB_13 m c ⟨n + 1, hn⟩ hc (outsAt0 m c n (Nat.lt_of_succ_lt hn)).2.1
      (outsAt0 m c n (Nat.lt_of_succ_lt hn)).2.2.2.2.2.1 (lX m c))).trans
      ((left_stW VO0_13 _).trans (g_blk (tileB_ok m c ⟨n + 1, hn⟩ ha)))
  · rw [e]
    exact (congrArg (fun L => VO0_14.read (Elt Ideal) (VO0_14.writes (Elt Ideal) VO0_14.junk L)) (runB_14 m c ⟨n + 1, hn⟩ hc (outsAt0 m c n (Nat.lt_of_succ_lt hn)).2.1
      (outsAt0 m c n (Nat.lt_of_succ_lt hn)).2.2.2.2.2.1 (lX m c))).trans
      ((left_stW VO0_14 _).trans (b_blk (tileB_ok m c ⟨n + 1, hn⟩ ha)))
  · rw [e]
    rfl

theorem inv (ha : AllReal (x7 m c)) (n : ℕ) : ∀ hn : n < cfg0.N, Left m c n hn := by
  induction n with
  | zero => exact inv_first m c ha
  | succ n ih => exact fun hn => inv_next m c ha n hn (ih _)

/-! ### After the run -/

theorem sweep (n : ℕ) (hn : n < cfg0.N) (h : 0 + n < cfg0.N) :
    Pipeline.accAt (fun n h => stAt0 m c n h junk0) (stAt0 m c) 0 n h = outsAt0 m c n hn := (outsAt0_sweep m c n hn).symm

theorem blkY_at (f : Fin 256 → Fin 4096 → EReal) (i : S256x4096.Idx) (hn : (i 1).val / 256 < cfg0.N) :
    blkY f (pt ⟨(i 1).val / 256, hn⟩) (loc10Of i) = f (i 0) (i 1) := by
  have hi0 : (i 0).val < 256 := (i 0).isLt
  exact congrArg₂ f (Fin.ext (by show (i 0).val % 256 = (i 0).val; omega))
    (Fin.ext (by show 256 * ((i 1).val / 256) + (i 1).val % 256 = (i 1).val; omega))

theorem blkR_at (f : Fin 4096 → EReal) (i : S1x4096.Idx) (hn : (i 1).val / 256 < cfg0.N) :
    blkR f (pt ⟨(i 1).val / 256, hn⟩) (loc12Of i) = f (i 1) :=
  congrArg f (Fin.ext (by show 256 * ((i 1).val / 256) + (i 1).val % 256 = (i 1).val; omega))

theorem blkC_at (f : Fin 4096 → Fin 32 → EReal) (i : S4096x32.Idx) (hn : (i 0).val / 256 < cfg0.N) :
    blkC f (pt ⟨(i 0).val / 256, hn⟩) (loc14Of i) = f (i 0) (i 1) := by
  have hi1 : (i 1).val < 32 := (i 1).isLt
  exact congrArg₂ f (Fin.ext (by show 256 * ((i 0).val / 256) + (i 0).val % 256 = (i 0).val; omega))
    (Fin.ext (by show (i 1).val % 32 = (i 1).val; omega))

theorem G10_eq (ha : AllReal (x7 m c)) : G10 m c = fun i => yF m c (i 0) (i 1) := by
  funext i
  have hi0 : (i 0).val < 256 := (i 0).isLt
  have hi1 : (i 1).val < 4096 := (i 1).isLt
  have hp : pt10Of i = (i 1).val / 256 := by
    show 16 * ((i 0).val / 256 - 0) + 1 * ((i 1).val / 256 - 0) = _
    omega
  have hn : (i 1).val / 256 < cfg0.N := lt_of_lt_of_eq (by omega) N_0.symm
  have h0 : 0 + (i 1).val / 256 < cfg0.N := by rw [Nat.zero_add]; exact hn
  unfold G10
  rw [dif_pos (lt_of_eq_of_lt hp hn), fold0_congr m c _ _ _ h0 hp, sweep m c _ hn, (inv m c ha _ hn).y]
  exact blkY_at (yF m c) i hn

theorem G12_eq (ha : AllReal (x7 m c)) : G12 m c = fun i => nF m c (i 1) := by
  funext i
  have hi0 : (i 0).val < 1 := (i 0).isLt
  have hi1 : (i 1).val < 4096 := (i 1).isLt
  have hp : pt12Of i = (i 1).val / 256 := by
    show 16 * ((i 0).val / 1 - 0) + 1 * ((i 1).val / 256 - 0) = _
    omega
  have hn : (i 1).val / 256 < cfg0.N := lt_of_lt_of_eq (by omega) N_0.symm
  have h0 : 0 + (i 1).val / 256 < cfg0.N := by rw [Nat.zero_add]; exact hn
  unfold G12
  rw [dif_pos (lt_of_eq_of_lt hp hn), fold0_congr m c _ _ _ h0 hp, sweep m c _ hn, (inv m c ha _ hn).nm]
  exact blkR_at (nF m c) i hn

theorem G13_eq (ha : AllReal (x7 m c)) : G13 m c = fun i => gF m c (i 1) := by
  funext i
  have hi0 : (i 0).val < 1 := (i 0).isLt
  have hi1 : (i 1).val < 4096 := (i 1).isLt
  have hp : pt13Of i = (i 1).val / 256 := by
    show 16 * ((i 0).val / 1 - 0) + 1 * ((i 1).val / 256 - 0) = _
    omega
  have hn : (i 1).val / 256 < cfg0.N := lt_of_lt_of_eq (by omega) N_0.symm
  have h0 : 0 + (i 1).val / 256 < cfg0.N := by rw [Nat.zero_add]; exact hn
  unfold G13
  rw [dif_pos (lt_of_eq_of_lt hp hn), fold0_congr m c _ _ _ h0 hp, sweep m c _ hn, (inv m c ha _ hn).g]
  exact blkR_at (gF m c) i hn

theorem G14_eq (ha : AllReal (x7 m c)) : G14 m c = fun i => bF m c (i 0) (i 1) := by
  funext i
  have hi0 : (i 0).val < 4096 := (i 0).isLt
  have hi1 : (i 1).val < 32 := (i 1).isLt
  have hp : pt14Of i = (i 0).val / 256 := by
    show 1 * ((i 0).val / 256 - 0) + 1 * ((i 1).val / 32 - 0) = _
    omega
  have hn : (i 0).val / 256 < cfg0.N := lt_of_lt_of_eq (by omega) N_0.symm
  have h0 : 0 + (i 0).val / 256 < cfg0.N := by rw [Nat.zero_add]; exact hn
  unfold G14
  rw [dif_pos (lt_of_eq_of_lt hp hn), fold0_congr m c _ _ _ h0 hp, sweep m c _ hn, (inv m c ha _ hn).b]
  exact blkC_at (bF m c) i hn

end Cert.Dn

end
-- ==== Proof.Fwd.Ref.lean ====
/- The reference's results at an index. -/
module

public import proofs.«01_k».proof.Proof.Gen.ReferenceIdeal.Read
public import proofs.«01_k».proof.Proof.Fwd.Spec

@[expose] public section

set_option maxRecDepth 16384

noncomputable section

namespace Cert.Fwd.Ref

open Cert.ReferenceIdeal Cert.ReferenceIdeal.Read Idealize.ShloMosaic

theorem shr_nib (b : BitVec 8) : FloatOps.sitofp (F := Ideal) .bf16 (IntOp.shrsi ArithUnit.host (BitVec.setWidth 32 b) 4#32)
    = (((b.toNat / 16 : ℕ) : ℝ) : EReal) := by
  have h : ∀ b : BitVec 8, (IntOp.shrsi ArithUnit.host (BitVec.setWidth 32 b) 4#32).toInt = ((b.toNat / 16 : ℕ) : ℤ) := by
    decide +kernel
  show (((IntOp.shrsi ArithUnit.host (BitVec.setWidth 32 b) 4#32).toInt : ℝ) : EReal) = _
  rw [h b]
  norm_cast

theorem and_nib (b : BitVec 8) : FloatOps.sitofp (F := Ideal) .bf16 (IntOp.andi (BitVec.setWidth 32 b) 15#32)
    = (((b.toNat % 16 : ℕ) : ℝ) : EReal) := by
  have h : ∀ b : BitVec 8, (IntOp.andi (BitVec.setWidth 32 b) 15#32).toInt = ((b.toNat % 16 : ℕ) : ℤ) := by
    decide +kernel
  show (((IntOp.andi (BitVec.setWidth 32 b) 15#32).toInt : ℝ) : EReal) = _
  rw [h b]
  norm_cast

theorem hn_eq (x : (⟨S2x128x4096, .bf16⟩ : BufTy).Contents (Elt Ideal)) (nw : (⟨S4096, .f32⟩ : BufTy).Contents (Elt Ideal)) :
    val_main_v17 x nw = hn x nw := by
  funext i
  idx_vars i
  unfold hn
  unfold val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise

section
variable (x0 : (⟨S2x128x4096, .bf16⟩ : BufTy).Contents (Elt Ideal)) (x1 : (⟨S4096, .f32⟩ : BufTy).Contents (Elt Ideal))
  (x2 : (⟨S14336x2048, .i8⟩ : BufTy).Contents (Elt Ideal)) (x3 x4 : (⟨S14336x64, .bf16⟩ : BufTy).Contents (Elt Ideal))
  (x5 : (⟨S32x4096, .bf16⟩ : BufTy).Contents (Elt Ideal)) (x6 : (⟨S14336x32, .bf16⟩ : BufTy).Contents (Elt Ideal))
  (x7 : (⟨S14336, .f32⟩ : BufTy).Contents (Elt Ideal)) (x8 : (⟨S14336x2048, .i8⟩ : BufTy).Contents (Elt Ideal))
  (x9 x10 : (⟨S14336x64, .bf16⟩ : BufTy).Contents (Elt Ideal))
  (x11 : (⟨S32x4096, .bf16⟩ : BufTy).Contents (Elt Ideal)) (x12 : (⟨S14336x32, .bf16⟩ : BufTy).Contents (Elt Ideal))
  (x13 : (⟨S14336, .f32⟩ : BufTy).Contents (Elt Ideal)) (x14 : (⟨S32x14336, .bf16⟩ : BufTy).Contents (Elt Ideal))

theorem hi_eq (k : Fin 2048) (o : Fin 14336) :
    val_main_v34 x2 x3 x4 (ix2 k o) = hiW (rowB x2 o) (row x3 o) (row x4 o) k.val := by
  unfold hiW
  rw [rowB_of_lt _ _ _ k.isLt, row_of_lt _ _ _ (show k.val / 64 < 64 by omega), row_of_lt _ _ _ (show k.val / 64 < 64 by omega)]
  unfold val_main_v34 val_main_v33 val_main_v32 val_main_v31 val_main_v30 val_main_v29 val_main_v28 val_main_v27 val_main_v26 val_main_v25 val_main_v24 val_main_v23 val_main_v22 val_main_v21 val_main_v20 val_main_v19 val_main_v18 val_main_c
  pointwise
  rw [shr_nib]

theorem lo_eq (k : Fin 2048) (o : Fin 14336) :
    val_main_v47 x2 x3 x4 (ix2 k o) = loW (rowB x2 o) (row x3 o) (row x4 o) k.val := by
  unfold loW
  rw [rowB_of_lt _ _ _ k.isLt, row_of_lt _ _ _ (show 32 + k.val / 64 < 64 by omega), row_of_lt _ _ _ (show 32 + k.val / 64 < 64 by omega)]
  unfold val_main_v47 val_main_v46 val_main_v45 val_main_v44 val_main_v43 val_main_v42 val_main_v41 val_main_v40 val_main_v39 val_main_v38 val_main_v37 val_main_v36 val_main_v35 val_main_v21 val_main_v20 val_main_v19 val_main_v18 val_main_c_3
  pointwise
  rw [and_nib]

theorem out_eq (r : Fin 288) (o : Fin 14336) :
    val_main_v53 x0 x1 x2 x3 x4 x5 (ix2 r o) = out (fun k => if hr : r.val < 256 then row (hn x0 x1) ⟨r.val, hr⟩ k
      else row (m := 32) (n := 4096) x5 ⟨r.val - 256, by omega⟩ k) (rowB x2 o) (row x3 o) (row x4 o) 2048 := by
  unfold out
  rw [Finset.sum_range, Finset.sum_range]
  unfold val_main_v53 val_main_v52 val_main_v51 val_main_v50 val_main_v49 val_main_v48
  pointwise
  rw [hn_eq]
  refine congrArg₂ (· + ·) (Finset.sum_congr rfl fun k _ => congrArg₂ (· * ·) ?_ (hi_eq x2 x3 x4 k o))
    (Finset.sum_congr rfl fun k _ => congrArg₂ (· * ·) ?_ (lo_eq x2 x3 x4 k o))
  · have hk := k.isLt
    by_cases hr : r.val < 256
    · rw [dif_pos hr, dif_pos hr]
      exact (row_of_lt (hn x0 x1) ⟨r.val, hr⟩ k.val (by omega)).symm
    · rw [dif_neg hr, dif_neg hr]
      exact (row_of_lt (m := 32) (n := 4096) x5 ⟨r.val - 256, by omega⟩ k.val (by omega)).symm
  · have hk := k.isLt
    by_cases hr : r.val < 256
    · rw [dif_pos hr, dif_pos hr]
      exact (row_of_lt (hn x0 x1) ⟨r.val, hr⟩ (2048 + k.val) (by omega)).symm
    · rw [dif_neg hr, dif_neg hr]
      exact (row_of_lt (m := 32) (n := 4096) x5 ⟨r.val - 256, by omega⟩ (2048 + k.val) (by omega)).symm

theorem out_lo (k : Fin 32) (o : Fin 14336) : val_main_v53 x0 x1 x2 x3 x4 x5 (ix2 ⟨256 + k.val, by omega⟩ o)
    = out (row (m := 32) (n := 4096) x5 k) (rowB x2 o) (row x3 o) (row x4 o) 2048 := by
  rw [out_eq]
  simp

theorem norm_eq (o : Fin 14336) : val_main_v76 x0 x1 x2 x3 x4 x5 x6 (ix1 o) = norm x2 x3 x4 x5 x6 o := by
  unfold norm sumsq
  rw [Finset.sum_range, Finset.sum_range]
  unfold val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_cst_4 val_main_cst_5 val_main_cst_6 val_main_cst_7 val_main_cst_8 val_main_cst_9 gram
  pointwise
  simp only [hi_eq, lo_eq, out_lo]

theorem u_eq (r : Fin 256) (o : Fin 14336) :
    val_main_v83 x0 x1 x2 x3 x4 x5 x6 (ix2 r o) = u (hn x0 x1) x2 x3 x4 x5 x6 r o := by
  unfold u
  unfold val_main_v83 val_main_v82 val_main_v81 val_main_v80 val_main_v79 val_main_v78 val_main_v77 val_main_cst_10 tr
  pointwise
  rw [hn_eq, out_eq]
  simp

theorem y_eq (r : Fin 256) (o : Fin 14336) :
    val_main_v87 x0 x1 x2 x3 x4 x5 x6 x7 (ix2 r o) = y (hn x0 x1) x2 x3 x4 x5 x6 x7 r o := by
  unfold y
  unfold val_main_v87 val_main_v86 val_main_v85 val_main_v84
  pointwise
  rw [u_eq, norm_eq]

theorem y2_eq : val_main_v157 x0 x1 x8 x9 x10 x11 x12 x13 = val_main_v87 x0 x1 x8 x9 x10 x11 x12 x13 := rfl

theorem act_eq (r : Fin 256) (o : Fin 14336) :
    val_main_v166 x0 x1 x2 x3 x4 x5 x6 x7 x8 x9 x10 x11 x12 x13 (ix2 r o) = gated (y (hn x0 x1) x2 x3 x4 x5 x6 x7 r o)
      (y (hn x0 x1) x8 x9 x10 x11 x12 x13 r o) := by
  unfold gated
  unfold val_main_v166 val_main_v165 val_main_v164 val_main_v163 val_main_v162 val_main_v161 val_main_v160 val_main_v159 val_main_v158 val_main_cst_20 val_main_cst_21
  pointwise
  rw [y2_eq, y_eq, y_eq]
  rfl

theorem td_eq (r : Fin 256) (s : Fin 32) :
    val_main_v167 x0 x1 x2 x3 x4 x5 x6 x7 x8 x9 x10 x11 x12 x13 x14 (ix2 r s)
      = ∑ o : Fin 14336, gated (y (hn x0 x1) x2 x3 x4 x5 x6 x7 r o) (y (hn x0 x1) x8 x9 x10 x11 x12 x13 r o) * x14 (ix2 s o) := by
  unfold val_main_v167
  pointwise
  simp only [act_eq]

end

end Cert.Fwd.Ref
-- ==== Proof.Fwd.Runs.lean ====
/- What the kernel's two runs share: the entry of the program, the blocks that the grid points read, the staging and
   scratch buffers, and the frame from a run. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1380000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 5 rfl).trans ((hA c 5).trans (V_main_arg2 m c)),
      (Pipeline.RDat.FramePost.arr_in h c 6 rfl).trans ((hA c 6).trans (V_main_arg3 m c)),
      (Pipeline.RDat.FramePost.arr_in h c 7 rfl).trans ((hA c 7).trans (V_main_arg4 m c)),
      (Pipeline.RDat.FramePost.arr_in h c 2 rfl).trans ((hA c 2).trans (V_main_arg5 m c)),
      (Pipeline.RDat.FramePost.arr_in h c 8 rfl).trans ((hA c 8).trans (V_main_arg6 m c)),
      ((h c).2 main_arg7 (Pipeline.mem_restRefs_of main_arg7 (by decide) (by decide))).trans (V_main_arg7 m c),
      (Pipeline.RDat.FramePost.arr_in h c 10 rfl).trans ((hA c 10).trans (V_main_arg8 m c)),
      (Pipeline.RDat.FramePost.arr_in h c 11 rfl).trans ((hA c 11).trans (V_main_arg9 m c)),
      (Pipeline.RDat.FramePost.arr_in h c 12 rfl).trans ((hA c 12).trans (V_main_arg10 m c)),
      (Pipeline.RDat.FramePost.arr_in h c 3 rfl).trans ((hA c 3).trans (V_main_arg11 m c)),
      (Pipeline.RDat.FramePost.arr_in h c 13 rfl).trans ((hA c 13).trans (V_main_arg12 m c)),
      ((h c).2 main_arg13 (Pipeline.mem_restRefs_of main_arg13 (by decide) (by decide))).trans (V_main_arg13 m c),
      (Pipeline.RDat.FramePost.arr_in h c 4 rfl).trans ((hA c 4).trans (V_main_arg14 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, k0_cond1, e0]
    word_cmp
   : ∀ t : Fin grid0.N, cond0_0 (grid0.coords t) ↔ t.val % 28 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an output stored at every point, under no condition). -/
theorem liveAt0_15 : ∀ t : Fin cfg0.N, cfg0.idle 15 (grid0.coords t) = false := fun _ => rfl
/-- Window 16 is never idle (an output stored at every point, under no condition). -/
theorem liveAt0_16 : ∀ t : Fin cfg0.N, cfg0.idle 16 (grid0.coords t) = false := fun _ => rfl
/-- Window 17 is never idle (an output stored at every point, under no condition). -/
theorem liveAt0_17 : ∀ t : Fin cfg0.N, cfg0.idle 17 (grid0.coords t) = false := fun _ => rfl
/-- Window 18 is never idle (an output stored at every point, under no condition). -/
theorem liveAt0_18 : ∀ t : Fin cfg0.N, cfg0.idle 18 (grid0.coords t) = false := fun _ => rfl
/-- Window 19 is never idle (an output stored at every point, under no condition). -/
theorem liveAt0_19 : ∀ t : Fin cfg0.N, cfg0.idle 19 (grid0.coords t) = false := fun _ => rfl
/-- Window 22 is never idle (an output stored at every point, under no condition). -/
theorem liveAt0_22 : ∀ t : Fin cfg0.N, cfg0.idle 22 (grid0.coords t) = false := fun _ => rfl
/-! ## The kernel body on any staging memrefs: a subtype the run finds -/

/-- One staging buffer of output window 15, through which its contents are stated (`View.read_writes_of_cover`: the
    choice does not matter). -/
abbrev VO0_15 : View sig .tc .vmem S256x512 .f32 := (Memref.whole cc0_stg15_0 : Memref sig .tc .vmem S256x512 .f32).view
/-- One staging buffer of output window 16, through which its contents are stated (`View.read_writes_of_cover`: the
    choice does not matter). -/
abbrev VO0_16 : View sig .tc .vmem S256x512 .f32 := (Memref.whole cc0_stg16_0 : Memref sig .tc .vmem S256x512 .f32).view
/-- One staging buffer of output window 17, through which its contents are stated (`View.read_writes_of_cover`: the
    choice does not matter). -/
abbrev VO0_17 : View sig .tc .vmem S256x512 .bf16 := (Memref.whole cc0_stg17_0 : Memref sig .tc .vmem S256x512 .bf16).view
/-- One staging buffer of output window 18, through which its contents are stated (`View.read_writes_of_cover`: the
    choice does not matter). -/
abbrev VO0_18 : View sig .tc .vmem S1x512 .f32 := (Memref.whole cc0_stg18_0 : Memref sig .tc .vmem S1x512 .f32).view
/-- One staging buffer of output window 19, through which its contents are stated (`View.read_writes_of_cover`: the
    choice does not matter). -/
abbrev VO0_19 : View sig .tc .vmem S1x512 .f32 := (Memref.whole cc0_stg19_0 : Memref sig .tc .vmem S1x512 .f32).view
/-- One staging buffer of output window 22, through which its contents are stated (`View.read_writes_of_cover`: the
    choice does not matter). -/
abbrev VO0_22 : View sig .tc .vmem S256x32 .f32 := (Memref.whole cc0_stg22_0 : Memref sig .tc .vmem S256x32 .f32).view
/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x64 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x32 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x2048 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x64 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x64 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x32 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x512 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x512 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x512 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x512 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x512 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x4096 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S256x64 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S256x32 .f32 := win0_22.stage (cfg0.slots t 22)
abbrev hs0_22 (t : Fin cfg0.N) : (ms0_22 t).IsWhole := hstage0_22 ((cfg0.slots t 22).cast nbuf0_22)
/-- The scratch operands: whole scoped buffers of the kernel's own, passed beside the windows. -/
abbrev scM0_0 : Memref sig .tc .vmem S256x4096 .bf16 := Memref.whole cc0_scratch0
abbrev scM0_1 : Memref sig .tc .vmem S32x4096 .bf16 := Memref.whole cc0_scratch1
abbrev scM0_2 : Memref sig .tc .vmem S32x4096 .bf16 := Memref.whole cc0_scratch2
abbrev scM0_3 : Memref sig .tc .vmem S352x32 .bf16 := Memref.whole cc0_scratch3
abbrev scM0_4 : Memref sig .tc .vmem S352x32 .bf16 := Memref.whole cc0_scratch4
abbrev scM0_5 : Memref sig .tc .vmem S64x512 .f32 := Memref.whole cc0_scratch5
abbrev scM0_6 : Memref sig .tc .vmem S64x512 .f32 := Memref.whole cc0_scratch6
abbrev scM0_7 : Memref sig .tc .vmem S64x512 .f32 := Memref.whole cc0_scratch7
abbrev scM0_8 : Memref sig .tc .vmem S64x512 .f32 := Memref.whole cc0_scratch8
/-- The scratch `arg24` the kernel carries between points, as a view: what it holds is stated through it. -/
abbrev VS0_0 : View sig .tc .vmem S256x4096 .bf16 := scM0_0.view
/-- The scratch `arg25` the kernel carries between points, as a view: what it holds is stated through it. -/
abbrev VS0_1 : View sig .tc .vmem S32x4096 .bf16 := scM0_1.view
/-- The scratch `arg26` the kernel carries between points, as a view: what it holds is stated through it. -/
abbrev VS0_2 : View sig .tc .vmem S32x4096 .bf16 := scM0_2.view
/-- The scratch `arg27` the kernel carries between points, as a view: what it holds is stated through it. -/
abbrev VS0_3 : View sig .tc .vmem S352x32 .bf16 := scM0_3.view
/-- The scratch `arg28` the kernel carries between points, as a view: what it holds is stated through it. -/
abbrev VS0_4 : View sig .tc .vmem S352x32 .bf16 := scM0_4.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.KernelIdeal.Hand

end
-- ==== Proof.Fwd.RunA.lean ====
/- The kernel's body at the first grid point: its triple, with the pieces that each buffer ends with. -/
module

public import proofs.«01_k».proof.Proof.Fwd.Runs

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5792000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (20, 21) at anything, handed back at some contents nothing names. -/
noncomputable def kernelRun0_A (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S32x4096 .bf16) (harg3 : arg3.IsWhole) (arg4 : Memref sig .tc .vmem S32x4096 .bf16) (harg4 : arg4.IsWhole) (arg5 : Memref sig .tc .vmem S32x512 .bf16) (harg5 : arg5.IsWhole) (arg6 : Memref sig .tc .vmem S512x2048 .i8) (harg6 : arg6.IsWhole) (arg7 : Memref sig .tc .vmem S512x64 .bf16) (harg7 : arg7.IsWhole) (arg8 : Memref sig .tc .vmem S512x64 .bf16) (harg8 : arg8.IsWhole) (arg9 : Memref sig .tc .vmem S512x32 .bf16) (harg9 : arg9.IsWhole) (arg10 : Memref sig .tc .vmem S1x512 .f32) (harg10 : arg10.IsWhole) (arg11 : Memref sig .tc .vmem S512x2048 .i8) (harg11 : arg11.IsWhole) (arg12 : Memref sig .tc .vmem S512x64 .bf16) (harg12 : arg12.IsWhole) (arg13 : Memref sig .tc .vmem S512x64 .bf16) (harg13 : arg13.IsWhole) (arg14 : Memref sig .tc .vmem S512x32 .bf16) (harg14 : arg14.IsWhole) (arg15 : Memref sig .tc .vmem S1x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .bf16) (harg18 : arg18.IsWhole) (arg19 : Memref sig .tc .vmem S1x512 .f32) (harg19 : arg19.IsWhole) (arg20 : Memref sig .tc .vmem S1x512 .f32) (harg20 : arg20.IsWhole) (arg21 : Memref sig .tc .vmem S256x4096 .bf16) (harg21 : arg21.IsWhole) (arg22 : Memref sig .tc .vmem S256x64 .bf16) (harg22 : arg22.IsWhole) (arg23 : Memref sig .tc .vmem S256x32 .f32) (harg23 : arg23.IsWhole) (arg24 : Memref sig .tc .vmem S256x4096 .bf16) (harg24 : arg24.IsWhole) (arg25 : Memref sig .tc .vmem S32x4096 .bf16) (harg25 : arg25.IsWhole) (arg26 : Memref sig .tc .vmem S32x4096 .bf16) (harg26 : arg26.IsWhole) (arg27 : Memref sig .tc .vmem S352x32 .bf16) (harg27 : arg27.IsWhole) (arg28 : Memref sig .tc .vmem S352x32 .bf16) (harg28 : arg28.IsWhole) (arg29 : Memref sig .tc .vmem S64x512 .f32) (harg29 : arg29.IsWhole) (arg30 : Memref sig .tc .vmem S64x512 .f32) (harg30 : arg30.IsWhole) (arg31 : Memref sig .tc .vmem S64x512 .f32) (harg31 : arg31.IsWhole) (arg32 : Memref sig .tc .vmem S64x512 .f32) (harg32 : arg32.IsWhole) (hc0 : cond0_0 i)
    (x0 : Vec F S256x4096 .bf16) (x1 : Vec F S1x4096 .f32) (x2 : Vec F S32x4096 .bf16) (x3 : Vec F S32x4096 .bf16) (x4 : Vec F S32x512 .bf16) (x5 : Vec F S512x2048 .i8) (x6 : Vec F S512x64 .bf16) (x7 : Vec F S512x64 .bf16) (x8 : Vec F S512x32 .bf16) (x9 : Vec F S1x512 .f32) (x10 : Vec F S512x2048 .i8) (x11 : Vec F S512x64 .bf16) (x12 : Vec F S512x64 .bf16) (x13 : Vec F S512x32 .bf16) (x14 : Vec F S1x512 .f32) :
    Σ' (L15 : List (View.Piece (Elt F) S256x512 .f32)), Σ' (L16 : List (View.Piece (Elt F) S256x512 .f32)), Σ' (L17 : List (View.Piece (Elt F) S256x512 .bf16)), Σ' (L18 : List (View.Piece (Elt F) S1x512 .f32)), Σ' (L19 : List (View.Piece (Elt F) S1x512 .f32)), Σ' (L22 : List (View.Piece (Elt F) S256x32 .f32)), Σ' (LS0 : List (View.Piece (Elt F) S256x4096 .bf16)), Σ' (LS1 : List (View.Piece (Elt F) S32x4096 .bf16)), Σ' (LS2 : List (View.Piece (Elt F) S32x4096 .bf16)), Σ' (LS3 : List (View.Piece (Elt F) S352x32 .bf16)), Σ' (LS4 : List (View.Piece (Elt F) S352x32 .bf16)), Σ' (LT5 : List (View.Piece (Elt F) S64x512 .f32)), Σ' (LT6 : List (View.Piece (Elt F) S64x512 .f32)), Σ' (LT7 : List (View.Piece (Elt F) S64x512 .f32)), { LT8 : List (View.Piece (Elt F) S64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ d, owns (c : Thread nD τ) arg21 fullShare d) ∗ (∃ d, owns (c : Thread nD τ) arg22 fullShare d) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1) ∗ (∃ f, arg26.view.loc (c : Thread nD τ) ↦[arg26.view.set]{fullShare} arg26.view.writes (Elt F) f LS2) ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4) ∗ (∃ f, arg29.view.loc (c : Thread nD τ) ↦[arg29.view.set]{fullShare} arg29.view.writes (Elt F) f LT5) ∗ (∃ f, arg30.view.loc (c : Thread nD τ) ↦[arg30.view.set]{fullShare} arg30.view.writes (Elt F) f LT6) ∗ (∃ f, arg31.view.loc (c : Thread nD τ) ↦[arg31.view.set]{fullShare} arg31.view.writes (Elt F) f LT7) ∗ (∃ f, arg32.view.loc (c : Thread nD τ) ↦[arg32.view.set]{fullShare} arg32.view.writes (Elt F) f LT8)) -∗ K ⟨⟩))
          ⊢ wp frame (wpE (defs₀ (F := F)) Variants.none c none) E (cc0_gate_up_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, ?_, ?_, ?_, ?_, ?_, ?_, ?_, ?_, ?_, fun E K => ?run⟩
  case run =>
    simp only [cc0_gate_up_fwd_eq_skeleton]; unfold cc0_gate_up_fwd_skel
    simp only [k0_part251_eq_skeleton, k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part252_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part253_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part254_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]
    · iexists _, _; isplitr; swap; · iexact H20
      ipureintro; rfl
    isplitl [H21]
    · iexists _, _; isplitr; swap; · iexact H21
      ipureintro; rfl
    isplitl [H22]; · iexists _; iexact H22
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.KernelIdeal.Hand

end
-- ==== Proof.Fwd.RunB.lean ====
/- The kernel's body at a later grid point: its triple, with the pieces that each buffer ends with. -/
module

public import proofs.«01_k».proof.Proof.Fwd.RunA

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5644000 in
/-- What the body's stores leave in each output's staging memref, as pieces (last first) IN CASE B (`scf.if` 0 not taken: points 1, 2, … 27: 27 of 28), WITH the
    proof that on whole staging memrefs — the inputs' at their contents, the outputs it reads before covering (22) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (20, 21) at anything, handed back at some contents nothing names. -/
noncomputable def kernelRun0_B (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S32x4096 .bf16) (harg3 : arg3.IsWhole) (arg4 : Memref sig .tc .vmem S32x4096 .bf16) (harg4 : arg4.IsWhole) (arg5 : Memref sig .tc .vmem S32x512 .bf16) (harg5 : arg5.IsWhole) (arg6 : Memref sig .tc .vmem S512x2048 .i8) (harg6 : arg6.IsWhole) (arg7 : Memref sig .tc .vmem S512x64 .bf16) (harg7 : arg7.IsWhole) (arg8 : Memref sig .tc .vmem S512x64 .bf16) (harg8 : arg8.IsWhole) (arg9 : Memref sig .tc .vmem S512x32 .bf16) (harg9 : arg9.IsWhole) (arg10 : Memref sig .tc .vmem S1x512 .f32) (harg10 : arg10.IsWhole) (arg11 : Memref sig .tc .vmem S512x2048 .i8) (harg11 : arg11.IsWhole) (arg12 : Memref sig .tc .vmem S512x64 .bf16) (harg12 : arg12.IsWhole) (arg13 : Memref sig .tc .vmem S512x64 .bf16) (harg13 : arg13.IsWhole) (arg14 : Memref sig .tc .vmem S512x32 .bf16) (harg14 : arg14.IsWhole) (arg15 : Memref sig .tc .vmem S1x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .bf16) (harg18 : arg18.IsWhole) (arg19 : Memref sig .tc .vmem S1x512 .f32) (harg19 : arg19.IsWhole) (arg20 : Memref sig .tc .vmem S1x512 .f32) (harg20 : arg20.IsWhole) (arg21 : Memref sig .tc .vmem S256x4096 .bf16) (harg21 : arg21.IsWhole) (arg22 : Memref sig .tc .vmem S256x64 .bf16) (harg22 : arg22.IsWhole) (arg23 : Memref sig .tc .vmem S256x32 .f32) (harg23 : arg23.IsWhole) (arg24 : Memref sig .tc .vmem S256x4096 .bf16) (harg24 : arg24.IsWhole) (arg25 : Memref sig .tc .vmem S32x4096 .bf16) (harg25 : arg25.IsWhole) (arg26 : Memref sig .tc .vmem S32x4096 .bf16) (harg26 : arg26.IsWhole) (arg27 : Memref sig .tc .vmem S352x32 .bf16) (harg27 : arg27.IsWhole) (arg28 : Memref sig .tc .vmem S352x32 .bf16) (harg28 : arg28.IsWhole) (arg29 : Memref sig .tc .vmem S64x512 .f32) (harg29 : arg29.IsWhole) (arg30 : Memref sig .tc .vmem S64x512 .f32) (harg30 : arg30.IsWhole) (arg31 : Memref sig .tc .vmem S64x512 .f32) (harg31 : arg31.IsWhole) (arg32 : Memref sig .tc .vmem S64x512 .f32) (harg32 : arg32.IsWhole) (hc0 : ¬cond0_0 i)
    (x0 : Vec F S256x4096 .bf16) (x1 : Vec F S1x4096 .f32) (x2 : Vec F S32x4096 .bf16) (x3 : Vec F S32x4096 .bf16) (x4 : Vec F S32x512 .bf16) (x5 : Vec F S512x2048 .i8) (x6 : Vec F S512x64 .bf16) (x7 : Vec F S512x64 .bf16) (x8 : Vec F S512x32 .bf16) (x9 : Vec F S1x512 .f32) (x10 : Vec F S512x2048 .i8) (x11 : Vec F S512x64 .bf16) (x12 : Vec F S512x64 .bf16) (x13 : Vec F S512x32 .bf16) (x14 : Vec F S1x512 .f32) (xo22 : Vec F S256x32 .f32) (xs0 : Vec F S256x4096 .bf16) (xs1 : Vec F S32x4096 .bf16) (xs2 : Vec F S32x4096 .bf16) (xs3 : Vec F S352x32 .bf16) (xs4 : Vec F S352x32 .bf16) :
    Σ' (L15 : List (View.Piece (Elt F) S256x512 .f32)), Σ' (L16 : List (View.Piece (Elt F) S256x512 .f32)), Σ' (L17 : List (View.Piece (Elt F) S256x512 .bf16)), Σ' (L18 : List (View.Piece (Elt F) S1x512 .f32)), Σ' (L19 : List (View.Piece (Elt F) S1x512 .f32)), Σ' (L22 : List (View.Piece (Elt F) S256x32 .f32)), Σ' (LS0 : List (View.Piece (Elt F) S256x4096 .bf16)), Σ' (LS1 : List (View.Piece (Elt F) S32x4096 .bf16)), Σ' (LS2 : List (View.Piece (Elt F) S32x4096 .bf16)), Σ' (LS3 : List (View.Piece (Elt F) S352x32 .bf16)), Σ' (LS4 : List (View.Piece (Elt F) S352x32 .bf16)), Σ' (LT5 : List (View.Piece (Elt F) S64x512 .f32)), Σ' (LT6 : List (View.Piece (Elt F) S64x512 .f32)), Σ' (LT7 : List (View.Piece (Elt F) S64x512 .f32)), { LT8 : List (View.Piece (Elt F) S64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xo22 ∗ owns (c : Thread nD τ) arg24 fullShare xs0 ∗ owns (c : Thread nD τ) arg25 fullShare xs1 ∗ owns (c : Thread nD τ) arg26 fullShare xs2 ∗ owns (c : Thread nD τ) arg27 fullShare xs3 ∗ owns (c : Thread nD τ) arg28 fullShare xs4 ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ d, owns (c : Thread nD τ) arg21 fullShare d) ∗ (∃ d, owns (c : Thread nD τ) arg22 fullShare d) ∗ (∃ f, arg23.view.loc (c : Thread nD τ) ↦[arg23.view.set]{fullShare} arg23.view.writes (Elt F) f L22) ∗ owns (c : Thread nD τ) arg24 fullShare xs0 ∗ owns (c : Thread nD τ) arg25 fullShare xs1 ∗ owns (c : Thread nD τ) arg26 fullShare xs2 ∗ owns (c : Thread nD τ) arg27 fullShare xs3 ∗ owns (c : Thread nD τ) arg28 fullShare xs4 ∗ (∃ f, arg29.view.loc (c : Thread nD τ) ↦[arg29.view.set]{fullShare} arg29.view.writes (Elt F) f LT5) ∗ (∃ f, arg30.view.loc (c : Thread nD τ) ↦[arg30.view.set]{fullShare} arg30.view.writes (Elt F) f LT6) ∗ (∃ f, arg31.view.loc (c : Thread nD τ) ↦[arg31.view.set]{fullShare} arg31.view.writes (Elt F) f LT7) ∗ (∃ f, arg32.view.loc (c : Thread nD τ) ↦[arg32.view.set]{fullShare} arg32.view.writes (Elt F) f LT8)) -∗ K ⟨⟩))
          ⊢ wp frame (wpE (defs₀ (F := F)) Variants.none c none) E (cc0_gate_up_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, [], [], [], [], [], ?_, ?_, ?_, ?_, fun E K => ?run⟩
  case run =>
    simp only [cc0_gate_up_fwd_eq_skeleton]; unfold cc0_gate_up_fwd_skel
    simp only [k0_part251_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part252_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part253_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part254_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%fs0, %hfs0, HS0⟩, ⟨%fs1, %hfs1, HS1⟩, ⟨%fs2, %hfs2, HS2⟩, ⟨%fs3, %hfs3, HS3⟩, ⟨%fs4, %hfs4, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg23.eq_unread hf22; obtain rfl := harg24.eq_unread hfs0; obtain rfl := harg25.eq_unread hfs1; obtain rfl := harg26.eq_unread hfs2; obtain rfl := harg27.eq_unread hfs3; obtain rfl := harg28.eq_unread hfs4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]
    · iexists _, _; isplitr; swap; · iexact H20
      ipureintro; rfl
    isplitl [H21]
    · iexists _, _; isplitr; swap; · iexact H21
      ipureintro; rfl
    isplitl [H22]; · iexists _; iexact H22
    isplitl [HS0]
    · iexists _; isplitr; · ipureintro; exact harg24.read_unread _
      iexact HS0
    isplitl [HS1]
    · iexists _; isplitr; · ipureintro; exact harg25.read_unread _
      iexact HS1
    isplitl [HS2]
    · iexists _; isplitr; · ipureintro; exact harg26.read_unread _
      iexact HS2
    isplitl [HS3]
    · iexists _; isplitr; · ipureintro; exact harg27.read_unread _
      iexact HS3
    isplitl [HS4]
    · iexists _; isplitr; · ipureintro; exact harg28.read_unread _
      iexact HS4
    isplitl [HS5]; · iexists _; iexact HS5
    isplitl [HS6]; · iexists _; iexact HS6
    isplitl [HS7]; · iexists _; iexact HS7
    iexists _; iexact HS8

end Cert.KernelIdeal.Hand

end
-- ==== Proof.Fwd.Outs.lean ====
/- What each output and each scratch buffer holds after each grid point, and the invariant between the points. -/
module

public import proofs.«01_k».proof.Proof.Fwd.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's run, on the blocks that it reads. -/
abbrev runA (c : Dev nD) (t : Fin cfg0.N) (hc0 : cond0_0 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) hc0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- A later point's run, on the blocks that it reads. -/
abbrev runB (c : Dev nD) (t : Fin cfg0.N) (hc0 : ¬cond0_0 (grid0.coords t)) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) hc0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- Case A's pieces for output 15 tile its block (2 stores of `S256x256`, checked by the kernel's evaluation: Lib/Ring.lean `Piece.tiledL`, linear in the pieces, through a loop's `@[irreducible]` trip theorem too), so they cover it. -/
theorem cover0_A_15 (c : Dev nD) (t : Fin cfg0.N) (hc0 : cond0_0 (grid0.coords t)) (y : S256x512.Idx) :
    ∃ pc ∈ (runA m c t hc0).1, y ∈ pc.1.set :=
  View.cover_of_tiledL (runA m c t hc0).1 S256x256.size (by sl_kernel_rfl) y

/-- What case A leaves in output 15's staging buffer: its pieces read back over junk. -/
def out0_A_15 (c : Dev nD) (t : Fin cfg0.N) (hc0 : cond0_0 (grid0.coords t)) : Vec F S256x512 .f32 :=
  VO0_15.read (Elt F) (VO0_15.writes (Elt F) VO0_15.junk (runA m c t hc0).1)

/-- Case A's pieces for output 16 tile its block (2 stores of `S256x256`, checked by the kernel's evaluation: Lib/Ring.lean `Piece.tiledL`, linear in the pieces, through a loop's `@[irreducible]` trip theorem too), so they cover it. -/
theorem cover0_A_16 (c : Dev nD) (t : Fin cfg0.N) (hc0 : cond0_0 (grid0.coords t)) (y : S256x512.Idx) :
    ∃ pc ∈ (runA m c t hc0).2.1, y ∈ pc.1.set :=
  View.cover_of_tiledL (runA m c t hc0).2.1 S256x256.size (by sl_kernel_rfl) y

/-- What case A leaves in output 16's staging buffer: its pieces read back over junk. -/
def out0_A_16 (c : Dev nD) (t : Fin cfg0.N) (hc0 : cond0_0 (grid0.coords t)) : Vec F S256x512 .f32 :=
  VO0_16.read (Elt F) (VO0_16.writes (Elt F) VO0_16.junk (runA m c t hc0).2.1)

/-- Case A's pieces for output 17 tile its block (2 stores of `S256x256`, checked by the kernel's evaluation: Lib/Ring.lean `Piece.tiledL`, linear in the pieces, through a loop's `@[irreducible]` trip theorem too), so they cover it. -/
theorem cover0_A_17 (c : Dev nD) (t : Fin cfg0.N) (hc0 : cond0_0 (grid0.coords t)) (y : S256x512.Idx) :
    ∃ pc ∈ (runA m c t hc0).2.2.1, y ∈ pc.1.set :=
  View.cover_of_tiledL (runA m c t hc0).2.2.1 S256x256.size (by sl_kernel_rfl) y

/-- What case A leaves in output 17's staging buffer: its pieces read back over junk. -/
def out0_A_17 (c : Dev nD) (t : Fin cfg0.N) (hc0 : cond0_0 (grid0.coords t)) : Vec F S256x512 .bf16 :=
  VO0_17.read (Elt F) (VO0_17.writes (Elt F) VO0_17.junk (runA m c t hc0).2.2.1)

/-- Case A's pieces for output 18 tile its block (2 stores of `S1x256`, checked by the kernel's evaluation: Lib/Ring.lean `Piece.tiledL`, linear in the pieces, through a loop's `@[irreducible]` trip theorem too), so they cover it. -/
theorem cover0_A_18 (c : Dev nD) (t : Fin cfg0.N) (hc0 : cond0_0 (grid0.coords t)) (y : S1x512.Idx) :
    ∃ pc ∈ (runA m c t hc0).2.2.2.1, y ∈ pc.1.set :=
  View.cover_of_tiledL (runA m c t hc0).2.2.2.1 S1x256.size (by sl_kernel_rfl) y

/-- What case A leaves in output 18's staging buffer: its pieces read back over junk. -/
def out0_A_18 (c : Dev nD) (t : Fin cfg0.N) (hc0 : cond0_0 (grid0.coords t)) : Vec F S1x512 .f32 :=
  VO0_18.read (Elt F) (VO0_18.writes (Elt F) VO0_18.junk (runA m c t hc0).2.2.2.1)

/-- Case A's pieces for output 19 tile its block (2 stores of `S1x256`, checked by the kernel's evaluation: Lib/Ring.lean `Piece.tiledL`, linear in the pieces, through a loop's `@[irreducible]` trip theorem too), so they cover it. -/
theorem cover0_A_19 (c : Dev nD) (t : Fin cfg0.N) (hc0 : cond0_0 (grid0.coords t)) (y : S1x512.Idx) :
    ∃ pc ∈ (runA m c t hc0).2.2.2.2.1, y ∈ pc.1.set :=
  View.cover_of_tiledL (runA m c t hc0).2.2.2.2.1 S1x256.size (by sl_kernel_rfl) y

/-- What case A leaves in output 19's staging buffer: its pieces read back over junk. -/
def out0_A_19 (c : Dev nD) (t : Fin cfg0.N) (hc0 : cond0_0 (grid0.coords t)) : Vec F S1x512 .f32 :=
  VO0_19.read (Elt F) (VO0_19.writes (Elt F) VO0_19.junk (runA m c t hc0).2.2.2.2.1)

/-- Case A's pieces for output 22 tile its block (3 stores of `S256x32`, checked by the kernel's evaluation: Lib/Ring.lean `Piece.tiledL`, linear in the pieces, through a loop's `@[irreducible]` trip theorem too), so they cover it. -/
theorem cover0_A_22 (c : Dev nD) (t : Fin cfg0.N) (hc0 : cond0_0 (grid0.coords t)) (y : S256x32.Idx) :
    ∃ pc ∈ (runA m c t hc0).2.2.2.2.2.1, y ∈ pc.1.set :=
  View.cover_of_tiledL (runA m c t hc0).2.2.2.2.2.1 S256x32.size (by sl_kernel_rfl) y

/-- What case A leaves in output 22's staging buffer: its pieces read back over junk. -/
def out0_A_22 (c : Dev nD) (t : Fin cfg0.N) (hc0 : cond0_0 (grid0.coords t)) : Vec F S256x32 .f32 :=
  VO0_22.read (Elt F) (VO0_22.writes (Elt F) VO0_22.junk (runA m c t hc0).2.2.2.2.2.1)

/-- Case A's pieces for scratch `arg24`, which the kernel carries between points, cover it: 1 piece of `S256x4096` tiling it (Lib/Ring.lean `Piece.tiledL`). -/
theorem scover0_A_0 (c : Dev nD) (t : Fin cfg0.N) (hc0 : cond0_0 (grid0.coords t)) (y : S256x4096.Idx) :
    ∃ pc ∈ (runA m c t hc0).2.2.2.2.2.2.1, y ∈ pc.1.set :=
  View.cover_of_tiledL (runA m c t hc0).2.2.2.2.2.2.1 S256x4096.size (by sl_kernel_rfl) y

/-- What case A leaves in scratch `arg24`: its pieces read back over junk. -/
def sout0_A_0 (c : Dev nD) (t : Fin cfg0.N) (hc0 : cond0_0 (grid0.coords t)) : Vec F S256x4096 .bf16 :=
  VS0_0.read (Elt F) (VS0_0.writes (Elt F) VS0_0.junk (runA m c t hc0).2.2.2.2.2.2.1)

/-- Case A's pieces for scratch `arg25`, which the kernel carries between points, cover it: 1 piece of `S32x4096` tiling it (Lib/Ring.lean `Piece.tiledL`). -/
theorem scover0_A_1 (c : Dev nD) (t : Fin cfg0.N) (hc0 : cond0_0 (grid0.coords t)) (y : S32x4096.Idx) :
    ∃ pc ∈ (runA m c t hc0).2.2.2.2.2.2.2.1, y ∈ pc.1.set :=
  View.cover_of_tiledL (runA m c t hc0).2.2.2.2.2.2.2.1 S32x4096.size (by sl_kernel_rfl) y

/-- What case A leaves in scratch `arg25`: its pieces read back over junk. -/
def sout0_A_1 (c : Dev nD) (t : Fin cfg0.N) (hc0 : cond0_0 (grid0.coords t)) : Vec F S32x4096 .bf16 :=
  VS0_1.read (Elt F) (VS0_1.writes (Elt F) VS0_1.junk (runA m c t hc0).2.2.2.2.2.2.2.1)

/-- Case A's pieces for scratch `arg26`, which the kernel carries between points, cover it: 1 piece of `S32x4096` tiling it (Lib/Ring.lean `Piece.tiledL`). -/
theorem scover0_A_2 (c : Dev nD) (t : Fin cfg0.N) (hc0 : cond0_0 (grid0.coords t)) (y : S32x4096.Idx) :
    ∃ pc ∈ (runA m c t hc0).2.2.2.2.2.2.2.2.1, y ∈ pc.1.set :=
  View.cover_of_tiledL (runA m c t hc0).2.2.2.2.2.2.2.2.1 S32x4096.size (by sl_kernel_rfl) y

/-- What case A leaves in scratch `arg26`: its pieces read back over junk. -/
def sout0_A_2 (c : Dev nD) (t : Fin cfg0.N) (hc0 : cond0_0 (grid0.coords t)) : Vec F S32x4096 .bf16 :=
  VS0_2.read (Elt F) (VS0_2.writes (Elt F) VS0_2.junk (runA m c t hc0).2.2.2.2.2.2.2.2.1)

/-- Case A's pieces for scratch `arg27`, which the kernel carries between points, cover it: 1 piece of `S352x32` tiling it (Lib/Ring.lean `Piece.tiledL`). -/
theorem scover0_A_3 (c : Dev nD) (t : Fin cfg0.N) (hc0 : cond0_0 (grid0.coords t)) (y : S352x32.Idx) :
    ∃ pc ∈ (runA m c t hc0).2.2.2.2.2.2.2.2.2.1, y ∈ pc.1.set :=
  View.cover_of_tiledL (runA m c t hc0).2.2.2.2.2.2.2.2.2.1 S352x32.size (by sl_kernel_rfl) y

/-- What case A leaves in scratch `arg27`: its pieces read back over junk. -/
def sout0_A_3 (c : Dev nD) (t : Fin cfg0.N) (hc0 : cond0_0 (grid0.coords t)) : Vec F S352x32 .bf16 :=
  VS0_3.read (Elt F) (VS0_3.writes (Elt F) VS0_3.junk (runA m c t hc0).2.2.2.2.2.2.2.2.2.1)

/-- Case A's pieces for scratch `arg28`, which the kernel carries between points, cover it: 1 piece of `S352x32` tiling it (Lib/Ring.lean `Piece.tiledL`). -/
theorem scover0_A_4 (c : Dev nD) (t : Fin cfg0.N) (hc0 : cond0_0 (grid0.coords t)) (y : S352x32.Idx) :
    ∃ pc ∈ (runA m c t hc0).2.2.2.2.2.2.2.2.2.2.1, y ∈ pc.1.set :=
  View.cover_of_tiledL (runA m c t hc0).2.2.2.2.2.2.2.2.2.2.1 S352x32.size (by sl_kernel_rfl) y

/-- What case A leaves in scratch `arg28`: its pieces read back over junk. -/
def sout0_A_4 (c : Dev nD) (t : Fin cfg0.N) (hc0 : cond0_0 (grid0.coords t)) : Vec F S352x32 .bf16 :=
  VS0_4.read (Elt F) (VS0_4.writes (Elt F) VS0_4.junk (runA m c t hc0).2.2.2.2.2.2.2.2.2.2.1)

/-- Case B's pieces for output 15 tile its block (2 stores of `S256x256`, checked by the kernel's evaluation: Lib/Ring.lean `Piece.tiledL`, linear in the pieces, through a loop's `@[irreducible]` trip theorem too), so they cover it. -/
theorem cover0_B_15 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) (y : S256x512.Idx) :
    ∃ pc ∈ (runB m c t hc0 xo22 xs0 xs1 xs2 xs3 xs4).1, y ∈ pc.1.set :=
  View.cover_of_tiledL (runB m c t hc0 xo22 xs0 xs1 xs2 xs3 xs4).1 S256x256.size (by sl_kernel_rfl) y

/-- What case B leaves in output 15's staging buffer: its pieces read back over junk. -/
def out0_B_15 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S256x512 .f32 :=
  VO0_15.read (Elt F) (VO0_15.writes (Elt F) VO0_15.junk (runB m c t hc0 xo22 xs0 xs1 xs2 xs3 xs4).1)

/-- Case B's pieces for output 16 tile its block (2 stores of `S256x256`, checked by the kernel's evaluation: Lib/Ring.lean `Piece.tiledL`, linear in the pieces, through a loop's `@[irreducible]` trip theorem too), so they cover it. -/
theorem cover0_B_16 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) (y : S256x512.Idx) :
    ∃ pc ∈ (runB m c t hc0 xo22 xs0 xs1 xs2 xs3 xs4).2.1, y ∈ pc.1.set :=
  View.cover_of_tiledL (runB m c t hc0 xo22 xs0 xs1 xs2 xs3 xs4).2.1 S256x256.size (by sl_kernel_rfl) y

/-- What case B leaves in output 16's staging buffer: its pieces read back over junk. -/
def out0_B_16 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S256x512 .f32 :=
  VO0_16.read (Elt F) (VO0_16.writes (Elt F) VO0_16.junk (runB m c t hc0 xo22 xs0 xs1 xs2 xs3 xs4).2.1)

/-- Case B's pieces for output 17 tile its block (2 stores of `S256x256`, checked by the kernel's evaluation: Lib/Ring.lean `Piece.tiledL`, linear in the pieces, through a loop's `@[irreducible]` trip theorem too), so they cover it. -/
theorem cover0_B_17 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) (y : S256x512.Idx) :
    ∃ pc ∈ (runB m c t hc0 xo22 xs0 xs1 xs2 xs3 xs4).2.2.1, y ∈ pc.1.set :=
  View.cover_of_tiledL (runB m c t hc0 xo22 xs0 xs1 xs2 xs3 xs4).2.2.1 S256x256.size (by sl_kernel_rfl) y

/-- What case B leaves in output 17's staging buffer: its pieces read back over junk. -/
def out0_B_17 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S256x512 .bf16 :=
  VO0_17.read (Elt F) (VO0_17.writes (Elt F) VO0_17.junk (runB m c t hc0 xo22 xs0 xs1 xs2 xs3 xs4).2.2.1)

/-- Case B's pieces for output 18 tile its block (2 stores of `S1x256`, checked by the kernel's evaluation: Lib/Ring.lean `Piece.tiledL`, linear in the pieces, through a loop's `@[irreducible]` trip theorem too), so they cover it. -/
theorem cover0_B_18 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) (y : S1x512.Idx) :
    ∃ pc ∈ (runB m c t hc0 xo22 xs0 xs1 xs2 xs3 xs4).2.2.2.1, y ∈ pc.1.set :=
  View.cover_of_tiledL (runB m c t hc0 xo22 xs0 xs1 xs2 xs3 xs4).2.2.2.1 S1x256.size (by sl_kernel_rfl) y

/-- What case B leaves in output 18's staging buffer: its pieces read back over junk. -/
def out0_B_18 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S1x512 .f32 :=
  VO0_18.read (Elt F) (VO0_18.writes (Elt F) VO0_18.junk (runB m c t hc0 xo22 xs0 xs1 xs2 xs3 xs4).2.2.2.1)

/-- Case B's pieces for output 19 tile its block (2 stores of `S1x256`, checked by the kernel's evaluation: Lib/Ring.lean `Piece.tiledL`, linear in the pieces, through a loop's `@[irreducible]` trip theorem too), so they cover it. -/
theorem cover0_B_19 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) (y : S1x512.Idx) :
    ∃ pc ∈ (runB m c t hc0 xo22 xs0 xs1 xs2 xs3 xs4).2.2.2.2.1, y ∈ pc.1.set :=
  View.cover_of_tiledL (runB m c t hc0 xo22 xs0 xs1 xs2 xs3 xs4).2.2.2.2.1 S1x256.size (by sl_kernel_rfl) y

/-- What case B leaves in output 19's staging buffer: its pieces read back over junk. -/
def out0_B_19 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S1x512 .f32 :=
  VO0_19.read (Elt F) (VO0_19.writes (Elt F) VO0_19.junk (runB m c t hc0 xo22 xs0 xs1 xs2 xs3 xs4).2.2.2.2.1)

/-- Case B's pieces for output 22 tile its block (2 stores of `S256x32`, checked by the kernel's evaluation: Lib/Ring.lean `Piece.tiledL`, linear in the pieces, through a loop's `@[irreducible]` trip theorem too), so they cover it. -/
theorem cover0_B_22 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) (y : S256x32.Idx) :
    ∃ pc ∈ (runB m c t hc0 xo22 xs0 xs1 xs2 xs3 xs4).2.2.2.2.2.1, y ∈ pc.1.set :=
  View.cover_of_tiledL (runB m c t hc0 xo22 xs0 xs1 xs2 xs3 xs4).2.2.2.2.2.1 S256x32.size (by sl_kernel_rfl) y

/-- What case B leaves in output 22's staging buffer: its pieces read back over junk. -/
def out0_B_22 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S256x32 .f32 :=
  VO0_22.read (Elt F) (VO0_22.writes (Elt F) VO0_22.junk (runB m c t hc0 xo22 xs0 xs1 xs2 xs3 xs4).2.2.2.2.2.1)

/-- Case B stores nothing into scratch `arg24`: it holds what the point before left. -/
def sout0_B_0 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S256x4096 .bf16 := xs0

/-- Case B stores nothing into scratch `arg25`: it holds what the point before left. -/
def sout0_B_1 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S32x4096 .bf16 := xs1

/-- Case B stores nothing into scratch `arg26`: it holds what the point before left. -/
def sout0_B_2 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S32x4096 .bf16 := xs2

/-- Case B stores nothing into scratch `arg27`: it holds what the point before left. -/
def sout0_B_3 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S352x32 .bf16 := xs3

/-- Case B stores nothing into scratch `arg28`: it holds what the point before left. -/
def sout0_B_4 (c : Dev nD) (t : Fin cfg0.N) (hc0 : ¬cond0_0 (grid0.coords t)) (xo22 : Vec F S256x32 .f32) (xs0 : Vec F S256x4096 .bf16) (xs1 : Vec F S32x4096 .bf16) (xs2 : Vec F S32x4096 .bf16) (xs3 : Vec F S352x32 .bf16) (xs4 : Vec F S352x32 .bf16) : Vec F S352x32 .bf16 := xs4

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x512 .f32 × Vec F S256x512 .f32 × Vec F S256x512 .bf16 × Vec F S1x512 .f32 × Vec F S1x512 .f32 × Vec F S256x32 .f32 × Vec F S256x4096 .bf16 × Vec F S32x4096 .bf16 × Vec F S32x4096 .bf16 × Vec F S352x32 .bf16 × Vec F S352x32 .bf16
  | 0, hn => (out0_A_15 m c ⟨0, hn⟩ ((hcond0_0 ⟨0, hn⟩).mpr (Nat.zero_mod _)), out0_A_16 m c ⟨0, hn⟩ ((hcond0_0 ⟨0, hn⟩).mpr (Nat.zero_mod _)), out0_A_17 m c ⟨0, hn⟩ ((hcond0_0 ⟨0, hn⟩).mpr (Nat.zero_mod _)), out0_A_18 m c ⟨0, hn⟩ ((hcond0_0 ⟨0, hn⟩).mpr (Nat.zero_mod _)), out0_A_19 m c ⟨0, hn⟩ ((hcond0_0 ⟨0, hn⟩).mpr (Nat.zero_mod _)), out0_A_22 m c ⟨0, hn⟩ ((hcond0_0 ⟨0, hn⟩).mpr (Nat.zero_mod _)), sout0_A_0 m c ⟨0, hn⟩ ((hcond0_0 ⟨0, hn⟩).mpr (Nat.zero_mod _)), sout0_A_1 m c ⟨0, hn⟩ ((hcond0_0 ⟨0, hn⟩).mpr (Nat.zero_mod _)), sout0_A_2 m c ⟨0, hn⟩ ((hcond0_0 ⟨0, hn⟩).mpr (Nat.zero_mod _)), sout0_A_3 m c ⟨0, hn⟩ ((hcond0_0 ⟨0, hn⟩).mpr (Nat.zero_mod _)), sout0_A_4 m c ⟨0, hn⟩ ((hcond0_0 ⟨0, hn⟩).mpr (Nat.zero_mod _)))
  | n + 1, hn =>
    if h0 : (n + 1) % 28 = 0 then
      (out0_A_15 m c ⟨n + 1, hn⟩ ((hcond0_0 ⟨n + 1, hn⟩).mpr h0), out0_A_16 m c ⟨n + 1, hn⟩ ((hcond0_0 ⟨n + 1, hn⟩).mpr h0), out0_A_17 m c ⟨n + 1, hn⟩ ((hcond0_0 ⟨n + 1, hn⟩).mpr h0), out0_A_18 m c ⟨n + 1, hn⟩ ((hcond0_0 ⟨n + 1, hn⟩).mpr h0), out0_A_19 m c ⟨n + 1, hn⟩ ((hcond0_0 ⟨n + 1, hn⟩).mpr h0), out0_A_22 m c ⟨n + 1, hn⟩ ((hcond0_0 ⟨n + 1, hn⟩).mpr h0), sout0_A_0 m c ⟨n + 1, hn⟩ ((hcond0_0 ⟨n + 1, hn⟩).mpr h0), sout0_A_1 m c ⟨n + 1, hn⟩ ((hcond0_0 ⟨n + 1, hn⟩).mpr h0), sout0_A_2 m c ⟨n + 1, hn⟩ ((hcond0_0 ⟨n + 1, hn⟩).mpr h0), sout0_A_3 m c ⟨n + 1, hn⟩ ((hcond0_0 ⟨n + 1, hn⟩).mpr h0), sout0_A_4 m c ⟨n + 1, hn⟩ ((hcond0_0 ⟨n + 1, hn⟩).mpr h0))
    else
      (out0_B_15 m c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_16 m c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_17 m c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_18 m c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_19 m c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_22 m c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_B_0 c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_B_1 c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_B_2 c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_B_3 c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_B_4 c ⟨n + 1, hn⟩ (fun h => h0 ((hcond0_0 ⟨n + 1, hn⟩).mp h)) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2)

/-- `outsAt0` at a point of case A: that case's contents. -/
theorem outsAt0_A (c : Dev nD) (t : Fin cfg0.N) (h0 : t.val % 28 = 0) :
    outsAt0 m c t.val t.isLt = (out0_A_15 m c t ((hcond0_0 t).mpr h0), out0_A_16 m c t ((hcond0_0 t).mpr h0), out0_A_17 m c t ((hcond0_0 t).mpr h0), out0_A_18 m c t ((hcond0_0 t).mpr h0), out0_A_19 m c t ((hcond0_0 t).mpr h0), out0_A_22 m c t ((hcond0_0 t).mpr h0), sout0_A_0 m c t ((hcond0_0 t).mpr h0), sout0_A_1 m c t ((hcond0_0 t).mpr h0), sout0_A_2 m c t ((hcond0_0 t).mpr h0), sout0_A_3 m c t ((hcond0_0 t).mpr h0), sout0_A_4 m c t ((hcond0_0 t).mpr h0)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 28 = 0) :
    outsAt0 m c t.val t.isLt = (out0_B_15 m c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_B_16 m c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_B_17 m c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_B_18 m c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_B_19 m c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_B_22 m c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, sout0_B_0 c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, sout0_B_1 c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, sout0_B_2 c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, sout0_B_3 c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, sout0_B_4 c t (fun h => h0 ((hcond0_0 t).mp h)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2.1) ∗ owns (c : Thread nD τ) scM0_3 fullShare ((outsAt0 m c n hn).2.2.2.2.2.2.2.2.2.1) ∗ owns (c : Thread nD τ) scM0_4 fullShare ((outsAt0 m c n hn).2.2.2.2.2.2.2.2.2.2) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2.1) ∗ owns (c : Thread nD τ) scM0_3 fullShare ((outsAt0 m c n hn).2.2.2.2.2.2.2.2.2.1) ∗ owns (c : Thread nD τ) scM0_4 fullShare ((outsAt0 m c n hn).2.2.2.2.2.2.2.2.2.2) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2.1) ∗ owns (c : Thread nD τ) scM0_2 fullShare ((outsAt0 m c (n - 1) (by omega)).2.2.2.2.2.2.2.2.1) ∗ owns (c : Thread nD τ) scM0_3 fullShare ((outsAt0 m c (n - 1) (by omega)).2.2.2.2.2.2.2.2.2.1) ∗ owns (c : Thread nD τ) scM0_4 fullShare ((outsAt0 m c (n - 1) (by omega)).2.2.2.2.2.2.2.2.2.2) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  cases n with
  | zero => exact absurd rfl hz
  | succ n => rfl

/-! ## The pipeline's proof data -/

/-- The output windows this certificate FORGETS (20, 21): nothing reads what the kernel leaves in them, so nothing
    of it is named (Lib/Pipeline/Dat.lean `Dat.toRForget`). -/
def forgets0 : Fin 23 → Bool := fun w => w.val == 20 || w.val == 21
theorem forgets0_15 : forgets0 (15 : Fin 23) = false := by decide
theorem forgets0_16 : forgets0 (16 : Fin 23) = false := by decide
theorem forgets0_17 : forgets0 (17 : Fin 23) = false := by decide
theorem forgets0_18 : forgets0 (18 : Fin 23) = false := by decide
theorem forgets0_19 : forgets0 (19 : Fin 23) = false := by decide
theorem forgets0_22 : forgets0 (22 : Fin 23) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2.1
    | ⟨17, _⟩ => (outsAt0 m c t.val t.isLt).2.2.1
    | ⟨18, _⟩ => (outsAt0 m c t.val t.isLt).2.2.2.1
    | ⟨19, _⟩ => (outsAt0 m c t.val t.isLt).2.2.2.2.1
    | ⟨20, h⟩ => Pipeline.Dat.unnamed (cfg := cfg0) ⟨20, h⟩ t
    | ⟨21, h⟩ => Pipeline.Dat.unnamed (cfg := cfg0) ⟨21, h⟩ t
    | ⟨22, _⟩ => (outsAt0 m c t.val t.isLt).2.2.2.2.2.1
    | ⟨_ + 23, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]
theorem after0_16 (c : Dev nD) (t : Fin cfg0.N) : (dats m 0 c).after 16 t = (outsAt0 m c t.val t.isLt).2.1 := by dsimp only [dats]
theorem after0_17 (c : Dev nD) (t : Fin cfg0.N) : (dats m 0 c).after 17 t = (outsAt0 m c t.val t.isLt).2.2.1 := by dsimp only [dats]
theorem after0_18 (c : Dev nD) (t : Fin cfg0.N) : (dats m 0 c).after 18 t = (outsAt0 m c t.val t.isLt).2.2.2.1 := by dsimp only [dats]
theorem after0_19 (c : Dev nD) (t : Fin cfg0.N) : (dats m 0 c).after 19 t = (outsAt0 m c t.val t.isLt).2.2.2.2.1 := by dsimp only [dats]
theorem after0_22 (c : Dev nD) (t : Fin cfg0.N) : (dats m 0 c).after 22 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
/-- At a point of case B output 22's current staging buffer holds what the body left at the point before: the point is
    not the first, the buffer was not written back between (`flush0_22`), the window is live and uncut (Lib/Pipeline/Frame.lean
    `Dat.before_out_kept`). -/
theorem before0_22_B (c : Dev nD) (t : Fin cfg0.N) (h0 : ¬t.val % 28 = 0) (d) :
    (dats m 0 c).before 22 t d = (outsAt0 m c (t.val - 1) (Nat.lt_of_le_of_lt (Nat.sub_le _ _) t.isLt)).2.2.2.2.2.1 := by
  have hN : t.val < 28 := lt_of_lt_of_eq t.isLt (show cfg0.N = 28 from N_0)
  rw [Dat.before_out_kept _ 22 rfl t (by omega) (Bool.eq_false_iff.mpr fun h => by have := (flush0_22 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare d)
    ∗ (∃ d, owns (c : Thread nD τ) (ms0_21 t) fullShare d)
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (∃ d, owns (c : Thread nD τ) (ms0_20 t) fullShare d)
    ∗ (∃ d, owns (c : Thread nD τ) (ms0_21 t) fullShare d)
    ∗ (dats m 0 c).leavesExact 22 t)

end Cert.KernelIdeal.Hand

end
-- ==== Proof.Fwd.Link.lean ====
/- The pieces that a grid point's run leaves in its outputs, as the tiles computed from its loads. -/
module

public import proofs.«01_k».proof.Proof.Fwd.Outs
public import proofs.«01_k».proof.Proof.Fwd.Loads

@[expose] public section

set_option maxRecDepth 16384

noncomputable section

namespace Cert.Fwd

open Cert.KernelIdeal Cert.KernelIdeal.Gen Cert.KernelIdeal.Hand Idealize.ShloMosaic Idealize.ShloMosaic.TcCoe

variable {F : FTy → Type} [FloatOps F]

variable (m : (ℓ : Loc nD τ sig) → Buf (Elt F) ℓ) (c : Dev nD) (t : Fin cfg0.N)

/-- The normalised input, as the first point computes it. -/
def hA : Vec F S256x4096 .bf16 := k0_pay3 (rdW (ms0_0 t) (hs0_0 t) (iblk m c 0 t)) (rdW (ms0_1 t) (hs0_1 t) (iblk m c 1 t))

/-- The two low-rank factors, as the first point copies them. -/
def agA : Vec F S32x4096 .bf16 := k0_pay4 (rdW (ms0_2 t) (hs0_2 t) (iblk m c 2 t))
def auA : Vec F S32x4096 .bf16 := k0_pay5 (rdW (ms0_3 t) (hs0_3 t) (iblk m c 3 t))

/-- The low-rank rows, as the first point computes them. -/
def lgA : Vec F S352x32 .bf16 := k0_pay9 (ldW scM0_0 [stW (hA m c t)]) (ldW scM0_1 [stW (agA m c t)]) (ldW scM0_1 [stW (agA m c t)])
def luA : Vec F S352x32 .bf16 := k0_pay10 (ldW scM0_0 [stW (hA m c t)]) (ldW scM0_2 [stW (auA m c t)]) (ldW scM0_2 [stW (auA m c t)])

/-- The gate projection's loads, given its chunks and low-rank rows. -/
def gate (H : ℕ → Vec F S256x128 .bf16) (A : ℕ → Vec F S32x128 .bf16) (L : Vec F S352x32 .bf16) : Half F :=
  halfOf H A L (ms0_5 t) (hs0_5 t) (iblk m c 5 t) (ms0_6 t) (hs0_6 t) (iblk m c 6 t) scM0_5 (ms0_7 t) (hs0_7 t) (iblk m c 7 t)
    scM0_6 (ms0_8 t) (hs0_8 t) (iblk m c 8 t) (ms0_9 t) (hs0_9 t) (iblk m c 9 t)

/-- The up projection's loads, given its chunks and low-rank rows. -/
def up (H : ℕ → Vec F S256x128 .bf16) (A : ℕ → Vec F S32x128 .bf16) (L : Vec F S352x32 .bf16) : Half F :=
  halfOf H A L (ms0_10 t) (hs0_10 t) (iblk m c 10 t) (ms0_11 t) (hs0_11 t) (iblk m c 11 t) scM0_7 (ms0_12 t) (hs0_12 t)
    (iblk m c 12 t) scM0_8 (ms0_13 t) (hs0_13 t) (iblk m c 13 t) (ms0_14 t) (hs0_14 t) (iblk m c 14 t)

/-- The two projections' loads at the first point. -/
def gA : Half F := gate m c t (ldH scM0_0 (hA m c t)) (ldA scM0_1 (agA m c t)) (ldW scM0_3 [stW (lgA m c t)])
def uA : Half F := up m c t (ldH scM0_0 (hA m c t)) (ldA scM0_2 (auA m c t)) (ldW scM0_4 [stW (luA m c t)])

/-- The two projections' loads at a later point, from what the point before left. -/
def gB (xs0 : Vec F S256x4096 .bf16) (xs1 : Vec F S32x4096 .bf16) (xs3 : Vec F S352x32 .bf16) : Half F :=
  gate m c t (ldHu scM0_0 (Memref.isWhole_whole _) xs0) (ldAu scM0_1 (Memref.isWhole_whole _) xs1) (rdW scM0_3 (Memref.isWhole_whole _) xs3)
def uB (xs0 : Vec F S256x4096 .bf16) (xs2 : Vec F S32x4096 .bf16) (xs4 : Vec F S352x32 .bf16) : Half F :=
  up m c t (ldHu scM0_0 (Memref.isWhole_whole _) xs0) (ldAu scM0_2 (Memref.isWhole_whole _) xs2) (rdW scM0_4 (Memref.isWhole_whole _) xs4)

/-- Two tiles stored side by side, the second half last. -/
def two {e : EltTy} (x : ℕ → Vec F S256x256 e) : List (View.Piece (Elt F) S256x512 e) :=
  [⟨Rect.unit ![0, 256] S256x256.size inb_S256x512_S256x256_0_256, x 1⟩, ⟨Rect.unit ![0, 0] S256x256.size inb_S256x512_S256x256_0_0, x 0⟩]

def twoR {e : EltTy} (x : ℕ → Vec F S1x256 e) : List (View.Piece (Elt F) S1x512 e) :=
  [⟨Rect.unit ![0, 256] S1x256.size inb_S1x512_S1x256_0_256, x 1⟩, ⟨Rect.unit ![0, 0] S1x256.size inb_S1x512_S1x256_0_0, x 0⟩]

section A

variable (hc0 : cond0_0 (grid0.coords t))

set_option maxHeartbeats 0

theorem runA_15 : (runA m c t hc0).1 = two (gA m c t).u := by sl_kernel_rfl
theorem runA_16 : (runA m c t hc0).2.1 = two (uA m c t).u := by sl_kernel_rfl
theorem runA_17 : (runA m c t hc0).2.2.1 = two (actT (gA m c t) (uA m c t)) := by sl_kernel_rfl
theorem runA_18 : (runA m c t hc0).2.2.2.1 = twoR (gA m c t).n := by sl_kernel_rfl
theorem runA_19 : (runA m c t hc0).2.2.2.2.1 = twoR (uA m c t).n := by sl_kernel_rfl

theorem runA_22 : (runA m c t hc0).2.2.2.2.2.1 =
    [stW (dT (actT (gA m c t) (uA m c t) 1)
        (ldW (ms0_22 t) [stW (dT (actT (gA m c t) (uA m c t) 0) (ldW (ms0_22 t) [stW k0_pay11])
          (ldD (ms0_4 t) (hs0_4 t) (iblk m c 4 t) 0)), stW k0_pay11]) (ldD (ms0_4 t) (hs0_4 t) (iblk m c 4 t) 1)),
     stW (dT (actT (gA m c t) (uA m c t) 0) (ldW (ms0_22 t) [stW k0_pay11]) (ldD (ms0_4 t) (hs0_4 t) (iblk m c 4 t) 0)),
     stW k0_pay11] := by sl_kernel_rfl
theorem runA_s0 : (runA m c t hc0).2.2.2.2.2.2.1 = [stW (hA m c t)] := by sl_kernel_rfl
theorem runA_s1 : (runA m c t hc0).2.2.2.2.2.2.2.1 = [stW (agA m c t)] := by sl_kernel_rfl
theorem runA_s2 : (runA m c t hc0).2.2.2.2.2.2.2.2.1 = [stW (auA m c t)] := by sl_kernel_rfl
theorem runA_s3 : (runA m c t hc0).2.2.2.2.2.2.2.2.2.1 = [stW (lgA m c t)] := by sl_kernel_rfl
theorem runA_s4 : (runA m c t hc0).2.2.2.2.2.2.2.2.2.2.1 = [stW (luA m c t)] := by sl_kernel_rfl

end A

section B

variable (hc0 : ¬cond0_0 (grid0.coords t)) (xo22 : Vec F S256x32 .f32) (xs0 : Vec F S256x4096 .bf16) (xs1 xs2 : Vec F S32x4096 .bf16)
  (xs3 xs4 : Vec F S352x32 .bf16)

set_option maxHeartbeats 0

theorem runB_15 : (runB m c t hc0 xo22 xs0 xs1 xs2 xs3 xs4).1 = two (gB m c t xs0 xs1 xs3).u := by sl_kernel_rfl
theorem runB_16 : (runB m c t hc0 xo22 xs0 xs1 xs2 xs3 xs4).2.1 = two (uB m c t xs0 xs2 xs4).u := by sl_kernel_rfl
theorem runB_17 : (runB m c t hc0 xo22 xs0 xs1 xs2 xs3 xs4).2.2.1 = two (actT (gB m c t xs0 xs1 xs3) (uB m c t xs0 xs2 xs4)) := by
  sl_kernel_rfl
theorem runB_18 : (runB m c t hc0 xo22 xs0 xs1 xs2 xs3 xs4).2.2.2.1 = twoR (gB m c t xs0 xs1 xs3).n := by sl_kernel_rfl
theorem runB_19 : (runB m c t hc0 xo22 xs0 xs1 xs2 xs3 xs4).2.2.2.2.1 = twoR (uB m c t xs0 xs2 xs4).n := by sl_kernel_rfl
theorem runB_22 : (runB m c t hc0 xo22 xs0 xs1 xs2 xs3 xs4).2.2.2.2.2.1 =
    [stW (dT (actT (gB m c t xs0 xs1 xs3) (uB m c t xs0 xs2 xs4) 1)
        (ldW (ms0_22 t) [stW (dT (actT (gB m c t xs0 xs1 xs3) (uB m c t xs0 xs2 xs4) 0) (rdW (ms0_22 t) (hs0_22 t) xo22)
          (ldD (ms0_4 t) (hs0_4 t) (iblk m c 4 t) 0))]) (ldD (ms0_4 t) (hs0_4 t) (iblk m c 4 t) 1)),
     stW (dT (actT (gB m c t xs0 xs1 xs3) (uB m c t xs0 xs2 xs4) 0) (rdW (ms0_22 t) (hs0_22 t) xo22)
       (ldD (ms0_4 t) (hs0_4 t) (iblk m c 4 t) 0))] := by sl_kernel_rfl

end B

end Cert.Fwd
-- ==== Proof.Fwd.Blocks.lean ====
/- The blocks that a grid point reads, as parts of the argument arrays. -/
module

public import proofs.«01_k».proof.Proof.Fwd.Runs
public import proofs.«01_k».proof.Proof.Fwd.Spec

@[expose] public section

set_option maxRecDepth 16384

noncomputable section

namespace Cert.Fwd

open Cert.KernelIdeal Cert.KernelIdeal.Gen Cert.KernelIdeal.Hand Idealize.ShloMosaic Idealize.ShloMosaic.TcCoe Idealize.ShloMosaic.StableHlo

variable {F : FTy → Type} [FloatOps F]

variable (m : (ℓ : Loc nD τ sig) → Buf (Elt F) ℓ) (c : Dev nD) (t : Fin cfg0.N)

theorem V_v0 : V m c main_v0 = shapeCast S256x4096 (m ((c : Thread nD τ).loc main_arg0)) shapeCasts_S2x128x4096_S256x4096 := by
  show StableHlo.after hostOps0 (fun b => m (c, b)) main_v0 = _
  after_results
  rfl
theorem V_v1 : V m c main_v1 = shapeCast S1x4096 (m ((c : Thread nD τ).loc main_arg1)) shapeCasts_S4096_S1x4096 := by
  show StableHlo.after hostOps0 (fun b => m (c, b)) main_v1 = _
  after_results
  rfl
theorem V_v2 : V m c main_v2 = shapeCast S1x14336 (m ((c : Thread nD τ).loc main_arg7)) shapeCasts_S14336_S1x14336 := by
  show StableHlo.after hostOps0 (fun b => m (c, b)) main_v2 = _
  after_results
  rfl
theorem V_v3 : V m c main_v3 = shapeCast S1x14336 (m ((c : Thread nD τ).loc main_arg13)) shapeCasts_S14336_S1x14336 := by
  show StableHlo.after hostOps0 (fun b => m (c, b)) main_v3 = _
  after_results
  rfl

/-- The grid has 28 points. -/
abbrev pt (t : Fin cfg0.N) : Fin 28 := ⟨t.val, lt_of_lt_of_eq t.isLt N_0⟩

theorem cast_x (x : (⟨S2x128x4096, .bf16⟩ : BufTy).Contents (Elt F)) (r : Fin 256) (k : Fin 4096) :
    shapeCast S256x4096 x shapeCasts_S2x128x4096_S256x4096 (ix2 r k) = x (ix3 ⟨r.val / 128, by omega⟩ ⟨r.val % 128, by omega⟩ k) := by
  pointwise
theorem cast_nw (x : (⟨S4096, .f32⟩ : BufTy).Contents (Elt F)) (k : Fin 4096) :
    shapeCast S1x4096 x shapeCasts_S4096_S1x4096 (ix2 0 k) = x (ix1 k) := by
  pointwise
theorem cast_m (x : (⟨S14336, .f32⟩ : BufTy).Contents (Elt F)) (k : Fin 14336) :
    shapeCast S1x14336 x shapeCasts_S14336_S1x14336 (ix2 0 k) = x (ix1 k) := by
  pointwise

theorem at0 : ∀ t : Fin cfg0.N, win0_0.index t (0 : Fin 2) = 0 ∧ win0_0.index t (1 : Fin 2) = 0 :=
  (by decide +kernel : ∀ t : Fin grid0.N, _)

theorem blk0 (r : Fin 256) (k : Fin 4096) :
    iblk m c 0 t (ix2 r k) = m ((c : Thread nD τ).loc main_arg0) (ix3 ⟨r.val / 128, by omega⟩ ⟨r.val % 128, by omega⟩ k) := by
  obtain ⟨e0, e1⟩ := at0 t
  show V m c main_v0 (((cfg0.win 0).blk t).view.emb (ix2 r k)) = _
  rw [V_v0]
  refine (congrArg _ (funext fun a => Fin.ext ?_)).trans (cast_x _ r k)
  match a with
  | ⟨0, _⟩ => show win0_0.index t (0 : Fin 2) * 256 + 1 * r.val = r.val; omega
  | ⟨1, _⟩ => show win0_0.index t (1 : Fin 2) * 4096 + 1 * k.val = k.val; omega

theorem at1 : ∀ t : Fin cfg0.N, win0_1.index t (0 : Fin 2) = 0 ∧ win0_1.index t (1 : Fin 2) = 0 :=
  (by decide +kernel : ∀ t : Fin grid0.N, _)

theorem blk1 (k : Fin 4096) : iblk m c 1 t (ix2 0 k) = m ((c : Thread nD τ).loc main_arg1) (ix1 k) := by
  obtain ⟨e0, e1⟩ := at1 t
  show V m c main_v1 (((cfg0.win 1).blk t).view.emb (ix2 0 k)) = _
  rw [V_v1]
  refine (congrArg _ (funext fun a => Fin.ext ?_)).trans (cast_nw _ k)
  match a with
  | ⟨0, _⟩ => show win0_1.index t (0 : Fin 2) * 1 + 1 * 0 = 0; omega
  | ⟨1, _⟩ => show win0_1.index t (1 : Fin 2) * 4096 + 1 * k.val = k.val; omega

theorem at2 : ∀ t : Fin cfg0.N, win0_2.index t (0 : Fin 2) = 0 ∧ win0_2.index t (1 : Fin 2) = 0 :=
  (by decide +kernel : ∀ t : Fin grid0.N, _)

theorem blk2 (l : Fin 32) (k : Fin 4096) :
    iblk m c 2 t (ix2 l k) = m ((c : Thread nD τ).loc main_arg5) (ix2 l k) := by
  obtain ⟨e0, e1⟩ := at2 t
  show V m c main_arg5 (((cfg0.win 2).blk t).view.emb (ix2 l k)) = _
  rw [V_main_arg5]
  refine congrArg _ (funext fun a => Fin.ext ?_)
  match a with
  | ⟨0, _⟩ => show win0_2.index t (0 : Fin 2) * 32 + 1 * l.val = l.val; omega
  | ⟨1, _⟩ => show win0_2.index t (1 : Fin 2) * 4096 + 1 * k.val = k.val; omega

theorem at3 : ∀ t : Fin cfg0.N, win0_3.index t (0 : Fin 2) = 0 ∧ win0_3.index t (1 : Fin 2) = 0 :=
  (by decide +kernel : ∀ t : Fin grid0.N, _)

theorem blk3 (l : Fin 32) (k : Fin 4096) :
    iblk m c 3 t (ix2 l k) = m ((c : Thread nD τ).loc main_arg11) (ix2 l k) := by
  obtain ⟨e0, e1⟩ := at3 t
  show V m c main_arg11 (((cfg0.win 3).blk t).view.emb (ix2 l k)) = _
  rw [V_main_arg11]
  refine congrArg _ (funext fun a => Fin.ext ?_)
  match a with
  | ⟨0, _⟩ => show win0_3.index t (0 : Fin 2) * 32 + 1 * l.val = l.val; omega
  | ⟨1, _⟩ => show win0_3.index t (1 : Fin 2) * 4096 + 1 * k.val = k.val; omega

theorem at4 : ∀ t : Fin cfg0.N, win0_4.index t (0 : Fin 2) = 0 ∧ win0_4.index t (1 : Fin 2) = t.val :=
  (by decide +kernel : ∀ t : Fin grid0.N, _)

theorem blk4 (l : Fin 32) (k : Fin 512) :
    iblk m c 4 t (ix2 l k) = m ((c : Thread nD τ).loc main_arg14) (ix2 l ⟨512 * (pt t).val + k.val, by omega⟩) := by
  obtain ⟨e0, e1⟩ := at4 t
  show V m c main_arg14 (((cfg0.win 4).blk t).view.emb (ix2 l k)) = _
  rw [V_main_arg14]
  refine congrArg _ (funext fun a => Fin.ext ?_)
  match a with
  | ⟨0, _⟩ => show win0_4.index t (0 : Fin 2) * 32 + 1 * l.val = l.val; omega
  | ⟨1, _⟩ => show win0_4.index t (1 : Fin 2) * 512 + 1 * k.val = 512 * t.val + k.val; omega

theorem at5 : ∀ t : Fin cfg0.N, win0_5.index t (0 : Fin 2) = t.val ∧ win0_5.index t (1 : Fin 2) = 0 :=
  (by decide +kernel : ∀ t : Fin grid0.N, _)

theorem blk5 (l : Fin 512) (k : Fin 2048) :
    iblk m c 5 t (ix2 l k) = m ((c : Thread nD τ).loc main_arg2) (ix2 ⟨512 * (pt t).val + l.val, by omega⟩ k) := by
  obtain ⟨e0, e1⟩ := at5 t
  show V m c main_arg2 (((cfg0.win 5).blk t).view.emb (ix2 l k)) = _
  rw [V_main_arg2]
  refine congrArg _ (funext fun a => Fin.ext ?_)
  match a with
  | ⟨0, _⟩ => show win0_5.index t (0 : Fin 2) * 512 + 1 * l.val = 512 * t.val + l.val; omega
  | ⟨1, _⟩ => show win0_5.index t (1 : Fin 2) * 2048 + 1 * k.val = k.val; omega

theorem at6 : ∀ t : Fin cfg0.N, win0_6.index t (0 : Fin 2) = t.val ∧ win0_6.index t (1 : Fin 2) = 0 :=
  (by decide +kernel : ∀ t : Fin grid0.N, _)

theorem blk6 (l : Fin 512) (k : Fin 64) :
    iblk m c 6 t (ix2 l k) = m ((c : Thread nD τ).loc main_arg3) (ix2 ⟨512 * (pt t).val + l.val, by omega⟩ k) := by
  obtain ⟨e0, e1⟩ := at6 t
  show V m c main_arg3 (((cfg0.win 6).blk t).view.emb (ix2 l k)) = _
  rw [V_main_arg3]
  refine congrArg _ (funext fun a => Fin.ext ?_)
  match a with
  | ⟨0, _⟩ => show win0_6.index t (0 : Fin 2) * 512 + 1 * l.val = 512 * t.val + l.val; omega
  | ⟨1, _⟩ => show win0_6.index t (1 : Fin 2) * 64 + 1 * k.val = k.val; omega

theorem at7 : ∀ t : Fin cfg0.N, win0_7.index t (0 : Fin 2) = t.val ∧ win0_7.index t (1 : Fin 2) = 0 :=
  (by decide +kernel : ∀ t : Fin grid0.N, _)

theorem blk7 (l : Fin 512) (k : Fin 64) :
    iblk m c 7 t (ix2 l k) = m ((c : Thread nD τ).loc main_arg4) (ix2 ⟨512 * (pt t).val + l.val, by omega⟩ k) := by
  obtain ⟨e0, e1⟩ := at7 t
  show V m c main_arg4 (((cfg0.win 7).blk t).view.emb (ix2 l k)) = _
  rw [V_main_arg4]
  refine congrArg _ (funext fun a => Fin.ext ?_)
  match a with
  | ⟨0, _⟩ => show win0_7.index t (0 : Fin 2) * 512 + 1 * l.val = 512 * t.val + l.val; omega
  | ⟨1, _⟩ => show win0_7.index t (1 : Fin 2) * 64 + 1 * k.val = k.val; omega

theorem at8 : ∀ t : Fin cfg0.N, win0_8.index t (0 : Fin 2) = t.val ∧ win0_8.index t (1 : Fin 2) = 0 :=
  (by decide +kernel : ∀ t : Fin grid0.N, _)

theorem blk8 (l : Fin 512) (k : Fin 32) :
    iblk m c 8 t (ix2 l k) = m ((c : Thread nD τ).loc main_arg6) (ix2 ⟨512 * (pt t).val + l.val, by omega⟩ k) := by
  obtain ⟨e0, e1⟩ := at8 t
  show V m c main_arg6 (((cfg0.win 8).blk t).view.emb (ix2 l k)) = _
  rw [V_main_arg6]
  refine congrArg _ (funext fun a => Fin.ext ?_)
  match a with
  | ⟨0, _⟩ => show win0_8.index t (0 : Fin 2) * 512 + 1 * l.val = 512 * t.val + l.val; omega
  | ⟨1, _⟩ => show win0_8.index t (1 : Fin 2) * 32 + 1 * k.val = k.val; omega

theorem at9 : ∀ t : Fin cfg0.N, win0_9.index t (0 : Fin 2) = 0 ∧ win0_9.index t (1 : Fin 2) = t.val :=
  (by decide +kernel : ∀ t : Fin grid0.N, _)

theorem blk9 (l : Fin 512) :
    iblk m c 9 t (ix2 0 l) = m ((c : Thread nD τ).loc main_arg7) (ix1 ⟨512 * (pt t).val + l.val, by omega⟩) := by
  obtain ⟨e0, e1⟩ := at9 t
  show V m c main_v2 (((cfg0.win 9).blk t).view.emb (ix2 0 l)) = _
  rw [V_v2]
  refine (congrArg _ (funext fun a => Fin.ext ?_)).trans (cast_m _ ⟨512 * (pt t).val + l.val, by omega⟩)
  match a with
  | ⟨0, _⟩ => show win0_9.index t (0 : Fin 2) * 1 + 1 * 0 = 0; omega
  | ⟨1, _⟩ => show win0_9.index t (1 : Fin 2) * 512 + 1 * l.val = 512 * t.val + l.val; omega

theorem at10 : ∀ t : Fin cfg0.N, win0_10.index t (0 : Fin 2) = t.val ∧ win0_10.index t (1 : Fin 2) = 0 :=
  (by decide +kernel : ∀ t : Fin grid0.N, _)

theorem blk10 (l : Fin 512) (k : Fin 2048) :
    iblk m c 10 t (ix2 l k) = m ((c : Thread nD τ).loc main_arg8) (ix2 ⟨512 * (pt t).val + l.val, by omega⟩ k) := by
  obtain ⟨e0, e1⟩ := at10 t
  show V m c main_arg8 (((cfg0.win 10).blk t).view.emb (ix2 l k)) = _
  rw [V_main_arg8]
  refine congrArg _ (funext fun a => Fin.ext ?_)
  match a with
  | ⟨0, _⟩ => show win0_10.index t (0 : Fin 2) * 512 + 1 * l.val = 512 * t.val + l.val; omega
  | ⟨1, _⟩ => show win0_10.index t (1 : Fin 2) * 2048 + 1 * k.val = k.val; omega

theorem at11 : ∀ t : Fin cfg0.N, win0_11.index t (0 : Fin 2) = t.val ∧ win0_11.index t (1 : Fin 2) = 0 :=
  (by decide +kernel : ∀ t : Fin grid0.N, _)

theorem blk11 (l : Fin 512) (k : Fin 64) :
    iblk m c 11 t (ix2 l k) = m ((c : Thread nD τ).loc main_arg9) (ix2 ⟨512 * (pt t).val + l.val, by omega⟩ k) := by
  obtain ⟨e0, e1⟩ := at11 t
  show V m c main_arg9 (((cfg0.win 11).blk t).view.emb (ix2 l k)) = _
  rw [V_main_arg9]
  refine congrArg _ (funext fun a => Fin.ext ?_)
  match a with
  | ⟨0, _⟩ => show win0_11.index t (0 : Fin 2) * 512 + 1 * l.val = 512 * t.val + l.val; omega
  | ⟨1, _⟩ => show win0_11.index t (1 : Fin 2) * 64 + 1 * k.val = k.val; omega

theorem at12 : ∀ t : Fin cfg0.N, win0_12.index t (0 : Fin 2) = t.val ∧ win0_12.index t (1 : Fin 2) = 0 :=
  (by decide +kernel : ∀ t : Fin grid0.N, _)

theorem blk12 (l : Fin 512) (k : Fin 64) :
    iblk m c 12 t (ix2 l k) = m ((c : Thread nD τ).loc main_arg10) (ix2 ⟨512 * (pt t).val + l.val, by omega⟩ k) := by
  obtain ⟨e0, e1⟩ := at12 t
  show V m c main_arg10 (((cfg0.win 12).blk t).view.emb (ix2 l k)) = _
  rw [V_main_arg10]
  refine congrArg _ (funext fun a => Fin.ext ?_)
  match a with
  | ⟨0, _⟩ => show win0_12.index t (0 : Fin 2) * 512 + 1 * l.val = 512 * t.val + l.val; omega
  | ⟨1, _⟩ => show win0_12.index t (1 : Fin 2) * 64 + 1 * k.val = k.val; omega

theorem at13 : ∀ t : Fin cfg0.N, win0_13.index t (0 : Fin 2) = t.val ∧ win0_13.index t (1 : Fin 2) = 0 :=
  (by decide +kernel : ∀ t : Fin grid0.N, _)

theorem blk13 (l : Fin 512) (k : Fin 32) :
    iblk m c 13 t (ix2 l k) = m ((c : Thread nD τ).loc main_arg12) (ix2 ⟨512 * (pt t).val + l.val, by omega⟩ k) := by
  obtain ⟨e0, e1⟩ := at13 t
  show V m c main_arg12 (((cfg0.win 13).blk t).view.emb (ix2 l k)) = _
  rw [V_main_arg12]
  refine congrArg _ (funext fun a => Fin.ext ?_)
  match a with
  | ⟨0, _⟩ => show win0_13.index t (0 : Fin 2) * 512 + 1 * l.val = 512 * t.val + l.val; omega
  | ⟨1, _⟩ => show win0_13.index t (1 : Fin 2) * 32 + 1 * k.val = k.val; omega

theorem at14 : ∀ t : Fin cfg0.N, win0_14.index t (0 : Fin 2) = 0 ∧ win0_14.index t (1 : Fin 2) = t.val :=
  (by decide +kernel : ∀ t : Fin grid0.N, _)

theorem blk14 (l : Fin 512) :
    iblk m c 14 t (ix2 0 l) = m ((c : Thread nD τ).loc main_arg13) (ix1 ⟨512 * (pt t).val + l.val, by omega⟩) := by
  obtain ⟨e0, e1⟩ := at14 t
  show V m c main_v3 (((cfg0.win 14).blk t).view.emb (ix2 0 l)) = _
  rw [V_v3]
  refine (congrArg _ (funext fun a => Fin.ext ?_)).trans (cast_m _ ⟨512 * (pt t).val + l.val, by omega⟩)
  match a with
  | ⟨0, _⟩ => show win0_14.index t (0 : Fin 2) * 1 + 1 * 0 = 0; omega
  | ⟨1, _⟩ => show win0_14.index t (1 : Fin 2) * 512 + 1 * l.val = 512 * t.val + l.val; omega

end Cert.Fwd
-- ==== Proof.Fwd.Okay.lean ====
/- What each grid point leaves in the outputs and in the scratch buffers, over the extended reals. -/
module

public import proofs.«01_k».proof.Proof.Fwd.Link
public import proofs.«01_k».proof.Proof.Fwd.Rows
public import proofs.«01_k».proof.Proof.Fwd.Blocks

@[expose] public section

set_option maxRecDepth 16384

noncomputable section

namespace Cert.Fwd

open Cert.KernelIdeal Cert.KernelIdeal.Gen Cert.KernelIdeal.Hand Idealize.ShloMosaic Idealize.ShloMosaic.TcCoe

variable (m : (ℓ : Loc nD τ sig) → Buf (Elt Ideal) ℓ) (c : Dev nD)

/-! ### The arguments -/

abbrev x0 : (⟨3, ![2, 128, 4096]⟩ : Shape).Idx → EReal := m ((c : Thread nD τ).loc main_arg0)
abbrev x1 : Line 4096 := m ((c : Thread nD τ).loc main_arg1)
abbrev x2 : Bytes 14336 2048 := m ((c : Thread nD τ).loc main_arg2)
abbrev x3 : Arr 14336 64 := m ((c : Thread nD τ).loc main_arg3)
abbrev x4 : Arr 14336 64 := m ((c : Thread nD τ).loc main_arg4)
abbrev x5 : Arr 32 4096 := m ((c : Thread nD τ).loc main_arg5)
abbrev x6 : Arr 14336 32 := m ((c : Thread nD τ).loc main_arg6)
abbrev x7 : Line 14336 := m ((c : Thread nD τ).loc main_arg7)
abbrev x8 : Bytes 14336 2048 := m ((c : Thread nD τ).loc main_arg8)
abbrev x9 : Arr 14336 64 := m ((c : Thread nD τ).loc main_arg9)
abbrev x10 : Arr 14336 64 := m ((c : Thread nD τ).loc main_arg10)
abbrev x11 : Arr 32 4096 := m ((c : Thread nD τ).loc main_arg11)
abbrev x12 : Arr 14336 32 := m ((c : Thread nD τ).loc main_arg12)
abbrev x13 : Line 14336 := m ((c : Thread nD τ).loc main_arg13)
abbrev x14 : Arr 32 14336 := m ((c : Thread nD τ).loc main_arg14)

/-- The normalised input. -/
abbrev hX : Arr 256 4096 := hn (x0 m c) (x1 m c)

/-! ### The results -/

def ugF (r : Fin 256) (o : Fin 14336) : EReal := u (hX m c) (x2 m c) (x3 m c) (x4 m c) (x5 m c) (x6 m c) r o
def uuF (r : Fin 256) (o : Fin 14336) : EReal := u (hX m c) (x8 m c) (x9 m c) (x10 m c) (x11 m c) (x12 m c) r o
def ngF (o : Fin 14336) : EReal := norm (x2 m c) (x3 m c) (x4 m c) (x5 m c) (x6 m c) o
def nuF (o : Fin 14336) : EReal := norm (x8 m c) (x9 m c) (x10 m c) (x11 m c) (x12 m c) o
def actF (r : Fin 256) (o : Fin 14336) : EReal :=
  gated (y (hX m c) (x2 m c) (x3 m c) (x4 m c) (x5 m c) (x6 m c) (x7 m c) r o)
    (y (hX m c) (x8 m c) (x9 m c) (x10 m c) (x11 m c) (x12 m c) (x13 m c) r o)

/-- Column `l` of point `t`'s block, among all. -/
def colB (t : Fin 28) (l : Fin 512) : Fin 14336 := ⟨512 * t.val + l.val, by omega⟩

theorem colB_half (t : Fin 28) (p : Fin 2) (l : Fin 256) : colB t ⟨256 * p.val + l.val, by omega⟩ = col t p l :=
  Fin.ext (by show 512 * t.val + (256 * p.val + l.val) = 512 * t.val + 256 * p.val + l.val; omega)

/-- A block of a result, at point `t`. -/
def blkB (f : Fin 256 → Fin 14336 → EReal) (t : Fin 28) : S256x512.Idx → EReal := fun i => f (i 0) (colB t (i 1))
def rowBk (f : Fin 14336 → EReal) (t : Fin 28) : S1x512.Idx → EReal := fun i => f (colB t (i 1))

/-- What point `t` adds to the products with the next low-rank factor. -/
def tdT (t : Fin 28) : S256x32.Idx → EReal := fun i =>
  ∑ p : Fin 2, ∑ l : Fin 256, actF m c (i 0) (col t p l) * x14 m c (ix2 (i 1) (col t p l))

/-! ### Tiles stored side by side -/

theorem two_canon {e : EltTy} (x : ℕ → Vec Ideal S256x256 e) (G : S256x512.Idx → Elt Ideal e)
    (h : ∀ (p : Fin 2) (r l : Fin 256), x p.val (ix2 r l) = G (ix2 r ⟨256 * p.val + l.val, by omega⟩)) :
    View.canon (two x) = G := by
  funext i
  refine View.canon_apply_of_pieces G (two x) ?_ i (View.cover_of_tiledL (two x) S256x256.size (by sl_kernel_rfl) i)
  intro q hq j
  unfold two at hq
  rcases List.mem_cons.mp hq with rfl | hq
  · idx_vars j
    refine (h 1 _ _).trans (congrArg G (funext fun a => Fin.ext ?_))
    match a with
    | ⟨0, _⟩ => show j0.val = 0 + 1 * j0.val; omega
    | ⟨1, _⟩ => show 256 * 1 + j1.val = 256 + 1 * j1.val; omega
  · obtain rfl := List.mem_singleton.mp hq
    idx_vars j
    refine (h 0 _ _).trans (congrArg G (funext fun a => Fin.ext ?_))
    match a with
    | ⟨0, _⟩ => show j0.val = 0 + 1 * j0.val; omega
    | ⟨1, _⟩ => show 256 * 0 + j1.val = 0 + 1 * j1.val; omega

theorem twoR_canon {e : EltTy} (x : ℕ → Vec Ideal S1x256 e) (G : S1x512.Idx → Elt Ideal e)
    (h : ∀ (p : Fin 2) (l : Fin 256), x p.val (ix2 0 l) = G (ix2 0 ⟨256 * p.val + l.val, by omega⟩)) :
    View.canon (twoR x) = G := by
  funext i
  refine View.canon_apply_of_pieces G (twoR x) ?_ i (View.cover_of_tiledL (twoR x) S1x256.size (by sl_kernel_rfl) i)
  intro q hq j
  unfold twoR at hq
  have hj : ∀ j : S1x256.Idx, j = ix2 0 (j 1) := fun j => funext fun a => by
    match a with
    | ⟨0, _⟩ => exact Fin.ext (by have : (j 0).val < 1 := (j 0).isLt; show (j 0).val = 0; omega)
    | ⟨1, _⟩ => rfl
  rcases List.mem_cons.mp hq with rfl | hq
  · rw [hj j]
    refine (h 1 _).trans (congrArg G (funext fun a => Fin.ext ?_))
    match a with
    | ⟨0, _⟩ => show 0 = 0 + 1 * 0; omega
    | ⟨1, _⟩ => show 256 * 1 + (j 1).val = 256 + 1 * (j 1).val; omega
  · obtain rfl := List.mem_singleton.mp hq
    rw [hj j]
    refine (h 0 _).trans (congrArg G (funext fun a => Fin.ext ?_))
    match a with
    | ⟨0, _⟩ => show 0 = 0 + 1 * 0; omega
    | ⟨1, _⟩ => show 256 * 0 + (j 1).val = 0 + 1 * (j 1).val; omega

theorem stW_canon {M N : ℕ} {e : EltTy} (x : Vec Ideal ⟨2, ![M, N]⟩ e) (L : List (View.Piece (Elt Ideal) ⟨2, ![M, N]⟩ e))
    (k : Memref sig .tc .vmem ⟨2, ![M, N]⟩ e) : k.view.read (Elt Ideal) (k.view.writes (Elt Ideal) k.view.junk (stW x :: L)) = x := by
  rw [View.read_writes_junk_eq_canon]
  have h := ldW_eq k x L
  unfold ldW at h
  rw [View.readCov_eq_canon'] at h
  funext i
  refine Eq.trans (congrArg _ ?_) (congrFun h i)
  exact (idx_whole i).symm

/-! ### What the first point stores in its scratch buffers -/

variable (t : Fin cfg0.N)

theorem hA_eq : hA m c t = hX m c := by
  unfold hA
  rw [rdW_eq, rdW_eq]
  exact pay3_eq (fun r k => blk0 m c t r k) (fun k => blk1 m c t k)

theorem agA_eq : agA m c t = x5 m c := by
  unfold agA
  rw [rdW_eq, pay4_eq]
  funext i
  idx_vars i
  exact blk2 m c t _ _

theorem auA_eq : auA m c t = x11 m c := by
  unfold auA
  rw [rdW_eq, pay5_eq]
  funext i
  idx_vars i
  exact blk3 m c t _ _

/-- The low-rank rows of the two projections. -/
def lgX : Vec Ideal S352x32 .bf16 := k0_pay9 (F := Ideal) (hX m c) (x5 m c) (x5 m c)
def luX : Vec Ideal S352x32 .bf16 := k0_pay9 (F := Ideal) (hX m c) (x11 m c) (x11 m c)

theorem lgA_eq : lgA m c t = lgX m c := by
  unfold lgA lgX
  rw [ldW_eq, ldW_eq, hA_eq, agA_eq]

theorem luA_eq : luA m c t = luX m c := by
  unfold luA luX
  rw [ldW_eq, ldW_eq, hA_eq, auA_eq, pay10_eq]

/-! ### The loads are parts of the arguments -/

theorem gate_ok (ha : AllReal (x5 m c)) {H : ℕ → Vec Ideal S256x128 .bf16} {A : ℕ → Vec Ideal S32x128 .bf16}
    (eH : ∀ n (hn : n < 32) (r : Fin 256) (k : Fin 128), H n (ix2 r k) = hX m c (ix2 r ⟨128 * n + k.val, by omega⟩))
    (eA : ∀ n (hn : n < 32) (r : Fin 32) (k : Fin 128), A n (ix2 r k) = x5 m c (ix2 r ⟨128 * n + k.val, by omega⟩)) :
    (gate m c t H A (lgX m c)).Ok (hX m c) (x2 m c) (x3 m c) (x4 m c) (x5 m c) (x6 m c) (x7 m c) (pt t) :=
  halfOf_ok (fun n hn r k => (eH n hn r k).trans (row_of_lt _ _ _ (by omega)).symm)
    (fun n hn r k => (eA n hn r k).trans (row_of_lt _ _ _ (by omega)).symm)
    (fun r k => pay9_0 _ _ r k) (fun k j => pay9_1 _ _ k j) (fun k j => pay9_2 _ _ ha k j) (fun k j => pay9_3 _ _ ha k j)
    (fun l k => blk5 m c t l k) (fun l k => blk6 m c t l k) (fun l k => blk7 m c t l k) (fun l k => blk8 m c t l k)
    (fun l => blk9 m c t l)

theorem up_ok (ha : AllReal (x11 m c)) {H : ℕ → Vec Ideal S256x128 .bf16} {A : ℕ → Vec Ideal S32x128 .bf16}
    (eH : ∀ n (hn : n < 32) (r : Fin 256) (k : Fin 128), H n (ix2 r k) = hX m c (ix2 r ⟨128 * n + k.val, by omega⟩))
    (eA : ∀ n (hn : n < 32) (r : Fin 32) (k : Fin 128), A n (ix2 r k) = x11 m c (ix2 r ⟨128 * n + k.val, by omega⟩)) :
    (up m c t H A (luX m c)).Ok (hX m c) (x8 m c) (x9 m c) (x10 m c) (x11 m c) (x12 m c) (x13 m c) (pt t) :=
  halfOf_ok (fun n hn r k => (eH n hn r k).trans (row_of_lt _ _ _ (by omega)).symm)
    (fun n hn r k => (eA n hn r k).trans (row_of_lt _ _ _ (by omega)).symm)
    (fun r k => pay9_0 _ _ r k) (fun k j => pay9_1 _ _ k j) (fun k j => pay9_2 _ _ ha k j) (fun k j => pay9_3 _ _ ha k j)
    (fun l k => blk10 m c t l k) (fun l k => blk11 m c t l k) (fun l k => blk12 m c t l k) (fun l k => blk13 m c t l k)
    (fun l => blk14 m c t l)

/-- The two projections' loads, at either kind of point. -/
structure Both (G U : Half Ideal) : Prop where
  g : G.Ok (hX m c) (x2 m c) (x3 m c) (x4 m c) (x5 m c) (x6 m c) (x7 m c) (pt t)
  u : U.Ok (hX m c) (x8 m c) (x9 m c) (x10 m c) (x11 m c) (x12 m c) (x13 m c) (pt t)

theorem bothA (hg : AllReal (x5 m c)) (hu : AllReal (x11 m c)) : Both m c t (gA m c t) (uA m c t) where
  g := by
    unfold gA
    rw [ldW_eq, hA_eq, agA_eq, lgA_eq]
    exact gate_ok m c t hg (fun n hn r k => ldH_apply _ _ n hn r k) (fun n hn r k => ldA_apply _ _ n hn r k)
  u := by
    unfold uA
    rw [ldW_eq, hA_eq, auA_eq, luA_eq]
    exact up_ok m c t hu (fun n hn r k => ldH_apply _ _ n hn r k) (fun n hn r k => ldA_apply _ _ n hn r k)

theorem bothB (hg : AllReal (x5 m c)) (hu : AllReal (x11 m c)) :
    Both m c t (gB m c t (hX m c) (x5 m c) (lgX m c)) (uB m c t (hX m c) (x11 m c) (luX m c)) where
  g := by
    unfold gB
    rw [rdW_eq]
    exact gate_ok m c t hg (fun n hn r k => ldHu_apply _ _ _ n hn r k) (fun n hn r k => ldAu_apply _ _ _ n hn r k)
  u := by
    unfold uB
    rw [rdW_eq]
    exact up_ok m c t hu (fun n hn r k => ldHu_apply _ _ _ n hn r k) (fun n hn r k => ldAu_apply _ _ _ n hn r k)

section
variable {G U : Half Ideal} (ok : Both m c t G U)
include ok

theorem u_g : View.canon (two (F := Ideal) (e := .f32) G.u) = blkB (ugF m c) (pt t) :=
  two_canon _ _ fun p r l => (Half.u_apply ok.g p r l).trans (congrArg (ugF m c r) (colB_half (pt t) p l).symm)

theorem u_u : View.canon (two (F := Ideal) (e := .f32) U.u) = blkB (uuF m c) (pt t) :=
  two_canon _ _ fun p r l => (Half.u_apply ok.u p r l).trans (congrArg (uuF m c r) (colB_half (pt t) p l).symm)

theorem n_g : View.canon (twoR (F := Ideal) (e := .f32) G.n) = rowBk (ngF m c) (pt t) :=
  twoR_canon _ _ fun p l => (Half.n_apply ok.g p l).trans (congrArg (ngF m c) (colB_half (pt t) p l).symm)

theorem n_u : View.canon (twoR (F := Ideal) (e := .f32) U.n) = rowBk (nuF m c) (pt t) :=
  twoR_canon _ _ fun p l => (Half.n_apply ok.u p l).trans (congrArg (nuF m c) (colB_half (pt t) p l).symm)

theorem act_ok (p : Fin 2) (r l : Fin 256) : actT G U p.val (ix2 r l) = actF m c r (col (pt t) p l) :=
  actT_apply ok.g ok.u p r l

theorem act_g : View.canon (two (F := Ideal) (e := .bf16) (actT G U)) = blkB (actF m c) (pt t) :=
  two_canon _ _ fun p r l => (act_ok m c t ok p r l).trans (congrArg (actF m c r) (colB_half (pt t) p l).symm)

theorem td_step (d : Vec Ideal S256x32 .f32) :
    dT (actT G U 1) (dT (actT G U 0) d (ldD (ms0_4 t) (hs0_4 t) (iblk m c 4 t) 0)) (ldD (ms0_4 t) (hs0_4 t) (iblk m c 4 t) 1)
      = fun i => d i + tdT m c (pt t) i := by
  have hw : ∀ (p : Fin 2) (k : Fin 32) (l : Fin 256), ldD (ms0_4 t) (hs0_4 t) (iblk m c 4 t) p.val (ix2 k l) = x14 m c (ix2 k (col (pt t) p l)) :=
    fun p k l => (ldD_apply _ _ _ p k l).trans ((blk4 m c t _ _).trans (congrArg (fun o => x14 m c (ix2 k o)) (colB_half (pt t) p l)))
  funext i
  idx_vars i
  unfold tdT
  rw [Fin.sum_univ_two, dT_apply, dT_apply, add_assoc]
  have h0 := fun l => act_ok m c t ok 0 i0 l
  have h1 := fun l => act_ok m c t ok 1 i0 l
  have w0 := fun l => hw 0 i1 l
  have w1 := fun l => hw 1 i1 l
  refine congrArg (d (ix2 i0 i1) + ·) (congrArg₂ (· + ·) (Finset.sum_congr rfl fun l _ => ?_) (Finset.sum_congr rfl fun l _ => ?_))
  · exact congrArg₂ (· * ·) (h0 l) (w0 l)
  · exact congrArg₂ (· * ·) (h1 l) (w1 l)

end

end Cert.Fwd
-- ==== Proof.Fwd.Inv.lean ====
/- What the outputs and the scratch buffers hold after every grid point, over the extended reals. -/
module

public import proofs.«01_k».proof.Proof.Fwd.Okay

@[expose] public section

set_option maxRecDepth 16384

noncomputable section

namespace Cert.Fwd

open Cert.KernelIdeal Cert.KernelIdeal.Gen Cert.KernelIdeal.Hand Idealize.ShloMosaic Idealize.ShloMosaic.TcCoe

variable (m : (ℓ : Loc nD τ sig) → Buf (Elt Ideal) ℓ) (c : Dev nD) (t : Fin cfg0.N)

/-- What the points up to `n` add to the products with the next low-rank factor. -/
def tdB (n : ℕ) : S256x32.Idx → EReal := fun i => ∑ k ∈ Finset.range n, if h : k < 28 then tdT m c ⟨k, h⟩ i else 0

theorem tdB_succ (n : ℕ) (h : n < 28) (i : S256x32.Idx) : tdB m c (n + 1) i = tdB m c n i + tdT m c ⟨n, h⟩ i := by
  unfold tdB
  rw [Finset.sum_range_succ, dif_pos h]

section
variable (hc0 : cond0_0 (grid0.coords t)) (hg : AllReal (x5 m c)) (hu : AllReal (x11 m c))

include hg hu in
theorem outA_15 : out0_A_15 m c t hc0 = blkB (ugF m c) (pt t) := by
  unfold out0_A_15
  rw [View.read_writes_junk_eq_canon, runA_15]
  exact u_g m c t (bothA m c t hg hu)

include hg hu in
theorem outA_16 : out0_A_16 m c t hc0 = blkB (uuF m c) (pt t) := by
  unfold out0_A_16
  rw [View.read_writes_junk_eq_canon, runA_16]
  exact u_u m c t (bothA m c t hg hu)

include hg hu in
theorem outA_17 : out0_A_17 m c t hc0 = blkB (actF m c) (pt t) := by
  unfold out0_A_17
  rw [View.read_writes_junk_eq_canon, runA_17]
  exact act_g m c t (bothA m c t hg hu)

include hg hu in
theorem outA_18 : out0_A_18 m c t hc0 = rowBk (ngF m c) (pt t) := by
  unfold out0_A_18
  rw [View.read_writes_junk_eq_canon, runA_18]
  exact n_g m c t (bothA m c t hg hu)

include hg hu in
theorem outA_19 : out0_A_19 m c t hc0 = rowBk (nuF m c) (pt t) := by
  unfold out0_A_19
  rw [View.read_writes_junk_eq_canon, runA_19]
  exact n_u m c t (bothA m c t hg hu)

include hg hu in
theorem outA_22 : out0_A_22 m c t hc0 = tdT m c (pt t) := by
  unfold out0_A_22
  rw [runA_22]
  refine (stW_canon _ _ (Memref.whole cc0_stg22_0)).trans ?_
  rw [ldW_eq, ldW_eq, td_step m c t (bothA m c t hg hu)]
  funext i
  idx_vars i
  exact (congrArg (· + _) (pay11_apply i0 i1)).trans (zero_add _)

theorem soutA_0 : sout0_A_0 m c t hc0 = hX m c := by
  unfold sout0_A_0
  rw [runA_s0]
  exact (stW_canon _ _ (Memref.whole cc0_scratch0)).trans (hA_eq m c t)

theorem soutA_1 : sout0_A_1 m c t hc0 = x5 m c := by
  unfold sout0_A_1
  rw [runA_s1]
  exact (stW_canon _ _ (Memref.whole cc0_scratch1)).trans (agA_eq m c t)

theorem soutA_2 : sout0_A_2 m c t hc0 = x11 m c := by
  unfold sout0_A_2
  rw [runA_s2]
  exact (stW_canon _ _ (Memref.whole cc0_scratch2)).trans (auA_eq m c t)

theorem soutA_3 : sout0_A_3 m c t hc0 = lgX m c := by
  unfold sout0_A_3
  rw [runA_s3]
  exact (stW_canon _ _ (Memref.whole cc0_scratch3)).trans (lgA_eq m c t)

theorem soutA_4 : sout0_A_4 m c t hc0 = luX m c := by
  unfold sout0_A_4
  rw [runA_s4]
  exact (stW_canon _ _ (Memref.whole cc0_scratch4)).trans (luA_eq m c t)

end

section
variable (hc0 : ¬cond0_0 (grid0.coords t)) (d : Vec Ideal S256x32 .f32) (hg : AllReal (x5 m c)) (hu : AllReal (x11 m c))

include hg hu in
theorem outB_15 : out0_B_15 m c t hc0 d (hX m c) (x5 m c) (x11 m c) (lgX m c) (luX m c) = blkB (ugF m c) (pt t) := by
  unfold out0_B_15
  rw [View.read_writes_junk_eq_canon, runB_15]
  exact u_g m c t (bothB m c t hg hu)

include hg hu in
theorem outB_16 : out0_B_16 m c t hc0 d (hX m c) (x5 m c) (x11 m c) (lgX m c) (luX m c) = blkB (uuF m c) (pt t) := by
  unfold out0_B_16
  rw [View.read_writes_junk_eq_canon, runB_16]
  exact u_u m c t (bothB m c t hg hu)

include hg hu in
theorem outB_17 : out0_B_17 m c t hc0 d (hX m c) (x5 m c) (x11 m c) (lgX m c) (luX m c) = blkB (actF m c) (pt t) := by
  unfold out0_B_17
  rw [View.read_writes_junk_eq_canon, runB_17]
  exact act_g m c t (bothB m c t hg hu)

include hg hu in
theorem outB_18 : out0_B_18 m c t hc0 d (hX m c) (x5 m c) (x11 m c) (lgX m c) (luX m c) = rowBk (ngF m c) (pt t) := by
  unfold out0_B_18
  rw [View.read_writes_junk_eq_canon, runB_18]
  exact n_g m c t (bothB m c t hg hu)

include hg hu in
theorem outB_19 : out0_B_19 m c t hc0 d (hX m c) (x5 m c) (x11 m c) (lgX m c) (luX m c) = rowBk (nuF m c) (pt t) := by
  unfold out0_B_19
  rw [View.read_writes_junk_eq_canon, runB_19]
  exact n_u m c t (bothB m c t hg hu)

include hg hu in
theorem outB_22 : out0_B_22 m c t hc0 d (hX m c) (x5 m c) (x11 m c) (lgX m c) (luX m c) = fun i => d i + tdT m c (pt t) i := by
  unfold out0_B_22
  rw [runB_22]
  refine (stW_canon _ _ (Memref.whole cc0_stg22_0)).trans ?_
  rw [ldW_eq, rdW_eq, td_step m c t (bothB m c t hg hu)]

end

/-- What a point leaves: its blocks, the products so far, and the scratch buffers as the first point stored them. -/
def left (n : ℕ) (hn : n < cfg0.N) : Vec Ideal S256x512 .f32 × Vec Ideal S256x512 .f32 × Vec Ideal S256x512 .bf16 × Vec Ideal S1x512 .f32
    × Vec Ideal S1x512 .f32 × Vec Ideal S256x32 .f32 × Vec Ideal S256x4096 .bf16 × Vec Ideal S32x4096 .bf16 × Vec Ideal S32x4096 .bf16
    × Vec Ideal S352x32 .bf16 × Vec Ideal S352x32 .bf16 :=
  (blkB (ugF m c) (pt ⟨n, hn⟩), blkB (uuF m c) (pt ⟨n, hn⟩), blkB (actF m c) (pt ⟨n, hn⟩), rowBk (ngF m c) (pt ⟨n, hn⟩),
    rowBk (nuF m c) (pt ⟨n, hn⟩), tdB m c (n + 1), hX m c, x5 m c, x11 m c, lgX m c, luX m c)

theorem inv_first (hg : AllReal (x5 m c)) (hu : AllReal (x11 m c)) (hn : 0 < cfg0.N) : outsAt0 m c 0 hn = left m c 0 hn := by
  rw [outsAt0_A m c ⟨0, hn⟩ (Nat.zero_mod _), outA_15 m c _ _ hg hu, outA_16 m c _ _ hg hu, outA_17 m c _ _ hg hu,
    outA_18 m c _ _ hg hu, outA_19 m c _ _ hg hu, outA_22 m c _ _ hg hu, soutA_0, soutA_1, soutA_2, soutA_3, soutA_4]
  have e : tdB m c (0 + 1) = tdT m c (pt ⟨0, hn⟩) := by
    funext i
    rw [tdB_succ m c 0 (by omega)]
    unfold tdB
    rw [Finset.range_zero, Finset.sum_empty, zero_add]
  unfold left
  rw [e]

theorem inv_next (hg : AllReal (x5 m c)) (hu : AllReal (x11 m c)) (n : ℕ) (hn : n + 1 < cfg0.N)
    (ih : outsAt0 m c n (Nat.lt_of_succ_lt hn) = left m c n (Nat.lt_of_succ_lt hn)) : outsAt0 m c (n + 1) hn = left m c (n + 1) hn := by
  have hN : n + 1 < 28 := lt_of_lt_of_eq hn N_0
  have h0 : ¬ (⟨n + 1, hn⟩ : Fin cfg0.N).val % 28 = 0 := by show ¬ (n + 1) % 28 = 0; omega
  have e := outsAt0_B m c ⟨n + 1, hn⟩ h0
  simp only [Nat.add_sub_cancel, ih] at e
  refine e.trans ?_
  unfold left
  dsimp only
  rw [outB_15 m c _ _ _ hg hu, outB_16 m c _ _ _ hg hu, outB_17 m c _ _ _ hg hu,
    outB_18 m c _ _ _ hg hu, outB_19 m c _ _ _ hg hu, outB_22 m c _ _ _ hg hu]
  unfold sout0_B_0 sout0_B_1 sout0_B_2 sout0_B_3 sout0_B_4
  have e : tdB m c (n + 1 + 1) = fun i => tdB m c (n + 1) i + tdT m c (pt ⟨n + 1, hn⟩) i :=
    funext fun i => tdB_succ m c (n + 1) hN i
  rw [e]

/-- After every point. -/
theorem inv (hg : AllReal (x5 m c)) (hu : AllReal (x11 m c)) (n : ℕ) : ∀ hn : n < cfg0.N, outsAt0 m c n hn = left m c n hn := by
  induction n with
  | zero => exact inv_first m c hg hu
  | succ n ih => exact fun hn => inv_next m c hg hu n hn (ih _)

/-- A sum, tile by tile. -/
theorem sum_tiles {A B N : ℕ} (h : A * B = N) (f : Fin N → EReal) :
    ∑ o, f o = ∑ a : Fin A, ∑ b : Fin B, f ⟨B * a.val + b.val, by
      have h1 : B * (a.val + 1) ≤ B * A := Nat.mul_le_mul_left B a.isLt
      have h2 := b.isLt
      rw [Nat.mul_add, Nat.mul_one] at h1
      rw [← h, Nat.mul_comm A B]
      omega⟩ := by
  subst h
  rw [← finProdFinEquiv.sum_comp, Fintype.sum_prod_type]
  refine Finset.sum_congr rfl fun a _ => Finset.sum_congr rfl fun b _ => congrArg f (Fin.ext ?_)
  show b.val + B * a.val = B * a.val + b.val
  omega

/-- All the points' sums are one sum over the columns. -/
theorem tdB_all (r : Fin 256) (s : Fin 32) :
    tdB m c 28 (ix2 r s) = ∑ o : Fin 14336, actF m c r o * x14 m c (ix2 s o) := by
  unfold tdB
  rw [Finset.sum_range, sum_tiles (show 28 * 512 = 14336 by norm_num)]
  refine Finset.sum_congr rfl fun t _ => ?_
  rw [dif_pos t.isLt, sum_tiles (show 2 * 256 = 512 by norm_num)]
  unfold tdT
  refine Finset.sum_congr rfl fun p _ => Finset.sum_congr rfl fun l _ => ?_
  have e : col t p l = ⟨512 * t.val + (256 * p.val + l.val), by omega⟩ :=
    Fin.ext (by show 512 * t.val + 256 * p.val + l.val = 512 * t.val + (256 * p.val + l.val); omega)
  exact congrArg (fun o => actF m c r o * x14 m c (ix2 s o)) e

end Cert.Fwd
-- ==== Proof.Fwd.Refs.lean ====
/- The reference's results at the kernel's arguments, and what a finite low-rank factor is. -/
module

public import proofs.«01_k».proof.Pre_finite
public import proofs.«01_k».proof.Proof.Gen.Pre_finite
public import proofs.«01_k».proof.Proof.Fwd.Ref
public import proofs.«01_k».proof.Proof.Fwd.Inv

@[expose] public section

set_option maxRecDepth 16384

noncomputable section

namespace Cert.Fwd

open Idealize.ShloMosaic Idealize.ShloMosaic.TcCoe

/-! ### Finite entries -/

theorem real_of_lt (x b : EReal) (h : Ideal.cmp .olt (max x (-x)) b = 1#1) : ∃ q : ℝ, x = (q : EReal) := by
  have h1 : max x (-x) < b := by
    unfold Ideal.cmp at h
    by_contra hc
    simp [hc] at h
  have h2 : max x (-x) < ⊤ := lt_of_lt_of_le h1 le_top
  have hx : x ≠ ⊤ := fun e => by rw [e] at h2; simp at h2
  have hy : x ≠ ⊥ := fun e => by rw [e] at h2; simp at h2
  exact ⟨x.toReal, (EReal.coe_toReal hx hy).symm⟩

section
variable (a0 : (⟨Cert.Pre_finite.S2x128x4096, .bf16⟩ : BufTy).Contents (Elt Ideal))
  (a1 : (⟨Cert.Pre_finite.S4096, .f32⟩ : BufTy).Contents (Elt Ideal))
  (a2 : (⟨Cert.Pre_finite.S14336x2048, .i8⟩ : BufTy).Contents (Elt Ideal))
  (a3 : (⟨Cert.Pre_finite.S14336x64, .bf16⟩ : BufTy).Contents (Elt Ideal))
  (a4 : (⟨Cert.Pre_finite.S14336x64, .bf16⟩ : BufTy).Contents (Elt Ideal))
  (a5 : (⟨Cert.Pre_finite.S32x4096, .bf16⟩ : BufTy).Contents (Elt Ideal))
  (a6 : (⟨Cert.Pre_finite.S14336x32, .bf16⟩ : BufTy).Contents (Elt Ideal))
  (a7 : (⟨Cert.Pre_finite.S14336, .f32⟩ : BufTy).Contents (Elt Ideal))
  (a8 : (⟨Cert.Pre_finite.S14336x2048, .i8⟩ : BufTy).Contents (Elt Ideal))
  (a9 : (⟨Cert.Pre_finite.S14336x64, .bf16⟩ : BufTy).Contents (Elt Ideal))
  (a10 : (⟨Cert.Pre_finite.S14336x64, .bf16⟩ : BufTy).Contents (Elt Ideal))
  (a11 : (⟨Cert.Pre_finite.S32x4096, .bf16⟩ : BufTy).Contents (Elt Ideal))
  (a12 : (⟨Cert.Pre_finite.S14336x32, .bf16⟩ : BufTy).Contents (Elt Ideal))
  (a13 : (⟨Cert.Pre_finite.S14336, .f32⟩ : BufTy).Contents (Elt Ideal))
  (a14 : (⟨Cert.Pre_finite.S32x14336, .bf16⟩ : BufTy).Contents (Elt Ideal))

theorem real_fst (h : (Cert.Pre_finite.fn (F := Ideal) a0 a1 a2 a3 a4 a5 a6 a7 a8 a9 a10 a11 a12 a13 a14).1 = fun _ => 1#1) : AllReal (m := 32) (n := 4096) a5 :=
  fun i j => real_of_lt _ _ (congrFun h (ix2 i j))

theorem real_snd (h : (Cert.Pre_finite.fn (F := Ideal) a0 a1 a2 a3 a4 a5 a6 a7 a8 a9 a10 a11 a12 a13 a14).2 = fun _ => 1#1) : AllReal (m := 32) (n := 4096) a11 :=
  fun i j => real_of_lt _ _ (congrFun h (ix2 i j))

end

/-! ### The reference's results -/

section
open Cert.ReferenceIdeal Cert.ReferenceIdeal.Read

variable (m : (ℓ : Loc Cert.KernelIdeal.nD Cert.KernelIdeal.τ Cert.KernelIdeal.sig) → Buf (Elt Ideal) ℓ) (c : Dev Cert.KernelIdeal.nD)

theorem ref_ug : val_main_v83 (F := Ideal) (x0 m c) (x1 m c) (x2 m c) (x3 m c) (x4 m c) (x5 m c) (x6 m c) = fun i => ugF m c (i 0) (i 1) := by
  funext i
  idx_vars i
  exact Ref.u_eq _ _ _ _ _ _ _ _ _

theorem ref_uu : val_main_v153 (F := Ideal) (x0 m c) (x1 m c) (x8 m c) (x9 m c) (x10 m c) (x11 m c) (x12 m c) = fun i => uuF m c (i 0) (i 1) := by
  funext i
  idx_vars i
  exact Ref.u_eq (x0 m c) (x1 m c) (x8 m c) (x9 m c) (x10 m c) (x11 m c) (x12 m c) _ _

theorem ref_act : val_main_v166 (F := Ideal) (x0 m c) (x1 m c) (x2 m c) (x3 m c) (x4 m c) (x5 m c) (x6 m c) (x7 m c) (x8 m c) (x9 m c) (x10 m c) (x11 m c) (x12 m c) (x13 m c) = fun i => actF m c (i 0) (i 1) := by
  funext i
  idx_vars i
  exact Ref.act_eq _ _ _ _ _ _ _ _ _ _ _ _ _ _ _ _

theorem cast_line (x : (⟨S14336, .f32⟩ : BufTy).Contents (Elt Ideal)) (i : S1x14336.Idx) :
    shapeCast S1x14336 x Cert.ReferenceIdeal.Gen.shapeCasts_S14336_S1x14336 i = x (ix1 (i 1)) := by
  idx_vars i
  pointwise

theorem ref_ng : val_main_v168 (F := Ideal) (x0 m c) (x1 m c) (x2 m c) (x3 m c) (x4 m c) (x5 m c) (x6 m c) = fun i => ngF m c (i 1) := by
  funext i
  unfold val_main_v168
  rw [cast_line]
  exact Ref.norm_eq _ _ _ _ _ _ _ _

theorem ref_nu : val_main_v169 (F := Ideal) (x0 m c) (x1 m c) (x8 m c) (x9 m c) (x10 m c) (x11 m c) (x12 m c) = fun i => nuF m c (i 1) := by
  funext i
  unfold val_main_v169
  rw [cast_line]
  exact Ref.norm_eq (x0 m c) (x1 m c) (x8 m c) (x9 m c) (x10 m c) (x11 m c) (x12 m c) _

theorem ref_td : val_main_v167 (F := Ideal) (x0 m c) (x1 m c) (x2 m c) (x3 m c) (x4 m c) (x5 m c) (x6 m c) (x7 m c) (x8 m c) (x9 m c) (x10 m c) (x11 m c) (x12 m c) (x13 m c) (x14 m c) = fun i => ∑ o : Fin 14336, actF m c (i 0) o * x14 m c (ix2 (i 1) o) := by
  funext i
  idx_vars i
  exact Ref.td_eq _ _ _ _ _ _ _ _ _ _ _ _ _ _ _ _ _

end

end Cert.Fwd

end
-- ==== Proof.Dn.Ref.lean ====
/- The reference's results of the down call, at an index. -/
module

public import proofs.«01_k».proof.Proof.Gen.DownReferenceIdeal.Read
public import proofs.«01_k».proof.Proof.Fwd.Ref
public import proofs.«01_k».proof.Proof.Dn.Spec

@[expose] public section

set_option maxRecDepth 16384

noncomputable section

namespace Cert.Dn.Ref

open Cert.DownReferenceIdeal Cert.DownReferenceIdeal.Read Idealize.ShloMosaic
open Cert.Fwd (hiW row rowB row_of_lt rowB_of_lt)
open Cert.Fwd.Ref (shr_nib and_nib)

section
variable (x0 x1 : (⟨S2x128x4096, .bf16⟩ : BufTy).Contents (Elt Ideal)) (x2 : (⟨S256x14336, .bf16⟩ : BufTy).Contents (Elt Ideal))
  (x3 : (⟨S256x32, .f32⟩ : BufTy).Contents (Elt Ideal)) (x4 : (⟨S4096x7168, .i8⟩ : BufTy).Contents (Elt Ideal))
  (x5 x6 : (⟨S4096x224, .bf16⟩ : BufTy).Contents (Elt Ideal)) (x7 : (⟨S32x14336, .bf16⟩ : BufTy).Contents (Elt Ideal))
  (x8 : (⟨S4096x32, .bf16⟩ : BufTy).Contents (Elt Ideal)) (x9 : (⟨S4096, .f32⟩ : BufTy).Contents (Elt Ideal))

theorem hi_eq (k : Fin 7168) (o : Fin 4096) :
    val_main_v20 x4 x5 x6 (ix2 k o) = hiW (rowB x4 o) (row x5 o) (row x6 o) k.val := by
  unfold hiW
  rw [rowB_of_lt _ _ _ k.isLt, row_of_lt _ _ _ (show k.val / 64 < 224 by omega), row_of_lt _ _ _ (show k.val / 64 < 224 by omega)]
  unfold val_main_v20 val_main_v19 val_main_v18 val_main_v17 val_main_v16 val_main_v15 val_main_v14 val_main_v13 val_main_v12 val_main_v11 val_main_v10 val_main_v9 val_main_v8 val_main_v7 val_main_v6 val_main_v5 val_main_v4 val_main_c
  pointwise
  rw [shr_nib]

theorem lo_eq (k : Fin 7168) (o : Fin 4096) :
    val_main_v33 x4 x5 x6 (ix2 k o) = loW (rowB x4 o) (row x5 o) (row x6 o) k.val := by
  unfold loW
  rw [rowB_of_lt _ _ _ k.isLt, row_of_lt _ _ _ (show 112 + k.val / 64 < 224 by omega), row_of_lt _ _ _ (show 112 + k.val / 64 < 224 by omega)]
  unfold val_main_v33 val_main_v32 val_main_v31 val_main_v30 val_main_v29 val_main_v28 val_main_v27 val_main_v26 val_main_v25 val_main_v24 val_main_v23 val_main_v22 val_main_v21 val_main_v7 val_main_v6 val_main_v5 val_main_v4 val_main_c_0
  pointwise
  rw [and_nib]

theorem out_eq (r : Fin 288) (o : Fin 4096) :
    val_main_v39 x2 x4 x5 x6 x7 (ix2 r o) = out (fun k => if hr : r.val < 256 then row (m := 256) (n := 14336) x2 ⟨r.val, hr⟩ k
      else row (m := 32) (n := 14336) x7 ⟨r.val - 256, by omega⟩ k) (rowB x4 o) (row x5 o) (row x6 o) 7168 := by
  unfold out
  rw [Finset.sum_range, Finset.sum_range]
  unfold val_main_v39 val_main_v38 val_main_v37 val_main_v36 val_main_v35 val_main_v34
  pointwise
  refine congrArg₂ (· + ·) (Finset.sum_congr rfl fun k _ => congrArg₂ (· * ·) ?_ (hi_eq x4 x5 x6 k o))
    (Finset.sum_congr rfl fun k _ => congrArg₂ (· * ·) ?_ (lo_eq x4 x5 x6 k o))
  · have hk := k.isLt
    by_cases hr : r.val < 256
    · rw [dif_pos hr, dif_pos hr]
      exact (row_of_lt (m := 256) (n := 14336) x2 ⟨r.val, hr⟩ k.val (by omega)).symm
    · rw [dif_neg hr, dif_neg hr]
      exact (row_of_lt (m := 32) (n := 14336) x7 ⟨r.val - 256, by omega⟩ k.val (by omega)).symm
  · have hk := k.isLt
    by_cases hr : r.val < 256
    · rw [dif_pos hr, dif_pos hr]
      exact (row_of_lt (m := 256) (n := 14336) x2 ⟨r.val, hr⟩ (7168 + k.val) (by omega)).symm
    · rw [dif_neg hr, dif_neg hr]
      exact (row_of_lt (m := 32) (n := 14336) x7 ⟨r.val - 256, by omega⟩ (7168 + k.val) (by omega)).symm

theorem out_lo (k : Fin 32) (o : Fin 4096) : val_main_v39 x2 x4 x5 x6 x7 (ix2 ⟨256 + k.val, by omega⟩ o)
    = out (row (m := 32) (n := 14336) x7 k) (rowB x4 o) (row x5 o) (row x6 o) 7168 := by
  rw [out_eq]
  simp

theorem norm_eq (o : Fin 4096) : val_main_v62 x2 x4 x5 x6 x7 x8 (ix1 o) = norm x4 x5 x6 x7 x8 o := by
  unfold norm sumsq
  rw [Finset.sum_range, Finset.sum_range]
  unfold val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_cst val_main_cst_1 val_main_cst_2 val_main_cst_3 val_main_cst_4 val_main_cst_5 gram
  pointwise
  simp only [hi_eq, lo_eq, out_lo]

theorem u_eq (r : Fin 256) (o : Fin 4096) :
    val_main_v68 x2 x3 x4 x5 x6 x7 x8 (ix2 r o) = u x2 x3 x4 x5 x6 x8 r o := by
  unfold u
  unfold val_main_v68 val_main_v67 val_main_v66 val_main_v65 val_main_v64 val_main_v63 val_main_cst_6
  pointwise
  rw [out_eq]
  simp

theorem y_eq (r : Fin 256) (o : Fin 4096) :
    val_main_v74 x0 x2 x3 x4 x5 x6 x7 x8 x9 (ix2 r o) = y x0 x2 x3 x4 x5 x6 x7 x8 x9 r o := by
  unfold y at3
  unfold val_main_v74 val_main_v73 val_main_v72 val_main_v71 val_main_v70 val_main_v69 val_main_v1 val_main_v0
  pointwise
  rw [u_eq, norm_eq]

theorem dmag_eq (o : Fin 4096) :
    val_main_v77 x1 x2 x3 x4 x5 x6 x7 x8 (ix1 o) = dmag x1 x2 x3 x4 x5 x6 x7 x8 o := by
  unfold dmag at3
  unfold val_main_v77 val_main_v76 val_main_v75 val_main_v3 val_main_v2 val_main_cst_7
  pointwise
  rw [norm_eq]
  simp only [u_eq]

theorem db_eq (o : Fin 4096) (k : Fin 32) :
    val_main_v84 x1 x2 x3 x4 x5 x6 x7 x8 x9 (ix2 o k) = db x1 x3 x4 x5 x6 x7 x8 x9 o k := by
  unfold db at3
  unfold val_main_v84 val_main_v83 val_main_v82 val_main_v81 val_main_v80 val_main_v79 val_main_v78 val_main_v69 val_main_v63 val_main_v3 val_main_v2 val_main_cst_8
  pointwise
  rw [norm_eq]
  exact congrArg _ (Finset.sum_congr rfl fun r _ => mul_comm _ _)

theorem cast_line (x : (⟨S4096, .f32⟩ : BufTy).Contents (Elt Ideal)) (i : S1x4096.Idx) :
    shapeCast S1x4096 x Cert.DownReferenceIdeal.Gen.shapeCasts_S4096_S1x4096 i = x (ix1 (i 1)) := by
  idx_vars i
  pointwise

end

end Cert.Dn.Ref
-- ==== Proof.Dn.RefRun.lean ====
/- The down reference's results at the launch's arguments. -/
module

public import proofs.«01_k».proof.Pre_finite_down
public import proofs.«01_k».proof.Proof.Gen.Pre_finite_down
public import proofs.«01_k».proof.Proof.Fwd.Refs
public import proofs.«01_k».proof.Proof.Dn.Ref
public import proofs.«01_k».proof.Proof.Dn.Inv

@[expose] public section

set_option maxRecDepth 16384

noncomputable section

namespace Cert.Dn

open Idealize.ShloMosaic Idealize.ShloMosaic.TcCoe
open Cert.Fwd (AllReal real_of_lt)

/-! ### Finite entries -/

theorem real_a (a0 : (⟨Cert.Pre_finite_down.S2x128x4096, .bf16⟩ : BufTy).Contents (Elt Ideal))
  (a1 : (⟨Cert.Pre_finite_down.S2x128x4096, .bf16⟩ : BufTy).Contents (Elt Ideal))
  (a2 : (⟨Cert.Pre_finite_down.S256x14336, .bf16⟩ : BufTy).Contents (Elt Ideal))
  (a3 : (⟨Cert.Pre_finite_down.S256x32, .bf16⟩ : BufTy).Contents (Elt Ideal))
  (a4 : (⟨Cert.Pre_finite_down.S4096x7168, .i8⟩ : BufTy).Contents (Elt Ideal))
  (a5 : (⟨Cert.Pre_finite_down.S4096x224, .bf16⟩ : BufTy).Contents (Elt Ideal))
  (a6 : (⟨Cert.Pre_finite_down.S4096x224, .bf16⟩ : BufTy).Contents (Elt Ideal))
  (a7 : (⟨Cert.Pre_finite_down.S32x14336, .bf16⟩ : BufTy).Contents (Elt Ideal))
  (a8 : (⟨Cert.Pre_finite_down.S4096x32, .bf16⟩ : BufTy).Contents (Elt Ideal))
  (a9 : (⟨Cert.Pre_finite_down.S4096, .f32⟩ : BufTy).Contents (Elt Ideal))
    (h : Cert.Pre_finite_down.fn (F := Ideal) a0 a1 a2 a3 a4 a5 a6 a7 a8 a9 = fun _ => 1#1) : AllReal (m := 32) (n := 14336) a7 :=
  fun i j => real_of_lt _ _ (congrFun h (ix2 i j))

/-! ### The reference's results -/

section
open Cert.DownReferenceIdeal Cert.DownReferenceIdeal.Read

variable (m : (ℓ : Loc Cert.DownIdeal.nD Cert.DownIdeal.τ Cert.DownIdeal.sig) → Buf (Elt Ideal) ℓ) (c : Dev Cert.DownIdeal.nD)

theorem ref_y : val_main_v74 (F := Ideal) (x0 m c) (x2 m c) (x3 m c) (x4 m c) (x5 m c) (x6 m c) (x7 m c) (x8 m c) (x9 m c) = fun i => yF m c (i 0) (i 1) := by
  funext i
  idx_vars i
  exact Ref.y_eq _ _ _ _ _ _ _ _ _ _ _

theorem ref_norm : val_main_v85 (F := Ideal) (x2 m c) (x4 m c) (x5 m c) (x6 m c) (x7 m c) (x8 m c) = fun i => nF m c (i 1) := by
  funext i
  unfold val_main_v85
  rw [Ref.cast_line]
  exact Ref.norm_eq _ _ _ _ _ _ _

theorem ref_dmag : val_main_v86 (F := Ideal) (x1 m c) (x2 m c) (x3 m c) (x4 m c) (x5 m c) (x6 m c) (x7 m c) (x8 m c) = fun i => gF m c (i 1) := by
  funext i
  unfold val_main_v86
  rw [Ref.cast_line]
  exact Ref.dmag_eq _ _ _ _ _ _ _ _ _

theorem ref_db : val_main_v84 (F := Ideal) (x1 m c) (x2 m c) (x3 m c) (x4 m c) (x5 m c) (x6 m c) (x7 m c) (x8 m c) (x9 m c) = fun i => bF m c (i 0) (i 1) := by
  funext i
  idx_vars i
  exact Ref.db_eq _ _ _ _ _ _ _ _ _ _ _

end

end Cert.Dn

end
-- ==== Proof.Fwd.RefRun.lean ====
/- The reference's run, and its results at the launch's arguments. -/
module

public import proofs.«01_k».proof.Proof.Gen.ReferenceIdeal.Run
public import proofs.«01_k».proof.Proof.Fwd.Ref

@[expose] public section

set_option maxRecDepth 16384

noncomputable section

namespace Cert.Fwd.Ref

open Cert.ReferenceIdeal Cert.ReferenceIdeal.Gen Cert.ReferenceIdeal.Read Idealize.ShloMosaic Idealize.ShloMosaic.TcCoe Idealize.SL.Sem
open Idealize.ShloMosaic.StableHlo

variable (m' : (ℓ : Loc nD τ sig) → Buf (Elt Ideal) ℓ) (ρ : Dev nD → PrngReg)

/-- The run: each result at its value of the arguments, the arguments kept. -/
theorem run : θ_run defs (onTc (τ := τ) (main (F := Ideal))) ⟨m', fun _ => 0, ρ⟩ fun r => ∀ c : Dev nD,
      r.2.mem ((c.tc : Thread nD τ).loc main_v83) = val_main_v83 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))
      ∧ r.2.mem ((c.tc : Thread nD τ).loc main_v153) = val_main_v153 (F := Ideal) (m' ((c.tc : Thread nD τ).loc main_arg0)) (m' ((c.tc : Thread nD τ).loc main_arg1)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12))
      ∧ r.2.mem ((c.tc : Thread nD τ).loc main_v166) = val_main_v166 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13))
      ∧ r.2.mem ((c.tc : Thread nD τ).loc main_v168) = val_main_v168 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))
      ∧ r.2.mem ((c.tc : Thread nD τ).loc main_v169) = val_main_v169 (F := Ideal) (m' ((c.tc : Thread nD τ).loc main_arg0)) (m' ((c.tc : Thread nD τ).loc main_arg1)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12))
      ∧ r.2.mem ((c.tc : Thread nD τ).loc main_v167) = val_main_v167 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14) :=
  (θ_run defs _ _).mono (fun r h c => by
    obtain ⟨h0, h1, h2, h3, h4, h5, ha⟩ := h c
    exact ⟨h0.trans (val_main_v83_eq _), h1.trans (val_main_v153_eq _), h2.trans (val_main_v166_eq _),
      h3.trans (val_main_v168_eq _), h4.trans (val_main_v169_eq _), h5.trans (val_main_v167_eq _), ha⟩)
    (Cert.ReferenceIdeal.Value.run (F := Ideal) m' ρ)

/-- The frame: the arguments are kept, and no semaphore is declared. -/
theorem frame : θ_run defs (onTc (τ := τ) (main (F := Ideal))) ⟨m', fun _ => 0, ρ⟩ fun r => (∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14))
      ∧ r.2.sem = fun _ => 0 :=
  (θ_run defs _ _).mono (fun r h => ⟨fun c => (h c).2.2.2.2.2.2, sem_eq_zero_of_no_sems (by decide) r.2⟩) (run m' ρ)

end Cert.Fwd.Ref

end
-- ==== Proof.Fwd.Frame.lean ====
/- The kernel's frame: the body's obligation at every point, the run and the frame. -/
module

public import proofs.«01_k».proof.Proof.Fwd.Outs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun0_A kernelRun0_B

set_option maxHeartbeats 25600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ]
  have hN : t.val < 28 := lt_of_lt_of_eq t.isLt (show cfg0.N = 28 from N_0)
  by_cases h0 : t.val % 28 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    rw [show (dats m 0 c).leavesExact 16 t = owns (c : Thread nD τ) (ms0_16 t) fullShare ((dats m 0 c).after 16 t) from by
      unfold Dat.leavesExact; rw [liveAt0_16 t], after0_16]
    rw [show (dats m 0 c).leavesExact 17 t = owns (c : Thread nD τ) (ms0_17 t) fullShare ((dats m 0 c).after 17 t) from by
      unfold Dat.leavesExact; rw [liveAt0_17 t], after0_17]
    rw [show (dats m 0 c).leavesExact 18 t = owns (c : Thread nD τ) (ms0_18 t) fullShare ((dats m 0 c).after 18 t) from by
      unfold Dat.leavesExact; rw [liveAt0_18 t], after0_18]
    rw [show (dats m 0 c).leavesExact 19 t = owns (c : Thread nD τ) (ms0_19 t) fullShare ((dats m 0 c).after 19 t) from by
      unfold Dat.leavesExact; rw [liveAt0_19 t], after0_19]
    rw [show (dats m 0 c).leavesExact 22 t = owns (c : Thread nD τ) (ms0_22 t) fullShare ((dats m 0 c).after 22 t) from by
      unfold Dat.leavesExact; rw [liveAt0_22 t], after0_22]
    by_cases hz : t.val = 0
    · rw [PhiS_castSucc m c t, PhiS_zero m c _ _ hz, PhiA0_eq]
      rw [outsAt0_A m c t h0]
      unfold out0_A_15 out0_A_16 out0_A_17 out0_A_18 out0_A_19 out0_A_22 sout0_A_0 sout0_A_1 sout0_A_2 sout0_A_3 sout0_A_4 runA; (try dsimp only)
      iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((runA m c t ((hcond0_0 t).mpr h0)).2.2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iintro ⟨H0, H1, H2, H3, H4, H5, H6, H7, H8, H9, H10, H11, H12, H13, H14, ⟨%e15, H15⟩, ⟨%e16, H16⟩, ⟨%e17, H17⟩, ⟨%e18, H18⟩, ⟨%e19, H19⟩, H20, H21, ⟨%e22, H22⟩, ⟨%es0, HS0⟩, ⟨%es1, HS1⟩, ⟨%es2, HS2⟩, ⟨%es3, HS3⟩, ⟨%es4, HS4⟩, ⟨%fT5, HS5⟩, ⟨%fT6, HS6⟩, ⟨%fT7, HS7⟩, ⟨%fT8, HS8⟩⟩
      isplitl [HS0 HS1 HS2 HS3 HS4 HS5 HS6 HS7 HS8 Hg]
      · isplitl [HS0 HS1 HS2 HS3 HS4 HS5 HS6 HS7 HS8]
        · isplitl [HS0]
          · unfold owns; iexists _; isplitr
            swap; · iexact HS0
            ipureintro; exact View.read_writes_of_cover _ _ _ _ _ (scover0_A_0 m c t _)
          isplitl [HS1]
          · unfold owns; iexists _; isplitr
            swap; · iexact HS1
            ipureintro; exact View.read_writes_of_cover _ _ _ _ _ (scover0_A_1 m c t _)
          isplitl [HS2]
          · unfold owns; iexists _; isplitr
            swap; · iexact HS2
            ipureintro; exact View.read_writes_of_cover _ _ _ _ _ (scover0_A_2 m c t _)
          isplitl [HS3]
          · unfold owns; iexists _; isplitr
            swap; · iexact HS3
            ipureintro; exact View.read_writes_of_cover _ _ _ _ _ (scover0_A_3 m c t _)
          isplitl [HS4]
          · unfold owns; iexists _; isplitr
            swap; · iexact HS4
            ipureintro; exact View.read_writes_of_cover _ _ _ _ _ (scover0_A_4 m c t _)
          isplitl [HS5]
          · iexists _; unfold owns; iexists _; isplitr
            swap; · iexact HS5
            ipureintro; rfl
          isplitl [HS6]
          · iexists _; unfold owns; iexists _; isplitr
            swap; · iexact HS6
            ipureintro; rfl
          isplitl [HS7]
          · iexists _; unfold owns; iexists _; isplitr
            swap; · iexact HS7
            ipureintro; rfl
          iexists _; unfold owns; iexists _; isplitr
          swap; · iexact HS8
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact View.read_writes_of_cover _ _ _ _ _ (cover0_A_15 m c t _)
      isplitl [H16]
      · unfold owns; iexists _; isplitr
        swap; · iexact H16
        ipureintro; exact View.read_writes_of_cover _ _ _ _ _ (cover0_A_16 m c t _)
      isplitl [H17]
      · unfold owns; iexists _; isplitr
        swap; · iexact H17
        ipureintro; exact View.read_writes_of_cover _ _ _ _ _ (cover0_A_17 m c t _)
      isplitl [H18]
      · unfold owns; iexists _; isplitr
        swap; · iexact H18
        ipureintro; exact View.read_writes_of_cover _ _ _ _ _ (cover0_A_18 m c t _)
      isplitl [H19]
      · unfold owns; iexists _; isplitr
        swap; · iexact H19
        ipureintro; exact View.read_writes_of_cover _ _ _ _ _ (cover0_A_19 m c t _)
      isplitl [H20]; · iexact H20
      isplitl [H21]; · iexact H21
      unfold owns; iexists _; isplitr
      swap; · iexact H22
      ipureintro; exact View.read_writes_of_cover _ _ _ _ _ (cover0_A_22 m c t _)
    · exfalso; have hN : t.val < 28 := lt_of_lt_of_eq t.isLt (show cfg0.N = 28 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    rw [show (dats m 0 c).leavesExact 16 t = owns (c : Thread nD τ) (ms0_16 t) fullShare ((dats m 0 c).after 16 t) from by
      unfold Dat.leavesExact; rw [liveAt0_16 t], after0_16]
    rw [show (dats m 0 c).leavesExact 17 t = owns (c : Thread nD τ) (ms0_17 t) fullShare ((dats m 0 c).after 17 t) from by
      unfold Dat.leavesExact; rw [liveAt0_17 t], after0_17]
    rw [show (dats m 0 c).leavesExact 18 t = owns (c : Thread nD τ) (ms0_18 t) fullShare ((dats m 0 c).after 18 t) from by
      unfold Dat.leavesExact; rw [liveAt0_18 t], after0_18]
    rw [show (dats m 0 c).leavesExact 19 t = owns (c : Thread nD τ) (ms0_19 t) fullShare ((dats m 0 c).after 19 t) from by
      unfold Dat.leavesExact; rw [liveAt0_19 t], after0_19]
    rw [show (dats m 0 c).leavesExact 22 t = owns (c : Thread nD τ) (ms0_22 t) fullShare ((dats m 0 c).after 22 t) from by
      unfold Dat.leavesExact; rw [liveAt0_22 t], after0_22]
    by_cases hz : t.val = 0
    · exfalso; have hN : t.val < 28 := lt_of_lt_of_eq t.isLt (show cfg0.N = 28 from N_0); omega
    · rw [PhiS_castSucc m c t, PhiS_pos m c _ _ hz]
      rw [outsAt0_B m c t h0]
      simp only [before0_22_B m c t h0]
      unfold out0_B_15 out0_B_16 out0_B_17 out0_B_18 out0_B_19 out0_B_22 sout0_B_0 sout0_B_1 sout0_B_2 sout0_B_3 sout0_B_4 runB; (try dsimp only)
      iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((runB m c t (fun h => h0 ((hcond0_0 t).mp h)) _ _ _ _ _ _).2.2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexact H22
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iintro ⟨H0, H1, H2, H3, H4, H5, H6, H7, H8, H9, H10, H11, H12, H13, H14, ⟨%e15, H15⟩, ⟨%e16, H16⟩, ⟨%e17, H17⟩, ⟨%e18, H18⟩, ⟨%e19, H19⟩, H20, H21, ⟨%e22, H22⟩, HS0, HS1, HS2, HS3, HS4, ⟨%fT5, HS5⟩, ⟨%fT6, HS6⟩, ⟨%fT7, HS7⟩, ⟨%fT8, HS8⟩⟩
      isplitl [HS0 HS1 HS2 HS3 HS4 HS5 HS6 HS7 HS8 Hg]
      · isplitl [HS0 HS1 HS2 HS3 HS4 HS5 HS6 HS7 HS8]
        · isplitl [HS0]
          · iexact HS0
          isplitl [HS1]
          · iexact HS1
          isplitl [HS2]
          · iexact HS2
          isplitl [HS3]
          · iexact HS3
          isplitl [HS4]
          · iexact HS4
          isplitl [HS5]
          · iexists _; unfold owns; iexists _; isplitr
            swap; · iexact HS5
            ipureintro; rfl
          isplitl [HS6]
          · iexists _; unfold owns; iexists _; isplitr
            swap; · iexact HS6
            ipureintro; rfl
          isplitl [HS7]
          · iexists _; unfold owns; iexists _; isplitr
            swap; · iexact HS7
            ipureintro; rfl
          iexists _; unfold owns; iexists _; isplitr
          swap; · iexact HS8
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact View.read_writes_of_cover _ _ _ _ _ (cover0_B_15 m c t _ _ _ _ _ _ _)
      isplitl [H16]
      · unfold owns; iexists _; isplitr
        swap; · iexact H16
        ipureintro; exact View.read_writes_of_cover _ _ _ _ _ (cover0_B_16 m c t _ _ _ _ _ _ _)
      isplitl [H17]
      · unfold owns; iexists _; isplitr
        swap; · iexact H17
        ipureintro; exact View.read_writes_of_cover _ _ _ _ _ (cover0_B_17 m c t _ _ _ _ _ _ _)
      isplitl [H18]
      · unfold owns; iexists _; isplitr
        swap; · iexact H18
        ipureintro; exact View.read_writes_of_cover _ _ _ _ _ (cover0_B_18 m c t _ _ _ _ _ _ _)
      isplitl [H19]
      · unfold owns; iexists _; isplitr
        swap; · iexact H19
        ipureintro; exact View.read_writes_of_cover _ _ _ _ _ (cover0_B_19 m c t _ _ _ _ _ _ _)
      isplitl [H20]; · iexact H20
      isplitl [H21]; · iexact H21
      unfold owns; iexists _; isplitr
      swap; · iexact H22
      ipureintro; exact View.read_writes_of_cover _ _ _ _ _ (cover0_B_22 m c t _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8⟩, Hg⟩
  isplitl [HS0 HS1 HS2 HS3 HS4 HS5 HS6 HS7 HS8]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexact HS5
    isplitl [HS6]
    · iexact HS6
    isplitl [HS7]
    · iexact HS7
    iexact HS8
  iexact Hg

/-- The same after the last point. -/
theorem hout (c : Dev nD) : (dats m 0 c).Φ (Fin.last cfg0.N) ⊢ Pipeline.ΦA spec0 c :=
  Phi_out m c _ (by rw [Fin.val_last]; have : cfg0.N = 28 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 20, 21) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.KernelIdeal.Hand

end
-- ==== Proof.Fwd.Value.lean ====
/- What the arrays hold after the run, block by block. -/
module

public import proofs.«01_k».proof.Proof.Fwd.Frame
public import Idealize.ShloMosaic.Lib.Pipeline.Value

@[expose] public section

noncomputable section

namespace Cert.KernelIdeal.Value

open Cert.KernelIdeal Cert.KernelIdeal.Gen Cert.KernelIdeal.Hand Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

-- no `blocks22`: window 22's index map revisits a block index, or its points could not be enumerated here;
-- the final array is still the frame's `arrAt`, to read with Lib/Pipeline/Value.lean's lemmas by hand

/-- A NAMED output window's array after the frame run: `(dats m 0 c).arrAt w N`, read off the run's relational post (`h`:
    the proof data with the windows `forgets0` forgotten) at any window `w` it does not forget (`hw`), by
    Lib/Pipeline/Cells.lean `Dat.toRForget_arrAt_iff`. -/
theorem finalR_out0 (r : PUnit × MemSt nD τ sig (Elt F)) (h : Pipeline.RDat.FramePost (cfgs 0) (fun c => (dats m 0 c).toRForget forgets0) (V m) r) (c : Dev nD) (w : Fin 23) (hw : forgets0 w = false) :
    r.2.mem ((cfg0.spec w).arr.view.loc (c : Thread nD τ)) = (dats m 0 c).arrAt w cfg0.N :=
  ((dats m 0 c).toRForget_arrAt_iff hw _ _).mp ((h c).1 w)

/-- After the frame run, output window 15's array is `(dats m 0 c).arrAt 15 N`. -/
theorem post15 (r : PUnit × MemSt nD τ sig (Elt F)) (h : Pipeline.RDat.FramePost (cfgs 0) (fun c => (dats m 0 c).toRForget forgets0) (V m) r) (c : Dev nD) :
    r.2.mem ((c : Thread nD τ).loc main_v4_0) = (dats m 0 c).arrAt 15 cfg0.N :=
  finalR_out0 m r h c 15 forgets0_15

/-- After the frame run, output window 16's array is `(dats m 0 c).arrAt 16 N`. -/
theorem post16 (r : PUnit × MemSt nD τ sig (Elt F)) (h : Pipeline.RDat.FramePost (cfgs 0) (fun c => (dats m 0 c).toRForget forgets0) (V m) r) (c : Dev nD) :
    r.2.mem ((c : Thread nD τ).loc main_v4_1) = (dats m 0 c).arrAt 16 cfg0.N :=
  finalR_out0 m r h c 16 forgets0_16

/-- After the frame run, output window 17's array is `(dats m 0 c).arrAt 17 N`. -/
theorem post17 (r : PUnit × MemSt nD τ sig (Elt F)) (h : Pipeline.RDat.FramePost (cfgs 0) (fun c => (dats m 0 c).toRForget forgets0) (V m) r) (c : Dev nD) :
    r.2.mem ((c : Thread nD τ).loc main_v4_2) = (dats m 0 c).arrAt 17 cfg0.N :=
  finalR_out0 m r h c 17 forgets0_17

/-- After the frame run, output window 18's array is `(dats m 0 c).arrAt 18 N`. -/
theorem post18 (r : PUnit × MemSt nD τ sig (Elt F)) (h : Pipeline.RDat.FramePost (cfgs 0) (fun c => (dats m 0 c).toRForget forgets0) (V m) r) (c : Dev nD) :
    r.2.mem ((c : Thread nD τ).loc main_v4_3) = (dats m 0 c).arrAt 18 cfg0.N :=
  finalR_out0 m r h c 18 forgets0_18

/-- After the frame run, output window 19's array is `(dats m 0 c).arrAt 19 N`. -/
theorem post19 (r : PUnit × MemSt nD τ sig (Elt F)) (h : Pipeline.RDat.FramePost (cfgs 0) (fun c => (dats m 0 c).toRForget forgets0) (V m) r) (c : Dev nD) :
    r.2.mem ((c : Thread nD τ).loc main_v4_4) = (dats m 0 c).arrAt 19 cfg0.N :=
  finalR_out0 m r h c 19 forgets0_19

/-- After the frame run, output window 22's array is `(dats m 0 c).arrAt 22 N`. -/
theorem post22 (r : PUnit × MemSt nD τ sig (Elt F)) (h : Pipeline.RDat.FramePost (cfgs 0) (fun c => (dats m 0 c).toRForget forgets0) (V m) r) (c : Dev nD) :
    r.2.mem ((c : Thread nD τ).loc main_v4_7) = (dats m 0 c).arrAt 22 cfg0.N :=
  finalR_out0 m r h c 22 forgets0_22

/-- After the frame run, argument `main_arg0` is as launched: no window stages it, and the run leaves the region's other buffers as they were. -/
theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 5 stages it and never writes it back. -/
theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  (Pipeline.RDat.FramePost.arr_in h c 5 rfl).trans ((A_eq m c 5).trans (V_main_arg2 m c))

/-- After the frame run, argument `main_arg3` is as launched: input window 6 stages it and never writes it back. -/
theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  (Pipeline.RDat.FramePost.arr_in h c 6 rfl).trans ((A_eq m c 6).trans (V_main_arg3 m c))

/-- After the frame run, argument `main_arg4` is as launched: input window 7 stages it and never writes it back. -/
theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  (Pipeline.RDat.FramePost.arr_in h c 7 rfl).trans ((A_eq m c 7).trans (V_main_arg4 m c))

/-- After the frame run, argument `main_arg5` is as launched: input window 2 stages it and never writes it back. -/
theorem kept_main_arg5 (r : PUnit × MemSt nD τ sig (Elt F)) (h : Pipeline.RDat.FramePost (cfgs 0) (fun c => (dats m 0 c).toRForget forgets0) (V m) r) (c : Dev nD) :
    r.2.mem ((c : Thread nD τ).loc main_arg5) = m ((c : Thread nD τ).loc main_arg5) :=
  (Pipeline.RDat.FramePost.arr_in h c 2 rfl).trans ((A_eq m c 2).trans (V_main_arg5 m c))

/-- After the frame run, argument `main_arg6` is as launched: input window 8 stages it and never writes it back. -/
theorem kept_main_arg6 (r : PUnit × MemSt nD τ sig (Elt F)) (h : Pipeline.RDat.FramePost (cfgs 0) (fun c => (dats m 0 c).toRForget forgets0) (V m) r) (c : Dev nD) :
    r.2.mem ((c : Thread nD τ).loc main_arg6) = m ((c : Thread nD τ).loc main_arg6) :=
  (Pipeline.RDat.FramePost.arr_in h c 8 rfl).trans ((A_eq m c 8).trans (V_main_arg6 m c))

/-- After the frame run, argument `main_arg7` is as launched: no window stages it, and the run leaves the region's other buffers as they were. -/
theorem kept_main_arg7 (r : PUnit × MemSt nD τ sig (Elt F)) (h : Pipeline.RDat.FramePost (cfgs 0) (fun c => (dats m 0 c).toRForget forgets0) (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: input window 10 stages it and never writes it back. -/
theorem kept_main_arg8 (r : PUnit × MemSt nD τ sig (Elt F)) (h : Pipeline.RDat.FramePost (cfgs 0) (fun c => (dats m 0 c).toRForget forgets0) (V m) r) (c : Dev nD) :
    r.2.mem ((c : Thread nD τ).loc main_arg8) = m ((c : Thread nD τ).loc main_arg8) :=
  (Pipeline.RDat.FramePost.arr_in h c 10 rfl).trans ((A_eq m c 10).trans (V_main_arg8 m c))

/-- After the frame run, argument `main_arg9` is as launched: input window 11 stages it and never writes it back. -/
theorem kept_main_arg9 (r : PUnit × MemSt nD τ sig (Elt F)) (h : Pipeline.RDat.FramePost (cfgs 0) (fun c => (dats m 0 c).toRForget forgets0) (V m) r) (c : Dev nD) :
    r.2.mem ((c : Thread nD τ).loc main_arg9) = m ((c : Thread nD τ).loc main_arg9) :=
  (Pipeline.RDat.FramePost.arr_in h c 11 rfl).trans ((A_eq m c 11).trans (V_main_arg9 m c))

/-- After the frame run, argument `main_arg10` is as launched: input window 12 stages it and never writes it back. -/
theorem kept_main_arg10 (r : PUnit × MemSt nD τ sig (Elt F)) (h : Pipeline.RDat.FramePost (cfgs 0) (fun c => (dats m 0 c).toRForget forgets0) (V m) r) (c : Dev nD) :
    r.2.mem ((c : Thread nD τ).loc main_arg10) = m ((c : Thread nD τ).loc main_arg10) :=
  (Pipeline.RDat.FramePost.arr_in h c 12 rfl).trans ((A_eq m c 12).trans (V_main_arg10 m c))

/-- After the frame run, argument `main_arg11` is as launched: input window 3 stages it and never writes it back. -/
theorem kept_main_arg11 (r : PUnit × MemSt nD τ sig (Elt F)) (h : Pipeline.RDat.FramePost (cfgs 0) (fun c => (dats m 0 c).toRForget forgets0) (V m) r) (c : Dev nD) :
    r.2.mem ((c : Thread nD τ).loc main_arg11) = m ((c : Thread nD τ).loc main_arg11) :=
  (Pipeline.RDat.FramePost.arr_in h c 3 rfl).trans ((A_eq m c 3).trans (V_main_arg11 m c))

/-- After the frame run, argument `main_arg12` is as launched: input window 13 stages it and never writes it back. -/
theorem kept_main_arg12 (r : PUnit × MemSt nD τ sig (Elt F)) (h : Pipeline.RDat.FramePost (cfgs 0) (fun c => (dats m 0 c).toRForget forgets0) (V m) r) (c : Dev nD) :
    r.2.mem ((c : Thread nD τ).loc main_arg12) = m ((c : Thread nD τ).loc main_arg12) :=
  (Pipeline.RDat.FramePost.arr_in h c 13 rfl).trans ((A_eq m c 13).trans (V_main_arg12 m c))

/-- After the frame run, argument `main_arg13` is as launched: no window stages it, and the run leaves the region's other buffers as they were. -/
theorem kept_main_arg13 (r : PUnit × MemSt nD τ sig (Elt F)) (h : Pipeline.RDat.FramePost (cfgs 0) (fun c => (dats m 0 c).toRForget forgets0) (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: input window 4 stages it and never writes it back. -/
theorem kept_main_arg14 (r : PUnit × MemSt nD τ sig (Elt F)) (h : Pipeline.RDat.FramePost (cfgs 0) (fun c => (dats m 0 c).toRForget forgets0) (V m) r) (c : Dev nD) :
    r.2.mem ((c : Thread nD τ).loc main_arg14) = m ((c : Thread nD τ).loc main_arg14) :=
  (Pipeline.RDat.FramePost.arr_in h c 4 rfl).trans ((A_eq m c 4).trans (V_main_arg14 m c))

/-! ## Carried scratch 0: what each point leaves in it, and its fold -/

/-- What point `n` leaves in carried scratch 0, over what the point before left in it (`acc`): the case the conditions'
    closed forms select at `n`, the frame's own term for it (`sout0_κ_0`; anything else the case takes of the point
    before, another carried scratch or an output it reads back, stays `outsAt0`'s at `n - 1`); a case at the first point
    stores the scratch whole without reading what it held, and `acc` does not enter there (nor where no point meets the
    conditions: `acc`, never read). -/
def scAt0_0 (c : Dev nD) (n : ℕ) (hb : n < cfg0.N) (acc : Vec F S256x4096 .bf16) : Vec F S256x4096 .bf16 :=
  if h0 : n % 28 = 0 then
    sout0_A_0 m c (⟨n, hb⟩ : Fin cfg0.N) ((hcond0_0 (⟨n, hb⟩ : Fin cfg0.N)).mpr h0)
  else
    sout0_B_0 c (⟨n, hb⟩ : Fin cfg0.N) (fun h => h0 ((hcond0_0 (⟨n, hb⟩ : Fin cfg0.N)).mp h)) (outsAt0 m c ((⟨n, hb⟩ : Fin cfg0.N).val - 1) (Nat.lt_of_le_of_lt (Nat.sub_le _ _) (⟨n, hb⟩ : Fin cfg0.N).isLt)).2.2.2.2.2.1 acc (outsAt0 m c ((⟨n, hb⟩ : Fin cfg0.N).val - 1) (Nat.lt_of_le_of_lt (Nat.sub_le _ _) (⟨n, hb⟩ : Fin cfg0.N).isLt)).2.2.2.2.2.2.2.1 (outsAt0 m c ((⟨n, hb⟩ : Fin cfg0.N).val - 1) (Nat.lt_of_le_of_lt (Nat.sub_le _ _) (⟨n, hb⟩ : Fin cfg0.N).isLt)).2.2.2.2.2.2.2.2.1 (outsAt0 m c ((⟨n, hb⟩ : Fin cfg0.N).val - 1) (Nat.lt_of_le_of_lt (Nat.sub_le _ _) (⟨n, hb⟩ : Fin cfg0.N).isLt)).2.2.2.2.2.2.2.2.2.1 (outsAt0 m c ((⟨n, hb⟩ : Fin cfg0.N).val - 1) (Nat.lt_of_le_of_lt (Nat.sub_le _ _) (⟨n, hb⟩ : Fin cfg0.N).isLt)).2.2.2.2.2.2.2.2.2.2

/-! ## Carried scratch 1: what each point leaves in it, and its fold -/

/-- What point `n` leaves in carried scratch 1, over what the point before left in it (`acc`): the case the conditions'
    closed forms select at `n`, the frame's own term for it (`sout0_κ_1`; anything else the case takes of the point
    before, another carried scratch or an output it reads back, stays `outsAt0`'s at `n - 1`); a case at the first point
    stores the scratch whole without reading what it held, and `acc` does not enter there (nor where no point meets the
    conditions: `acc`, never read). -/
def scAt0_1 (c : Dev nD) (n : ℕ) (hb : n < cfg0.N) (acc : Vec F S32x4096 .bf16) : Vec F S32x4096 .bf16 :=
  if h0 : n % 28 = 0 then
    sout0_A_1 m c (⟨n, hb⟩ : Fin cfg0.N) ((hcond0_0 (⟨n, hb⟩ : Fin cfg0.N)).mpr h0)
  else
    sout0_B_1 c (⟨n, hb⟩ : Fin cfg0.N) (fun h => h0 ((hcond0_0 (⟨n, hb⟩ : Fin cfg0.N)).mp h)) (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2.1 acc (outsAt0 m c ((⟨n, hb⟩ : Fin cfg0.N).val - 1) (Nat.lt_of_le_of_lt (Nat.sub_le _ _) (⟨n, hb⟩ : Fin cfg0.N).isLt)).2.2.2.2.2.2.2.2.1 (outsAt0 m c ((⟨n, hb⟩ : Fin cfg0.N).val - 1) (Nat.lt_of_le_of_lt (Nat.sub_le _ _) (⟨n, hb⟩ : Fin cfg0.N).isLt)).2.2.2.2.2.2.2.2.2.1 (outsAt0 m c ((⟨n, hb⟩ : Fin cfg0.N).val - 1) (Nat.lt_of_le_of_lt (Nat.sub_le _ _) (⟨n, hb⟩ : Fin cfg0.N).isLt)).2.2.2.2.2.2.2.2.2.2

/-! ## Carried scratch 2: what each point leaves in it, and its fold -/

/-- What point `n` leaves in carried scratch 2, over what the point before left in it (`acc`): the case the conditions'
    closed forms select at `n`, the frame's own term for it (`sout0_κ_2`; anything else the case takes of the point
    before, another carried scratch or an output it reads back, stays `outsAt0`'s at `n - 1`); a case at the first point
    stores the scratch whole without reading what it held, and `acc` does not enter there (nor where no point meets the
    conditions: `acc`, never read). -/
def scAt0_2 (c : Dev nD) (n : ℕ) (hb : n < cfg0.N) (acc : Vec F S32x4096 .bf16) : Vec F S32x4096 .bf16 :=
  if h0 : n % 28 = 0 then
    sout0_A_2 m c (⟨n, hb⟩ : Fin cfg0.N) ((hcond0_0 (⟨n, hb⟩ : Fin cfg0.N)).mpr h0)
  else
    sout0_B_2 c (⟨n, hb⟩ : Fin cfg0.N) (fun h => h0 ((hcond0_0 (⟨n, hb⟩ : Fin cfg0.N)).mp h)) (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2.1 (outsAt0 m c ((⟨n, hb⟩ : Fin cfg0.N).val - 1) (Nat.lt_of_le_of_lt (Nat.sub_le _ _) (⟨n, hb⟩ : Fin cfg0.N).isLt)).2.2.2.2.2.2.2.1 acc (outsAt0 m c ((⟨n, hb⟩ : Fin cfg0.N).val - 1) (Nat.lt_of_le_of_lt (Nat.sub_le _ _) (⟨n, hb⟩ : Fin cfg0.N).isLt)).2.2.2.2.2.2.2.2.2.1 (outsAt0 m c ((⟨n, hb⟩ : Fin cfg0.N).val - 1) (Nat.lt_of_le_of_lt (Nat.sub_le _ _) (⟨n, hb⟩ : Fin cfg0.N).isLt)).2.2.2.2.2.2.2.2.2.2

/-! ## Carried scratch 3: what each point leaves in it, and its fold -/

/-- What point `n` leaves in carried scratch 3, over what the point before left in it (`acc`): the case the conditions'
    closed forms select at `n`, the frame's own term for it (`sout0_κ_3`; anything else the case takes of the point
    before, another carried scratch or an output it reads back, stays `outsAt0`'s at `n - 1`); a case at the first point
    stores the scratch whole without reading what it held, and `acc` does not enter there (nor where no point meets the
    conditions: `acc`, never read). -/
def scAt0_3 (c : Dev nD) (n : ℕ) (hb : n < cfg0.N) (acc : Vec F S352x32 .bf16) : Vec F S352x32 .bf16 :=
  if h0 : n % 28 = 0 then
    sout0_A_3 m c (⟨n, hb⟩ : Fin cfg0.N) ((hcond0_0 (⟨n, hb⟩ : Fin cfg0.N)).mpr h0)
  else
    sout0_B_3 c (⟨n, hb⟩ : Fin cfg0.N) (fun h => h0 ((hcond0_0 (⟨n, hb⟩ : Fin cfg0.N)).mp h)) (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2.1 (outsAt0 m c ((⟨n, hb⟩ : Fin cfg0.N).val - 1) (Nat.lt_of_le_of_lt (Nat.sub_le _ _) (⟨n, hb⟩ : Fin cfg0.N).isLt)).2.2.2.2.2.2.2.1 (outsAt0 m c ((⟨n, hb⟩ : Fin cfg0.N).val - 1) (Nat.lt_of_le_of_lt (Nat.sub_le _ _) (⟨n, hb⟩ : Fin cfg0.N).isLt)).2.2.2.2.2.2.2.2.1 acc (outsAt0 m c ((⟨n, hb⟩ : Fin cfg0.N).val - 1) (Nat.lt_of_le_of_lt (Nat.sub_le _ _) (⟨n, hb⟩ : Fin cfg0.N).isLt)).2.2.2.2.2.2.2.2.2.2

/-! ## Carried scratch 4: what each point leaves in it, and its fold -/

/-- What point `n` leaves in carried scratch 4, over what the point before left in it (`acc`): the case the conditions'
    closed forms select at `n`, the frame's own term for it (`sout0_κ_4`; anything else the case takes of the point
    before, another carried scratch or an output it reads back, stays `outsAt0`'s at `n - 1`); a case at the first point
    stores the scratch whole without reading what it held, and `acc` does not enter there (nor where no point meets the
    conditions: `acc`, never read). -/
def scAt0_4 (c : Dev nD) (n : ℕ) (hb : n < cfg0.N) (acc : Vec F S352x32 .bf16) : Vec F S352x32 .bf16 :=
  if h0 : n % 28 = 0 then
    sout0_A_4 m c (⟨n, hb⟩ : Fin cfg0.N) ((hcond0_0 (⟨n, hb⟩ : Fin cfg0.N)).mpr h0)
  else
    sout0_B_4 c (⟨n, hb⟩ : Fin cfg0.N) (fun h => h0 ((hcond0_0 (⟨n, hb⟩ : Fin cfg0.N)).mp h)) (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2.1 (outsAt0 m c ((⟨n, hb⟩ : Fin cfg0.N).val - 1) (Nat.lt_of_le_of_lt (Nat.sub_le _ _) (⟨n, hb⟩ : Fin cfg0.N).isLt)).2.2.2.2.2.2.2.1 (outsAt0 m c ((⟨n, hb⟩ : Fin cfg0.N).val - 1) (Nat.lt_of_le_of_lt (Nat.sub_le _ _) (⟨n, hb⟩ : Fin cfg0.N).isLt)).2.2.2.2.2.2.2.2.1 (outsAt0 m c ((⟨n, hb⟩ : Fin cfg0.N).val - 1) (Nat.lt_of_le_of_lt (Nat.sub_le _ _) (⟨n, hb⟩ : Fin cfg0.N).isLt)).2.2.2.2.2.2.2.2.2.1 acc

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S256x512 .f32 × Vec F S256x512 .f32 × Vec F S256x512 .bf16 × Vec F S1x512 .f32 × Vec F S1x512 .f32 × Vec F S256x32 .f32 × Vec F S256x4096 .bf16 × Vec F S32x4096 .bf16 × Vec F S32x4096 .bf16 × Vec F S352x32 .bf16 × Vec F S352x32 .bf16 :=
  ((VO0_15.read (Elt F) VO0_15.junk, VO0_16.read (Elt F) VO0_16.junk, VO0_17.read (Elt F) VO0_17.junk, VO0_18.read (Elt F) VO0_18.junk, VO0_19.read (Elt F) VO0_19.junk, VO0_22.read (Elt F) VO0_22.junk, VS0_0.read (Elt F) VS0_0.junk, VS0_1.read (Elt F) VS0_1.junk, VS0_2.read (Elt F) VS0_2.junk, VS0_3.read (Elt F) VS0_3.junk, VS0_4.read (Elt F) VS0_4.junk) : Vec F S256x512 .f32 × Vec F S256x512 .f32 × Vec F S256x512 .bf16 × Vec F S1x512 .f32 × Vec F S1x512 .f32 × Vec F S256x32 .f32 × Vec F S256x4096 .bf16 × Vec F S32x4096 .bf16 × Vec F S32x4096 .bf16 × Vec F S352x32 .bf16 × Vec F S352x32 .bf16)

/-- THE STEP: what point `n` leaves in the named outputs and the carried scratch (`outsAt0`'s tuple), over what the
    point before left (`acc`) — `outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S256x512 .f32 × Vec F S256x512 .f32 × Vec F S256x512 .bf16 × Vec F S1x512 .f32 × Vec F S1x512 .f32 × Vec F S256x32 .f32 × Vec F S256x4096 .bf16 × Vec F S32x4096 .bf16 × Vec F S32x4096 .bf16 × Vec F S352x32 .bf16 × Vec F S352x32 .bf16) : Vec F S256x512 .f32 × Vec F S256x512 .f32 × Vec F S256x512 .bf16 × Vec F S1x512 .f32 × Vec F S1x512 .f32 × Vec F S256x32 .f32 × Vec F S256x4096 .bf16 × Vec F S32x4096 .bf16 × Vec F S32x4096 .bf16 × Vec F S352x32 .bf16 × Vec F S352x32 .bf16 :=
  if h0 : n % 28 = 0 then
    (out0_A_15 m c (⟨n, hb⟩ : Fin cfg0.N) ((hcond0_0 (⟨n, hb⟩ : Fin cfg0.N)).mpr h0), out0_A_16 m c (⟨n, hb⟩ : Fin cfg0.N) ((hcond0_0 (⟨n, hb⟩ : Fin cfg0.N)).mpr h0), out0_A_17 m c (⟨n, hb⟩ : Fin cfg0.N) ((hcond0_0 (⟨n, hb⟩ : Fin cfg0.N)).mpr h0), out0_A_18 m c (⟨n, hb⟩ : Fin cfg0.N) ((hcond0_0 (⟨n, hb⟩ : Fin cfg0.N)).mpr h0), out0_A_19 m c (⟨n, hb⟩ : Fin cfg0.N) ((hcond0_0 (⟨n, hb⟩ : Fin cfg0.N)).mpr h0), out0_A_22 m c (⟨n, hb⟩ : Fin cfg0.N) ((hcond0_0 (⟨n, hb⟩ : Fin cfg0.N)).mpr h0), sout0_A_0 m c (⟨n, hb⟩ : Fin cfg0.N) ((hcond0_0 (⟨n, hb⟩ : Fin cfg0.N)).mpr h0), sout0_A_1 m c (⟨n, hb⟩ : Fin cfg0.N) ((hcond0_0 (⟨n, hb⟩ : Fin cfg0.N)).mpr h0), sout0_A_2 m c (⟨n, hb⟩ : Fin cfg0.N) ((hcond0_0 (⟨n, hb⟩ : Fin cfg0.N)).mpr h0), sout0_A_3 m c (⟨n, hb⟩ : Fin cfg0.N) ((hcond0_0 (⟨n, hb⟩ : Fin cfg0.N)).mpr h0), sout0_A_4 m c (⟨n, hb⟩ : Fin cfg0.N) ((hcond0_0 (⟨n, hb⟩ : Fin cfg0.N)).mpr h0))
  else
    (out0_B_15 m c (⟨n, hb⟩ : Fin cfg0.N) (fun h => h0 ((hcond0_0 (⟨n, hb⟩ : Fin cfg0.N)).mp h)) acc.2.2.2.2.2.1 acc.2.2.2.2.2.2.1 acc.2.2.2.2.2.2.2.1 acc.2.2.2.2.2.2.2.2.1 acc.2.2.2.2.2.2.2.2.2.1 acc.2.2.2.2.2.2.2.2.2.2, out0_B_16 m c (⟨n, hb⟩ : Fin cfg0.N) (fun h => h0 ((hcond0_0 (⟨n, hb⟩ : Fin cfg0.N)).mp h)) acc.2.2.2.2.2.1 acc.2.2.2.2.2.2.1 acc.2.2.2.2.2.2.2.1 acc.2.2.2.2.2.2.2.2.1 acc.2.2.2.2.2.2.2.2.2.1 acc.2.2.2.2.2.2.2.2.2.2, out0_B_17 m c (⟨n, hb⟩ : Fin cfg0.N) (fun h => h0 ((hcond0_0 (⟨n, hb⟩ : Fin cfg0.N)).mp h)) acc.2.2.2.2.2.1 acc.2.2.2.2.2.2.1 acc.2.2.2.2.2.2.2.1 acc.2.2.2.2.2.2.2.2.1 acc.2.2.2.2.2.2.2.2.2.1 acc.2.2.2.2.2.2.2.2.2.2, out0_B_18 m c (⟨n, hb⟩ : Fin cfg0.N) (fun h => h0 ((hcond0_0 (⟨n, hb⟩ : Fin cfg0.N)).mp h)) acc.2.2.2.2.2.1 acc.2.2.2.2.2.2.1 acc.2.2.2.2.2.2.2.1 acc.2.2.2.2.2.2.2.2.1 acc.2.2.2.2.2.2.2.2.2.1 acc.2.2.2.2.2.2.2.2.2.2, out0_B_19 m c (⟨n, hb⟩ : Fin cfg0.N) (fun h => h0 ((hcond0_0 (⟨n, hb⟩ : Fin cfg0.N)).mp h)) acc.2.2.2.2.2.1 acc.2.2.2.2.2.2.1 acc.2.2.2.2.2.2.2.1 acc.2.2.2.2.2.2.2.2.1 acc.2.2.2.2.2.2.2.2.2.1 acc.2.2.2.2.2.2.2.2.2.2, out0_B_22 m c (⟨n, hb⟩ : Fin cfg0.N) (fun h => h0 ((hcond0_0 (⟨n, hb⟩ : Fin cfg0.N)).mp h)) acc.2.2.2.2.2.1 acc.2.2.2.2.2.2.1 acc.2.2.2.2.2.2.2.1 acc.2.2.2.2.2.2.2.2.1 acc.2.2.2.2.2.2.2.2.2.1 acc.2.2.2.2.2.2.2.2.2.2, sout0_B_0 c (⟨n, hb⟩ : Fin cfg0.N) (fun h => h0 ((hcond0_0 (⟨n, hb⟩ : Fin cfg0.N)).mp h)) acc.2.2.2.2.2.1 acc.2.2.2.2.2.2.1 acc.2.2.2.2.2.2.2.1 acc.2.2.2.2.2.2.2.2.1 acc.2.2.2.2.2.2.2.2.2.1 acc.2.2.2.2.2.2.2.2.2.2, sout0_B_1 c (⟨n, hb⟩ : Fin cfg0.N) (fun h => h0 ((hcond0_0 (⟨n, hb⟩ : Fin cfg0.N)).mp h)) acc.2.2.2.2.2.1 acc.2.2.2.2.2.2.1 acc.2.2.2.2.2.2.2.1 acc.2.2.2.2.2.2.2.2.1 acc.2.2.2.2.2.2.2.2.2.1 acc.2.2.2.2.2.2.2.2.2.2, sout0_B_2 c (⟨n, hb⟩ : Fin cfg0.N) (fun h => h0 ((hcond0_0 (⟨n, hb⟩ : Fin cfg0.N)).mp h)) acc.2.2.2.2.2.1 acc.2.2.2.2.2.2.1 acc.2.2.2.2.2.2.2.1 acc.2.2.2.2.2.2.2.2.1 acc.2.2.2.2.2.2.2.2.2.1 acc.2.2.2.2.2.2.2.2.2.2, sout0_B_3 c (⟨n, hb⟩ : Fin cfg0.N) (fun h => h0 ((hcond0_0 (⟨n, hb⟩ : Fin cfg0.N)).mp h)) acc.2.2.2.2.2.1 acc.2.2.2.2.2.2.1 acc.2.2.2.2.2.2.2.1 acc.2.2.2.2.2.2.2.2.1 acc.2.2.2.2.2.2.2.2.2.1 acc.2.2.2.2.2.2.2.2.2.2, sout0_B_4 c (⟨n, hb⟩ : Fin cfg0.N) (fun h => h0 ((hcond0_0 (⟨n, hb⟩ : Fin cfg0.N)).mp h)) acc.2.2.2.2.2.1 acc.2.2.2.2.2.2.1 acc.2.2.2.2.2.2.2.1 acc.2.2.2.2.2.2.2.2.1 acc.2.2.2.2.2.2.2.2.2.1 acc.2.2.2.2.2.2.2.2.2.2)

/-- `stAt0` at a point of case A: that case's contents. -/
theorem stAt0_A (c : Dev nD) (t : Fin cfg0.N) (acc : Vec F S256x512 .f32 × Vec F S256x512 .f32 × Vec F S256x512 .bf16 × Vec F S1x512 .f32 × Vec F S1x512 .f32 × Vec F S256x32 .f32 × Vec F S256x4096 .bf16 × Vec F S32x4096 .bf16 × Vec F S32x4096 .bf16 × Vec F S352x32 .bf16 × Vec F S352x32 .bf16) (h0 : t.val % 28 = 0) :
    stAt0 m c t.val t.isLt acc = (out0_A_15 m c t ((hcond0_0 t).mpr h0), out0_A_16 m c t ((hcond0_0 t).mpr h0), out0_A_17 m c t ((hcond0_0 t).mpr h0), out0_A_18 m c t ((hcond0_0 t).mpr h0), out0_A_19 m c t ((hcond0_0 t).mpr h0), out0_A_22 m c t ((hcond0_0 t).mpr h0), sout0_A_0 m c t ((hcond0_0 t).mpr h0), sout0_A_1 m c t ((hcond0_0 t).mpr h0), sout0_A_2 m c t ((hcond0_0 t).mpr h0), sout0_A_3 m c t ((hcond0_0 t).mpr h0), sout0_A_4 m c t ((hcond0_0 t).mpr h0)) :=
  (dif_pos h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 28 from N_0)
  have e := Pipeline.eq_accAt_of_mod (fun n h => outsAt0 m c n h) 28 (fun n h => stAt0 m c n h junk0) (stAt0 m c)
    (fun n h _ => by
      have hN := lt_of_lt_of_eq h (show cfg0.N = 28 from N_0)
      obtain rfl : n = 0 := by omega
      exact outsAt0_zero m c h)
    (fun n h _ => outsAt0_succ m c n h)
    (by decide) n hn (by have := Nat.div_add_mod n 28; omega)
  have hd : n / 28 = 0 := Nat.div_eq_of_lt hN
  have hm : n % 28 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 15 -/

/-- The block of the array that holds index `i`, numbered in the order the points write the blocks back (one per point),
    `i`'s place in it, and the point that writes it back. -/
abbrev run15Of (i : S256x14336.Idx) : ℕ := 28 * ((i 0).val / 256 - 0) + 1 * ((i 1).val / 512 - 0)
set_option backward.proofsInPublic true in
abbrev loc15Of (i : S256x14336.Idx) : S256x512.Idx := fun a => match a with
  | ⟨0, _⟩ => ⟨(i 0).val % 256, Nat.mod_lt _ (by decide)⟩
  | ⟨1, _⟩ => ⟨(i 1).val % 512, Nat.mod_lt _ (by decide)⟩
abbrev pt15Of (i : S256x14336.Idx) : ℕ := run15Of i

/-- WHAT THE ARRAY ENDS HOLDING at index `i` inside the box the flushing blocks fill: output 15's component of the carried
    state's fold at the point that writes `i`'s block back, at `i`'s place in the block. `G15` states the array's contents
    only inside the box. -/
def G15 (c : Dev nD) : Buf (Elt F) ((c : Thread nD τ).loc main_v4_0) := fun i =>
  if h : pt15Of i < cfg0.N then
    (Pipeline.accAt (fun n h => stAt0 m c n h junk0) (stAt0 m c) 0 (pt15Of i) (by omega)).1 (loc15Of i)
  else V m c (Pipeline.arrRef spec0 15) i

/-- The printed index map, decided over the grid: output window 15's block indices stay in the box, and the block number
    read off them is the point's (`t`). -/
theorem idx_facts15 : ∀ t : Fin cfg0.N, 0 ≤ win0_15.index t (0 : Fin 2) ∧ win0_15.index t (0 : Fin 2) ≤ 0
    ∧ 0 ≤ win0_15.index t (1 : Fin 2) ∧ win0_15.index t (1 : Fin 2) ≤ 27
    ∧ 28 * (win0_15.index t (0 : Fin 2) - 0) + 1 * (win0_15.index t (1 : Fin 2) - 0) = t.val :=
  (by decide +kernel : ∀ t : Fin grid0.N, _)

/-- Every block of the box is SOME flushing point's: `onto15Pt`, the point that writes back the block at place `q` of the box. -/
abbrev onto15Pt (q0 : Fin 1) (q1 : Fin 28) : Fin grid0.N :=
  ⟨28 * q0.val + 1 * q1.val, lt_of_lt_of_eq (by omega) N_0.symm⟩
theorem idx_onto15 : ∀ (q0 : Fin 1) (q1 : Fin 28), ∃ t : Fin cfg0.N, (cfg0.win 15).flush t = true ∧ win0_15.index t = ![q0.val + 0, q1.val + 0] :=
  fun q0 q1 => ⟨onto15Pt q0 q1, (by decide +kernel : ∀ (q0 : Fin 1) (q1 : Fin 28), win0_15.flush (onto15Pt q0 q1) = true ∧ win0_15.index (onto15Pt q0 q1) = ![q0.val + 0, q1.val + 0]) q0 q1⟩

/-- WHAT A FLUSHING POINT `t` WRITES BACK is block `t` of `G15`: output 15's component of the fold up to `t`. -/
theorem flushed15_eq (c : Dev nD) (t : Fin cfg0.N) (hf : (cfg0.win 15).flush t = true) :
    (dats m 0 c).flushed 15 t = ((cfg0.win 15).blk t).view.read (Elt F) (G15 m c) := by
  show (cfg0.win 15).cut (grid0.coords t) ((dats m 0 c).after 15 t) = _
  rw [after0_15, outsAt0_sweep]
  obtain ⟨e0, e1, e2⟩ := idx_facts15 t
  funext y
  have hy0 : (y 0).val < 256 := (y 0).isLt
  have hy1 : (y 1).val < 512 := (y 1).isLt
  have hb0 : (((cfg0.win 15).blk t).view.emb y 0).val = win0_15.index t (0 : Fin 2) * 256 + 1 * (y 0).val := rfl
  have hb1 : (((cfg0.win 15).blk t).view.emb y 1).val = win0_15.index t (1 : Fin 2) * 512 + 1 * (y 1).val := rfl
  have hr : run15Of (((cfg0.win 15).blk t).view.emb y) = t.val := by
    show 28 * ((((cfg0.win 15).blk t).view.emb y 0).val / 256 - 0) + 1 * ((((cfg0.win 15).blk t).view.emb y 1).val / 512 - 0) = _
    rw [hb0, hb1]
    rw [show (win0_15.index t (0 : Fin 2) * 256 + 1 * (y 0).val) / 256 = win0_15.index t (0 : Fin 2) from by omega]; rw [show (win0_15.index t (1 : Fin 2) * 512 + 1 * (y 1).val) / 512 = win0_15.index t (1 : Fin 2) from by omega]
    omega
  have hl : loc15Of (((cfg0.win 15).blk t).view.emb y) = (cfg0.win 15).xinj (grid0.coords t) y := by
    funext a; apply Fin.ext
    match a with
    | ⟨0, _⟩ => show (((cfg0.win 15).blk t).view.emb y 0).val % 256 = (y 0).val; rw [hb0]; omega
    | ⟨1, _⟩ => show (((cfg0.win 15).blk t).view.emb y 1).val % 512 = (y 1).val; rw [hb1]; omega
  have hp : pt15Of (((cfg0.win 15).blk t).view.emb y) = t.val := by
    exact hr
  show (Pipeline.accAt (fun n h => stAt0 m c n h junk0) (stAt0 m c) 0 t.val _).1 ((cfg0.win 15).xinj (grid0.coords t) y) = G15 m c (((cfg0.win 15).blk t).view.emb y)
  unfold G15
  rw [dif_pos (by rw [hp]; exact t.isLt), hl, fold0_congr m c _ _ _ _ hp.symm]

/-- An index of the array is in point `t`'s block iff each coordinate is in the block's range on its axis. -/
theorem mem_blk15 (t : Fin cfg0.N) (i : S256x14336.Idx) :
    i ∈ ((cfg0.win 15).blk t).view.set ↔ ∀ a : Fin 2, win0_15.index t a * S256x512.size a ≤ (i a).val ∧ (i a).val < win0_15.index t a * S256x512.size a + S256x512.size a := by
  show i ∈ ((View.whole main_v4_0).slice (win0_15.rect t)).set ↔ _
  rw [View.set_slice_whole, Rect.mem_set_unit]
  exact Iff.rfl

/-- THE COVERED INDICES: in some flushing point's block iff inside the box those blocks fill. -/
theorem covered_iff15 (i : S256x14336.Idx) :
    (∃ t : Fin cfg0.N, (cfg0.win 15).flush t = true ∧ i ∈ ((cfg0.win 15).blk t).view.set) ↔ 0 ≤ (i 0).val ∧ (i 0).val < 256 ∧ 0 ≤ (i 1).val ∧ (i 1).val < 14336 := by
  constructor
  · rintro ⟨t, -, hi⟩
    rw [mem_blk15] at hi
    have b0 : win0_15.index t (0 : Fin 2) * 256 ≤ (i 0).val ∧ (i 0).val < win0_15.index t (0 : Fin 2) * 256 + 256 := hi 0
    have b1 : win0_15.index t (1 : Fin 2) * 512 ≤ (i 1).val ∧ (i 1).val < win0_15.index t (1 : Fin 2) * 512 + 512 := hi 1
    obtain ⟨e0, e1, e2⟩ := idx_facts15 t
    omega
  · intro h
    have hi0 : (i 0).val < 256 := (i 0).isLt
    have hi1 : (i 1).val < 14336 := (i 1).isLt
    obtain ⟨t, hft, ht⟩ := idx_onto15 ⟨(i 0).val / 256 - 0, by omega⟩ ⟨(i 1).val / 512 - 0, by omega⟩
    have q0 : win0_15.index t (0 : Fin 2) = (i 0).val / 256 - 0 + 0 := congrFun ht 0
    have q1 : win0_15.index t (1 : Fin 2) = (i 1).val / 512 - 0 + 0 := congrFun ht 1
    refine ⟨t, hft, ?_⟩
    rw [mem_blk15]
    intro a
    match a with
    | ⟨0, _⟩ => show win0_15.index t (0 : Fin 2) * 256 ≤ (i 0).val ∧ (i 0).val < win0_15.index t (0 : Fin 2) * 256 + 256; omega
    | ⟨1, _⟩ => show win0_15.index t (1 : Fin 2) * 512 ≤ (i 1).val ∧ (i 1).val < win0_15.index t (1 : Fin 2) * 512 + 512; omega

/-- THE ARRAY after the run: `G15` (the flushing blocks tile it). -/
theorem final15 (c : Dev nD) : (dats m 0 c).arrAt 15 cfg0.N = G15 m c :=
  (dats m 0 c).arrAt_eq_of_cover 15 _ (fun t hf => flushed15_eq m c t hf) (fun i => (covered_iff15 i).2 (by
    have h0 : (i 0).val < 256 := (i 0).isLt; have h1 : (i 1).val < 14336 := (i 1).isLt; omega))

/-! ## Output window 16 -/

/-- The block of the array that holds index `i`, numbered in the order the points write the blocks back (one per point),
    `i`'s place in it, and the point that writes it back. -/
abbrev run16Of (i : S256x14336.Idx) : ℕ := 28 * ((i 0).val / 256 - 0) + 1 * ((i 1).val / 512 - 0)
set_option backward.proofsInPublic true in
abbrev loc16Of (i : S256x14336.Idx) : S256x512.Idx := fun a => match a with
  | ⟨0, _⟩ => ⟨(i 0).val % 256, Nat.mod_lt _ (by decide)⟩
  | ⟨1, _⟩ => ⟨(i 1).val % 512, Nat.mod_lt _ (by decide)⟩
abbrev pt16Of (i : S256x14336.Idx) : ℕ := run16Of i

/-- WHAT THE ARRAY ENDS HOLDING at index `i` inside the box the flushing blocks fill: output 16's component of the carried
    state's fold at the point that writes `i`'s block back, at `i`'s place in the block. `G16` states the array's contents
    only inside the box. -/
def G16 (c : Dev nD) : Buf (Elt F) ((c : Thread nD τ).loc main_v4_1) := fun i =>
  if h : pt16Of i < cfg0.N then
    (Pipeline.accAt (fun n h => stAt0 m c n h junk0) (stAt0 m c) 0 (pt16Of i) (by omega)).2.1 (loc16Of i)
  else V m c (Pipeline.arrRef spec0 16) i

/-- The printed index map, decided over the grid: output window 16's block indices stay in the box, and the block number
    read off them is the point's (`t`). -/
theorem idx_facts16 : ∀ t : Fin cfg0.N, 0 ≤ win0_16.index t (0 : Fin 2) ∧ win0_16.index t (0 : Fin 2) ≤ 0
    ∧ 0 ≤ win0_16.index t (1 : Fin 2) ∧ win0_16.index t (1 : Fin 2) ≤ 27
    ∧ 28 * (win0_16.index t (0 : Fin 2) - 0) + 1 * (win0_16.index t (1 : Fin 2) - 0) = t.val :=
  (by decide +kernel : ∀ t : Fin grid0.N, _)

/-- Every block of the box is SOME flushing point's: `onto16Pt`, the point that writes back the block at place `q` of the box. -/
abbrev onto16Pt (q0 : Fin 1) (q1 : Fin 28) : Fin grid0.N :=
  ⟨28 * q0.val + 1 * q1.val, lt_of_lt_of_eq (by omega) N_0.symm⟩
theorem idx_onto16 : ∀ (q0 : Fin 1) (q1 : Fin 28), ∃ t : Fin cfg0.N, (cfg0.win 16).flush t = true ∧ win0_16.index t = ![q0.val + 0, q1.val + 0] :=
  fun q0 q1 => ⟨onto16Pt q0 q1, (by decide +kernel : ∀ (q0 : Fin 1) (q1 : Fin 28), win0_16.flush (onto16Pt q0 q1) = true ∧ win0_16.index (onto16Pt q0 q1) = ![q0.val + 0, q1.val + 0]) q0 q1⟩

/-- WHAT A FLUSHING POINT `t` WRITES BACK is block `t` of `G16`: output 16's component of the fold up to `t`. -/
theorem flushed16_eq (c : Dev nD) (t : Fin cfg0.N) (hf : (cfg0.win 16).flush t = true) :
    (dats m 0 c).flushed 16 t = ((cfg0.win 16).blk t).view.read (Elt F) (G16 m c) := by
  show (cfg0.win 16).cut (grid0.coords t) ((dats m 0 c).after 16 t) = _
  rw [after0_16, outsAt0_sweep]
  obtain ⟨e0, e1, e2⟩ := idx_facts16 t
  funext y
  have hy0 : (y 0).val < 256 := (y 0).isLt
  have hy1 : (y 1).val < 512 := (y 1).isLt
  have hb0 : (((cfg0.win 16).blk t).view.emb y 0).val = win0_16.index t (0 : Fin 2) * 256 + 1 * (y 0).val := rfl
  have hb1 : (((cfg0.win 16).blk t).view.emb y 1).val = win0_16.index t (1 : Fin 2) * 512 + 1 * (y 1).val := rfl
  have hr : run16Of (((cfg0.win 16).blk t).view.emb y) = t.val := by
    show 28 * ((((cfg0.win 16).blk t).view.emb y 0).val / 256 - 0) + 1 * ((((cfg0.win 16).blk t).view.emb y 1).val / 512 - 0) = _
    rw [hb0, hb1]
    rw [show (win0_16.index t (0 : Fin 2) * 256 + 1 * (y 0).val) / 256 = win0_16.index t (0 : Fin 2) from by omega]; rw [show (win0_16.index t (1 : Fin 2) * 512 + 1 * (y 1).val) / 512 = win0_16.index t (1 : Fin 2) from by omega]
    omega
  have hl : loc16Of (((cfg0.win 16).blk t).view.emb y) = (cfg0.win 16).xinj (grid0.coords t) y := by
    funext a; apply Fin.ext
    match a with
    | ⟨0, _⟩ => show (((cfg0.win 16).blk t).view.emb y 0).val % 256 = (y 0).val; rw [hb0]; omega
    | ⟨1, _⟩ => show (((cfg0.win 16).blk t).view.emb y 1).val % 512 = (y 1).val; rw [hb1]; omega
  have hp : pt16Of (((cfg0.win 16).blk t).view.emb y) = t.val := by
    exact hr
  show (Pipeline.accAt (fun n h => stAt0 m c n h junk0) (stAt0 m c) 0 t.val _).2.1 ((cfg0.win 16).xinj (grid0.coords t) y) = G16 m c (((cfg0.win 16).blk t).view.emb y)
  unfold G16
  rw [dif_pos (by rw [hp]; exact t.isLt), hl, fold0_congr m c _ _ _ _ hp.symm]

/-- An index of the array is in point `t`'s block iff each coordinate is in the block's range on its axis. -/
theorem mem_blk16 (t : Fin cfg0.N) (i : S256x14336.Idx) :
    i ∈ ((cfg0.win 16).blk t).view.set ↔ ∀ a : Fin 2, win0_16.index t a * S256x512.size a ≤ (i a).val ∧ (i a).val < win0_16.index t a * S256x512.size a + S256x512.size a := by
  show i ∈ ((View.whole main_v4_1).slice (win0_16.rect t)).set ↔ _
  rw [View.set_slice_whole, Rect.mem_set_unit]
  exact Iff.rfl

/-- THE COVERED INDICES: in some flushing point's block iff inside the box those blocks fill. -/
theorem covered_iff16 (i : S256x14336.Idx) :
    (∃ t : Fin cfg0.N, (cfg0.win 16).flush t = true ∧ i ∈ ((cfg0.win 16).blk t).view.set) ↔ 0 ≤ (i 0).val ∧ (i 0).val < 256 ∧ 0 ≤ (i 1).val ∧ (i 1).val < 14336 := by
  constructor
  · rintro ⟨t, -, hi⟩
    rw [mem_blk16] at hi
    have b0 : win0_16.index t (0 : Fin 2) * 256 ≤ (i 0).val ∧ (i 0).val < win0_16.index t (0 : Fin 2) * 256 + 256 := hi 0
    have b1 : win0_16.index t (1 : Fin 2) * 512 ≤ (i 1).val ∧ (i 1).val < win0_16.index t (1 : Fin 2) * 512 + 512 := hi 1
    obtain ⟨e0, e1, e2⟩ := idx_facts16 t
    omega
  · intro h
    have hi0 : (i 0).val < 256 := (i 0).isLt
    have hi1 : (i 1).val < 14336 := (i 1).isLt
    obtain ⟨t, hft, ht⟩ := idx_onto16 ⟨(i 0).val / 256 - 0, by omega⟩ ⟨(i 1).val / 512 - 0, by omega⟩
    have q0 : win0_16.index t (0 : Fin 2) = (i 0).val / 256 - 0 + 0 := congrFun ht 0
    have q1 : win0_16.index t (1 : Fin 2) = (i 1).val / 512 - 0 + 0 := congrFun ht 1
    refine ⟨t, hft, ?_⟩
    rw [mem_blk16]
    intro a
    match a with
    | ⟨0, _⟩ => show win0_16.index t (0 : Fin 2) * 256 ≤ (i 0).val ∧ (i 0).val < win0_16.index t (0 : Fin 2) * 256 + 256; omega
    | ⟨1, _⟩ => show win0_16.index t (1 : Fin 2) * 512 ≤ (i 1).val ∧ (i 1).val < win0_16.index t (1 : Fin 2) * 512 + 512; omega

/-- THE ARRAY after the run: `G16` (the flushing blocks tile it). -/
theorem final16 (c : Dev nD) : (dats m 0 c).arrAt 16 cfg0.N = G16 m c :=
  (dats m 0 c).arrAt_eq_of_cover 16 _ (fun t hf => flushed16_eq m c t hf) (fun i => (covered_iff16 i).2 (by
    have h0 : (i 0).val < 256 := (i 0).isLt; have h1 : (i 1).val < 14336 := (i 1).isLt; omega))

/-! ## Output window 17 -/

/-- The block of the array that holds index `i`, numbered in the order the points write the blocks back (one per point),
    `i`'s place in it, and the point that writes it back. -/
abbrev run17Of (i : S256x14336.Idx) : ℕ := 28 * ((i 0).val / 256 - 0) + 1 * ((i 1).val / 512 - 0)
set_option backward.proofsInPublic true in
abbrev loc17Of (i : S256x14336.Idx) : S256x512.Idx := fun a => match a with
  | ⟨0, _⟩ => ⟨(i 0).val % 256, Nat.mod_lt _ (by decide)⟩
  | ⟨1, _⟩ => ⟨(i 1).val % 512, Nat.mod_lt _ (by decide)⟩
abbrev pt17Of (i : S256x14336.Idx) : ℕ := run17Of i

/-- WHAT THE ARRAY ENDS HOLDING at index `i` inside the box the flushing blocks fill: output 17's component of the carried
    state's fold at the point that writes `i`'s block back, at `i`'s place in the block. `G17` states the array's contents
    only inside the box. -/
def G17 (c : Dev nD) : Buf (Elt F) ((c : Thread nD τ).loc main_v4_2) := fun i =>
  if h : pt17Of i < cfg0.N then
    (Pipeline.accAt (fun n h => stAt0 m c n h junk0) (stAt0 m c) 0 (pt17Of i) (by omega)).2.2.1 (loc17Of i)
  else V m c (Pipeline.arrRef spec0 17) i

/-- The printed index map, decided over the grid: output window 17's block indices stay in the box, and the block number
    read off them is the point's (`t`). -/
theorem idx_facts17 : ∀ t : Fin cfg0.N, 0 ≤ win0_17.index t (0 : Fin 2) ∧ win0_17.index t (0 : Fin 2) ≤ 0
    ∧ 0 ≤ win0_17.index t (1 : Fin 2) ∧ win0_17.index t (1 : Fin 2) ≤ 27
    ∧ 28 * (win0_17.index t (0 : Fin 2) - 0) + 1 * (win0_17.index t (1 : Fin 2) - 0) = t.val :=
  (by decide +kernel : ∀ t : Fin grid0.N, _)

/-- Every block of the box is SOME flushing point's: `onto17Pt`, the point that writes back the block at place `q` of the box. -/
abbrev onto17Pt (q0 : Fin 1) (q1 : Fin 28) : Fin grid0.N :=
  ⟨28 * q0.val + 1 * q1.val, lt_of_lt_of_eq (by omega) N_0.symm⟩
theorem idx_onto17 : ∀ (q0 : Fin 1) (q1 : Fin 28), ∃ t : Fin cfg0.N, (cfg0.win 17).flush t = true ∧ win0_17.index t = ![q0.val + 0, q1.val + 0] :=
  fun q0 q1 => ⟨onto17Pt q0 q1, (by decide +kernel : ∀ (q0 : Fin 1) (q1 : Fin 28), win0_17.flush (onto17Pt q0 q1) = true ∧ win0_17.index (onto17Pt q0 q1) = ![q0.val + 0, q1.val + 0]) q0 q1⟩

/-- WHAT A FLUSHING POINT `t` WRITES BACK is block `t` of `G17`: output 17's component of the fold up to `t`. -/
theorem flushed17_eq (c : Dev nD) (t : Fin cfg0.N) (hf : (cfg0.win 17).flush t = true) :
    (dats m 0 c).flushed 17 t = ((cfg0.win 17).blk t).view.read (Elt F) (G17 m c) := by
  show (cfg0.win 17).cut (grid0.coords t) ((dats m 0 c).after 17 t) = _
  rw [after0_17, outsAt0_sweep]
  obtain ⟨e0, e1, e2⟩ := idx_facts17 t
  funext y
  have hy0 : (y 0).val < 256 := (y 0).isLt
  have hy1 : (y 1).val < 512 := (y 1).isLt
  have hb0 : (((cfg0.win 17).blk t).view.emb y 0).val = win0_17.index t (0 : Fin 2) * 256 + 1 * (y 0).val := rfl
  have hb1 : (((cfg0.win 17).blk t).view.emb y 1).val = win0_17.index t (1 : Fin 2) * 512 + 1 * (y 1).val := rfl
  have hr : run17Of (((cfg0.win 17).blk t).view.emb y) = t.val := by
    show 28 * ((((cfg0.win 17).blk t).view.emb y 0).val / 256 - 0) + 1 * ((((cfg0.win 17).blk t).view.emb y 1).val / 512 - 0) = _
    rw [hb0, hb1]
    rw [show (win0_17.index t (0 : Fin 2) * 256 + 1 * (y 0).val) / 256 = win0_17.index t (0 : Fin 2) from by omega]; rw [show (win0_17.index t (1 : Fin 2) * 512 + 1 * (y 1).val) / 512 = win0_17.index t (1 : Fin 2) from by omega]
    omega
  have hl : loc17Of (((cfg0.win 17).blk t).view.emb y) = (cfg0.win 17).xinj (grid0.coords t) y := by
    funext a; apply Fin.ext
    match a with
    | ⟨0, _⟩ => show (((cfg0.win 17).blk t).view.emb y 0).val % 256 = (y 0).val; rw [hb0]; omega
    | ⟨1, _⟩ => show (((cfg0.win 17).blk t).view.emb y 1).val % 512 = (y 1).val; rw [hb1]; omega
  have hp : pt17Of (((cfg0.win 17).blk t).view.emb y) = t.val := by
    exact hr
  show (Pipeline.accAt (fun n h => stAt0 m c n h junk0) (stAt0 m c) 0 t.val _).2.2.1 ((cfg0.win 17).xinj (grid0.coords t) y) = G17 m c (((cfg0.win 17).blk t).view.emb y)
  unfold G17
  rw [dif_pos (by rw [hp]; exact t.isLt), hl, fold0_congr m c _ _ _ _ hp.symm]

/-- An index of the array is in point `t`'s block iff each coordinate is in the block's range on its axis. -/
theorem mem_blk17 (t : Fin cfg0.N) (i : S256x14336.Idx) :
    i ∈ ((cfg0.win 17).blk t).view.set ↔ ∀ a : Fin 2, win0_17.index t a * S256x512.size a ≤ (i a).val ∧ (i a).val < win0_17.index t a * S256x512.size a + S256x512.size a := by
  show i ∈ ((View.whole main_v4_2).slice (win0_17.rect t)).set ↔ _
  rw [View.set_slice_whole, Rect.mem_set_unit]
  exact Iff.rfl

/-- THE COVERED INDICES: in some flushing point's block iff inside the box those blocks fill. -/
theorem covered_iff17 (i : S256x14336.Idx) :
    (∃ t : Fin cfg0.N, (cfg0.win 17).flush t = true ∧ i ∈ ((cfg0.win 17).blk t).view.set) ↔ 0 ≤ (i 0).val ∧ (i 0).val < 256 ∧ 0 ≤ (i 1).val ∧ (i 1).val < 14336 := by
  constructor
  · rintro ⟨t, -, hi⟩
    rw [mem_blk17] at hi
    have b0 : win0_17.index t (0 : Fin 2) * 256 ≤ (i 0).val ∧ (i 0).val < win0_17.index t (0 : Fin 2) * 256 + 256 := hi 0
    have b1 : win0_17.index t (1 : Fin 2) * 512 ≤ (i 1).val ∧ (i 1).val < win0_17.index t (1 : Fin 2) * 512 + 512 := hi 1
    obtain ⟨e0, e1, e2⟩ := idx_facts17 t
    omega
  · intro h
    have hi0 : (i 0).val < 256 := (i 0).isLt
    have hi1 : (i 1).val < 14336 := (i 1).isLt
    obtain ⟨t, hft, ht⟩ := idx_onto17 ⟨(i 0).val / 256 - 0, by omega⟩ ⟨(i 1).val / 512 - 0, by omega⟩
    have q0 : win0_17.index t (0 : Fin 2) = (i 0).val / 256 - 0 + 0 := congrFun ht 0
    have q1 : win0_17.index t (1 : Fin 2) = (i 1).val / 512 - 0 + 0 := congrFun ht 1
    refine ⟨t, hft, ?_⟩
    rw [mem_blk17]
    intro a
    match a with
    | ⟨0, _⟩ => show win0_17.index t (0 : Fin 2) * 256 ≤ (i 0).val ∧ (i 0).val < win0_17.index t (0 : Fin 2) * 256 + 256; omega
    | ⟨1, _⟩ => show win0_17.index t (1 : Fin 2) * 512 ≤ (i 1).val ∧ (i 1).val < win0_17.index t (1 : Fin 2) * 512 + 512; omega

/-- THE ARRAY after the run: `G17` (the flushing blocks tile it). -/
theorem final17 (c : Dev nD) : (dats m 0 c).arrAt 17 cfg0.N = G17 m c :=
  (dats m 0 c).arrAt_eq_of_cover 17 _ (fun t hf => flushed17_eq m c t hf) (fun i => (covered_iff17 i).2 (by
    have h0 : (i 0).val < 256 := (i 0).isLt; have h1 : (i 1).val < 14336 := (i 1).isLt; omega))

/-! ## Output window 18 -/

/-- The block of the array that holds index `i`, numbered in the order the points write the blocks back (one per point),
    `i`'s place in it, and the point that writes it back. -/
abbrev run18Of (i : S1x14336.Idx) : ℕ := 28 * ((i 0).val / 1 - 0) + 1 * ((i 1).val / 512 - 0)
set_option backward.proofsInPublic true in
abbrev loc18Of (i : S1x14336.Idx) : S1x512.Idx := fun a => match a with
  | ⟨0, _⟩ => ⟨(i 0).val % 1, Nat.mod_lt _ (by decide)⟩
  | ⟨1, _⟩ => ⟨(i 1).val % 512, Nat.mod_lt _ (by decide)⟩
abbrev pt18Of (i : S1x14336.Idx) : ℕ := run18Of i

/-- WHAT THE ARRAY ENDS HOLDING at index `i` inside the box the flushing blocks fill: output 18's component of the carried
    state's fold at the point that writes `i`'s block back, at `i`'s place in the block. `G18` states the array's contents
    only inside the box. -/
def G18 (c : Dev nD) : Buf (Elt F) ((c : Thread nD τ).loc main_v4_3) := fun i =>
  if h : pt18Of i < cfg0.N then
    (Pipeline.accAt (fun n h => stAt0 m c n h junk0) (stAt0 m c) 0 (pt18Of i) (by omega)).2.2.2.1 (loc18Of i)
  else V m c (Pipeline.arrRef spec0 18) i

/-- The printed index map, decided over the grid: output window 18's block indices stay in the box, and the block number
    read off them is the point's (`t`). -/
theorem idx_facts18 : ∀ t : Fin cfg0.N, 0 ≤ win0_18.index t (0 : Fin 2) ∧ win0_18.index t (0 : Fin 2) ≤ 0
    ∧ 0 ≤ win0_18.index t (1 : Fin 2) ∧ win0_18.index t (1 : Fin 2) ≤ 27
    ∧ 28 * (win0_18.index t (0 : Fin 2) - 0) + 1 * (win0_18.index t (1 : Fin 2) - 0) = t.val :=
  (by decide +kernel : ∀ t : Fin grid0.N, _)

/-- Every block of the box is SOME flushing point's: `onto18Pt`, the point that writes back the block at place `q` of the box. -/
abbrev onto18Pt (q0 : Fin 1) (q1 : Fin 28) : Fin grid0.N :=
  ⟨28 * q0.val + 1 * q1.val, lt_of_lt_of_eq (by omega) N_0.symm⟩
theorem idx_onto18 : ∀ (q0 : Fin 1) (q1 : Fin 28), ∃ t : Fin cfg0.N, (cfg0.win 18).flush t = true ∧ win0_18.index t = ![q0.val + 0, q1.val + 0] :=
  fun q0 q1 => ⟨onto18Pt q0 q1, (by decide +kernel : ∀ (q0 : Fin 1) (q1 : Fin 28), win0_18.flush (onto18Pt q0 q1) = true ∧ win0_18.index (onto18Pt q0 q1) = ![q0.val + 0, q1.val + 0]) q0 q1⟩

/-- WHAT A FLUSHING POINT `t` WRITES BACK is block `t` of `G18`: output 18's component of the fold up to `t`. -/
theorem flushed18_eq (c : Dev nD) (t : Fin cfg0.N) (hf : (cfg0.win 18).flush t = true) :
    (dats m 0 c).flushed 18 t = ((cfg0.win 18).blk t).view.read (Elt F) (G18 m c) := by
  show (cfg0.win 18).cut (grid0.coords t) ((dats m 0 c).after 18 t) = _
  rw [after0_18, outsAt0_sweep]
  obtain ⟨e0, e1, e2⟩ := idx_facts18 t
  funext y
  have hy0 : (y 0).val < 1 := (y 0).isLt
  have hy1 : (y 1).val < 512 := (y 1).isLt
  have hb0 : (((cfg0.win 18).blk t).view.emb y 0).val = win0_18.index t (0 : Fin 2) * 1 + 1 * (y 0).val := rfl
  have hb1 : (((cfg0.win 18).blk t).view.emb y 1).val = win0_18.index t (1 : Fin 2) * 512 + 1 * (y 1).val := rfl
  have hr : run18Of (((cfg0.win 18).blk t).view.emb y) = t.val := by
    show 28 * ((((cfg0.win 18).blk t).view.emb y 0).val / 1 - 0) + 1 * ((((cfg0.win 18).blk t).view.emb y 1).val / 512 - 0) = _
    rw [hb0, hb1]
    rw [show (win0_18.index t (0 : Fin 2) * 1 + 1 * (y 0).val) / 1 = win0_18.index t (0 : Fin 2) from by omega]; rw [show (win0_18.index t (1 : Fin 2) * 512 + 1 * (y 1).val) / 512 = win0_18.index t (1 : Fin 2) from by omega]
    omega
  have hl : loc18Of (((cfg0.win 18).blk t).view.emb y) = (cfg0.win 18).xinj (grid0.coords t) y := by
    funext a; apply Fin.ext
    match a with
    | ⟨0, _⟩ => show (((cfg0.win 18).blk t).view.emb y 0).val % 1 = (y 0).val; rw [hb0]; omega
    | ⟨1, _⟩ => show (((cfg0.win 18).blk t).view.emb y 1).val % 512 = (y 1).val; rw [hb1]; omega
  have hp : pt18Of (((cfg0.win 18).blk t).view.emb y) = t.val := by
    exact hr
  show (Pipeline.accAt (fun n h => stAt0 m c n h junk0) (stAt0 m c) 0 t.val _).2.2.2.1 ((cfg0.win 18).xinj (grid0.coords t) y) = G18 m c (((cfg0.win 18).blk t).view.emb y)
  unfold G18
  rw [dif_pos (by rw [hp]; exact t.isLt), hl, fold0_congr m c _ _ _ _ hp.symm]

/-- An index of the array is in point `t`'s block iff each coordinate is in the block's range on its axis. -/
theorem mem_blk18 (t : Fin cfg0.N) (i : S1x14336.Idx) :
    i ∈ ((cfg0.win 18).blk t).view.set ↔ ∀ a : Fin 2, win0_18.index t a * S1x512.size a ≤ (i a).val ∧ (i a).val < win0_18.index t a * S1x512.size a + S1x512.size a := by
  show i ∈ ((View.whole main_v4_3).slice (win0_18.rect t)).set ↔ _
  rw [View.set_slice_whole, Rect.mem_set_unit]
  exact Iff.rfl

/-- THE COVERED INDICES: in some flushing point's block iff inside the box those blocks fill. -/
theorem covered_iff18 (i : S1x14336.Idx) :
    (∃ t : Fin cfg0.N, (cfg0.win 18).flush t = true ∧ i ∈ ((cfg0.win 18).blk t).view.set) ↔ 0 ≤ (i 0).val ∧ (i 0).val < 1 ∧ 0 ≤ (i 1).val ∧ (i 1).val < 14336 := by
  constructor
  · rintro ⟨t, -, hi⟩
    rw [mem_blk18] at hi
    have b0 : win0_18.index t (0 : Fin 2) * 1 ≤ (i 0).val ∧ (i 0).val < win0_18.index t (0 : Fin 2) * 1 + 1 := hi 0
    have b1 : win0_18.index t (1 : Fin 2) * 512 ≤ (i 1).val ∧ (i 1).val < win0_18.index t (1 : Fin 2) * 512 + 512 := hi 1
    obtain ⟨e0, e1, e2⟩ := idx_facts18 t
    omega
  · intro h
    have hi0 : (i 0).val < 1 := (i 0).isLt
    have hi1 : (i 1).val < 14336 := (i 1).isLt
    obtain ⟨t, hft, ht⟩ := idx_onto18 ⟨(i 0).val / 1 - 0, by omega⟩ ⟨(i 1).val / 512 - 0, by omega⟩
    have q0 : win0_18.index t (0 : Fin 2) = (i 0).val / 1 - 0 + 0 := congrFun ht 0
    have q1 : win0_18.index t (1 : Fin 2) = (i 1).val / 512 - 0 + 0 := congrFun ht 1
    refine ⟨t, hft, ?_⟩
    rw [mem_blk18]
    intro a
    match a with
    | ⟨0, _⟩ => show win0_18.index t (0 : Fin 2) * 1 ≤ (i 0).val ∧ (i 0).val < win0_18.index t (0 : Fin 2) * 1 + 1; omega
    | ⟨1, _⟩ => show win0_18.index t (1 : Fin 2) * 512 ≤ (i 1).val ∧ (i 1).val < win0_18.index t (1 : Fin 2) * 512 + 512; omega

/-- THE ARRAY after the run: `G18` (the flushing blocks tile it). -/
theorem final18 (c : Dev nD) : (dats m 0 c).arrAt 18 cfg0.N = G18 m c :=
  (dats m 0 c).arrAt_eq_of_cover 18 _ (fun t hf => flushed18_eq m c t hf) (fun i => (covered_iff18 i).2 (by
    have h0 : (i 0).val < 1 := (i 0).isLt; have h1 : (i 1).val < 14336 := (i 1).isLt; omega))

/-! ## Output window 19 -/

/-- The block of the array that holds index `i`, numbered in the order the points write the blocks back (one per point),
    `i`'s place in it, and the point that writes it back. -/
abbrev run19Of (i : S1x14336.Idx) : ℕ := 28 * ((i 0).val / 1 - 0) + 1 * ((i 1).val / 512 - 0)
set_option backward.proofsInPublic true in
abbrev loc19Of (i : S1x14336.Idx) : S1x512.Idx := fun a => match a with
  | ⟨0, _⟩ => ⟨(i 0).val % 1, Nat.mod_lt _ (by decide)⟩
  | ⟨1, _⟩ => ⟨(i 1).val % 512, Nat.mod_lt _ (by decide)⟩
abbrev pt19Of (i : S1x14336.Idx) : ℕ := run19Of i

/-- WHAT THE ARRAY ENDS HOLDING at index `i` inside the box the flushing blocks fill: output 19's component of the carried
    state's fold at the point that writes `i`'s block back, at `i`'s place in the block. `G19` states the array's contents
    only inside the box. -/
def G19 (c : Dev nD) : Buf (Elt F) ((c : Thread nD τ).loc main_v4_4) := fun i =>
  if h : pt19Of i < cfg0.N then
    (Pipeline.accAt (fun n h => stAt0 m c n h junk0) (stAt0 m c) 0 (pt19Of i) (by omega)).2.2.2.2.1 (loc19Of i)
  else V m c (Pipeline.arrRef spec0 19) i

/-- The printed index map, decided over the grid: output window 19's block indices stay in the box, and the block number
    read off them is the point's (`t`). -/
theorem idx_facts19 : ∀ t : Fin cfg0.N, 0 ≤ win0_19.index t (0 : Fin 2) ∧ win0_19.index t (0 : Fin 2) ≤ 0
    ∧ 0 ≤ win0_19.index t (1 : Fin 2) ∧ win0_19.index t (1 : Fin 2) ≤ 27
    ∧ 28 * (win0_19.index t (0 : Fin 2) - 0) + 1 * (win0_19.index t (1 : Fin 2) - 0) = t.val :=
  (by decide +kernel : ∀ t : Fin grid0.N, _)

/-- Every block of the box is SOME flushing point's: `onto19Pt`, the point that writes back the block at place `q` of the box. -/
abbrev onto19Pt (q0 : Fin 1) (q1 : Fin 28) : Fin grid0.N :=
  ⟨28 * q0.val + 1 * q1.val, lt_of_lt_of_eq (by omega) N_0.symm⟩
theorem idx_onto19 : ∀ (q0 : Fin 1) (q1 : Fin 28), ∃ t : Fin cfg0.N, (cfg0.win 19).flush t = true ∧ win0_19.index t = ![q0.val + 0, q1.val + 0] :=
  fun q0 q1 => ⟨onto19Pt q0 q1, (by decide +kernel : ∀ (q0 : Fin 1) (q1 : Fin 28), win0_19.flush (onto19Pt q0 q1) = true ∧ win0_19.index (onto19Pt q0 q1) = ![q0.val + 0, q1.val + 0]) q0 q1⟩

/-- WHAT A FLUSHING POINT `t` WRITES BACK is block `t` of `G19`: output 19's component of the fold up to `t`. -/
theorem flushed19_eq (c : Dev nD) (t : Fin cfg0.N) (hf : (cfg0.win 19).flush t = true) :
    (dats m 0 c).flushed 19 t = ((cfg0.win 19).blk t).view.read (Elt F) (G19 m c) := by
  show (cfg0.win 19).cut (grid0.coords t) ((dats m 0 c).after 19 t) = _
  rw [after0_19, outsAt0_sweep]
  obtain ⟨e0, e1, e2⟩ := idx_facts19 t
  funext y
  have hy0 : (y 0).val < 1 := (y 0).isLt
  have hy1 : (y 1).val < 512 := (y 1).isLt
  have hb0 : (((cfg0.win 19).blk t).view.emb y 0).val = win0_19.index t (0 : Fin 2) * 1 + 1 * (y 0).val := rfl
  have hb1 : (((cfg0.win 19).blk t).view.emb y 1).val = win0_19.index t (1 : Fin 2) * 512 + 1 * (y 1).val := rfl
  have hr : run19Of (((cfg0.win 19).blk t).view.emb y) = t.val := by
    show 28 * ((((cfg0.win 19).blk t).view.emb y 0).val / 1 - 0) + 1 * ((((cfg0.win 19).blk t).view.emb y 1).val / 512 - 0) = _
    rw [hb0, hb1]
    rw [show (win0_19.index t (0 : Fin 2) * 1 + 1 * (y 0).val) / 1 = win0_19.index t (0 : Fin 2) from by omega]; rw [show (win0_19.index t (1 : Fin 2) * 512 + 1 * (y 1).val) / 512 = win0_19.index t (1 : Fin 2) from by omega]
    omega
  have hl : loc19Of (((cfg0.win 19).blk t).view.emb y) = (cfg0.win 19).xinj (grid0.coords t) y := by
    funext a; apply Fin.ext
    match a with
    | ⟨0, _⟩ => show (((cfg0.win 19).blk t).view.emb y 0).val % 1 = (y 0).val; rw [hb0]; omega
    | ⟨1, _⟩ => show (((cfg0.win 19).blk t).view.emb y 1).val % 512 = (y 1).val; rw [hb1]; omega
  have hp : pt19Of (((cfg0.win 19).blk t).view.emb y) = t.val := by
    exact hr
  show (Pipeline.accAt (fun n h => stAt0 m c n h junk0) (stAt0 m c) 0 t.val _).2.2.2.2.1 ((cfg0.win 19).xinj (grid0.coords t) y) = G19 m c (((cfg0.win 19).blk t).view.emb y)
  unfold G19
  rw [dif_pos (by rw [hp]; exact t.isLt), hl, fold0_congr m c _ _ _ _ hp.symm]

/-- An index of the array is in point `t`'s block iff each coordinate is in the block's range on its axis. -/
theorem mem_blk19 (t : Fin cfg0.N) (i : S1x14336.Idx) :
    i ∈ ((cfg0.win 19).blk t).view.set ↔ ∀ a : Fin 2, win0_19.index t a * S1x512.size a ≤ (i a).val ∧ (i a).val < win0_19.index t a * S1x512.size a + S1x512.size a := by
  show i ∈ ((View.whole main_v4_4).slice (win0_19.rect t)).set ↔ _
  rw [View.set_slice_whole, Rect.mem_set_unit]
  exact Iff.rfl

/-- THE COVERED INDICES: in some flushing point's block iff inside the box those blocks fill. -/
theorem covered_iff19 (i : S1x14336.Idx) :
    (∃ t : Fin cfg0.N, (cfg0.win 19).flush t = true ∧ i ∈ ((cfg0.win 19).blk t).view.set) ↔ 0 ≤ (i 0).val ∧ (i 0).val < 1 ∧ 0 ≤ (i 1).val ∧ (i 1).val < 14336 := by
  constructor
  · rintro ⟨t, -, hi⟩
    rw [mem_blk19] at hi
    have b0 : win0_19.index t (0 : Fin 2) * 1 ≤ (i 0).val ∧ (i 0).val < win0_19.index t (0 : Fin 2) * 1 + 1 := hi 0
    have b1 : win0_19.index t (1 : Fin 2) * 512 ≤ (i 1).val ∧ (i 1).val < win0_19.index t (1 : Fin 2) * 512 + 512 := hi 1
    obtain ⟨e0, e1, e2⟩ := idx_facts19 t
    omega
  · intro h
    have hi0 : (i 0).val < 1 := (i 0).isLt
    have hi1 : (i 1).val < 14336 := (i 1).isLt
    obtain ⟨t, hft, ht⟩ := idx_onto19 ⟨(i 0).val / 1 - 0, by omega⟩ ⟨(i 1).val / 512 - 0, by omega⟩
    have q0 : win0_19.index t (0 : Fin 2) = (i 0).val / 1 - 0 + 0 := congrFun ht 0
    have q1 : win0_19.index t (1 : Fin 2) = (i 1).val / 512 - 0 + 0 := congrFun ht 1
    refine ⟨t, hft, ?_⟩
    rw [mem_blk19]
    intro a
    match a with
    | ⟨0, _⟩ => show win0_19.index t (0 : Fin 2) * 1 ≤ (i 0).val ∧ (i 0).val < win0_19.index t (0 : Fin 2) * 1 + 1; omega
    | ⟨1, _⟩ => show win0_19.index t (1 : Fin 2) * 512 ≤ (i 1).val ∧ (i 1).val < win0_19.index t (1 : Fin 2) * 512 + 512; omega

/-- THE ARRAY after the run: `G19` (the flushing blocks tile it). -/
theorem final19 (c : Dev nD) : (dats m 0 c).arrAt 19 cfg0.N = G19 m c :=
  (dats m 0 c).arrAt_eq_of_cover 19 _ (fun t hf => flushed19_eq m c t hf) (fun i => (covered_iff19 i).2 (by
    have h0 : (i 0).val < 1 := (i 0).isLt; have h1 : (i 1).val < 14336 := (i 1).isLt; omega))

/-! ## Output window 22 -/

/-- The block of the array that holds index `i`, numbered in the order the points write the blocks back (one every 28 points),
    `i`'s place in it, and the point that writes it back (the last of its 28). -/
abbrev run22Of (i : S256x32.Idx) : ℕ := 1 * ((i 0).val / 256 - 0) + 1 * ((i 1).val / 32 - 0)
set_option backward.proofsInPublic true in
abbrev loc22Of (i : S256x32.Idx) : S256x32.Idx := fun a => match a with
  | ⟨0, _⟩ => ⟨(i 0).val % 256, Nat.mod_lt _ (by decide)⟩
  | ⟨1, _⟩ => ⟨(i 1).val % 32, Nat.mod_lt _ (by decide)⟩
abbrev pt22Of (i : S256x32.Idx) : ℕ := 28 * run22Of i + 27

/-- WHAT THE ARRAY ENDS HOLDING at index `i` inside the box the flushing blocks fill: output 22's component of the carried
    state's fold at the point that writes `i`'s block back, at `i`'s place in the block. `G22` states the array's contents
    only inside the box. -/
def G22 (c : Dev nD) : Buf (Elt F) ((c : Thread nD τ).loc main_v4_7) := fun i =>
  if h : pt22Of i < cfg0.N then
    (Pipeline.accAt (fun n h => stAt0 m c n h junk0) (stAt0 m c) 0 (pt22Of i) (by omega)).2.2.2.2.2.1 (loc22Of i)
  else V m c (Pipeline.arrRef spec0 22) i

/-- The printed index map, decided over the grid: output window 22's block indices stay in the box, and the block number
    read off them is the point's (`t / 28`). -/
theorem idx_facts22 : ∀ t : Fin cfg0.N, 0 ≤ win0_22.index t (0 : Fin 2) ∧ win0_22.index t (0 : Fin 2) ≤ 0
    ∧ 0 ≤ win0_22.index t (1 : Fin 2) ∧ win0_22.index t (1 : Fin 2) ≤ 0
    ∧ 1 * (win0_22.index t (0 : Fin 2) - 0) + 1 * (win0_22.index t (1 : Fin 2) - 0) = t.val / 28 :=
  (by decide +kernel : ∀ t : Fin grid0.N, _)

/-- Every block of the box is SOME flushing point's: `onto22Pt`, the point that writes back the block at place `q` of the box (the last point of its run). -/
abbrev onto22Pt (q0 : Fin 1) (q1 : Fin 1) : Fin grid0.N :=
  ⟨28 * (1 * q0.val + 1 * q1.val) + 27, lt_of_lt_of_eq (by omega) N_0.symm⟩
theorem idx_onto22 : ∀ (q0 : Fin 1) (q1 : Fin 1), ∃ t : Fin cfg0.N, (cfg0.win 22).flush t = true ∧ win0_22.index t = ![q0.val + 0, q1.val + 0] :=
  fun q0 q1 => ⟨onto22Pt q0 q1, (by decide +kernel : ∀ (q0 : Fin 1) (q1 : Fin 1), win0_22.flush (onto22Pt q0 q1) = true ∧ win0_22.index (onto22Pt q0 q1) = ![q0.val + 0, q1.val + 0]) q0 q1⟩

/-- WHAT A FLUSHING POINT `t` WRITES BACK is block `t` of `G22`: output 22's component of the fold up to `t`. -/
theorem flushed22_eq (c : Dev nD) (t : Fin cfg0.N) (hf : (cfg0.win 22).flush t = true) :
    (dats m 0 c).flushed 22 t = ((cfg0.win 22).blk t).view.read (Elt F) (G22 m c) := by
  show (cfg0.win 22).cut (grid0.coords t) ((dats m 0 c).after 22 t) = _
  rw [after0_22, outsAt0_sweep]
  have hm : t.val % 28 = 27 := (flush0_22 t).mp hf
  obtain ⟨e0, e1, e2⟩ := idx_facts22 t
  funext y
  have hy0 : (y 0).val < 256 := (y 0).isLt
  have hy1 : (y 1).val < 32 := (y 1).isLt
  have hb0 : (((cfg0.win 22).blk t).view.emb y 0).val = win0_22.index t (0 : Fin 2) * 256 + 1 * (y 0).val := rfl
  have hb1 : (((cfg0.win 22).blk t).view.emb y 1).val = win0_22.index t (1 : Fin 2) * 32 + 1 * (y 1).val := rfl
  have hr : run22Of (((cfg0.win 22).blk t).view.emb y) = t.val / 28 := by
    show 1 * ((((cfg0.win 22).blk t).view.emb y 0).val / 256 - 0) + 1 * ((((cfg0.win 22).blk t).view.emb y 1).val / 32 - 0) = _
    rw [hb0, hb1]
    rw [show (win0_22.index t (0 : Fin 2) * 256 + 1 * (y 0).val) / 256 = win0_22.index t (0 : Fin 2) from by omega]; rw [show (win0_22.index t (1 : Fin 2) * 32 + 1 * (y 1).val) / 32 = win0_22.index t (1 : Fin 2) from by omega]
    omega
  have hl : loc22Of (((cfg0.win 22).blk t).view.emb y) = (cfg0.win 22).xinj (grid0.coords t) y := by
    funext a; apply Fin.ext
    match a with
    | ⟨0, _⟩ => show (((cfg0.win 22).blk t).view.emb y 0).val % 256 = (y 0).val; rw [hb0]; omega
    | ⟨1, _⟩ => show (((cfg0.win 22).blk t).view.emb y 1).val % 32 = (y 1).val; rw [hb1]; omega
  have hp : pt22Of (((cfg0.win 22).blk t).view.emb y) = t.val := by
    show 28 * run22Of (((cfg0.win 22).blk t).view.emb y) + 27 = _
    rw [hr]; have := Nat.div_add_mod t.val 28; omega
  show (Pipeline.accAt (fun n h => stAt0 m c n h junk0) (stAt0 m c) 0 t.val _).2.2.2.2.2.1 ((cfg0.win 22).xinj (grid0.coords t) y) = G22 m c (((cfg0.win 22).blk t).view.emb y)
  unfold G22
  rw [dif_pos (by rw [hp]; exact t.isLt), hl, fold0_congr m c _ _ _ _ hp.symm]

/-- An index of the array is in point `t`'s block iff each coordinate is in the block's range on its axis. -/
theorem mem_blk22 (t : Fin cfg0.N) (i : S256x32.Idx) :
    i ∈ ((cfg0.win 22).blk t).view.set ↔ ∀ a : Fin 2, win0_22.index t a * S256x32.size a ≤ (i a).val ∧ (i a).val < win0_22.index t a * S256x32.size a + S256x32.size a := by
  show i ∈ ((View.whole main_v4_7).slice (win0_22.rect t)).set ↔ _
  rw [View.set_slice_whole, Rect.mem_set_unit]
  exact Iff.rfl

/-- THE COVERED INDICES: in some flushing point's block iff inside the box those blocks fill. -/
theorem covered_iff22 (i : S256x32.Idx) :
    (∃ t : Fin cfg0.N, (cfg0.win 22).flush t = true ∧ i ∈ ((cfg0.win 22).blk t).view.set) ↔ 0 ≤ (i 0).val ∧ (i 0).val < 256 ∧ 0 ≤ (i 1).val ∧ (i 1).val < 32 := by
  constructor
  · rintro ⟨t, -, hi⟩
    rw [mem_blk22] at hi
    have b0 : win0_22.index t (0 : Fin 2) * 256 ≤ (i 0).val ∧ (i 0).val < win0_22.index t (0 : Fin 2) * 256 + 256 := hi 0
    have b1 : win0_22.index t (1 : Fin 2) * 32 ≤ (i 1).val ∧ (i 1).val < win0_22.index t (1 : Fin 2) * 32 + 32 := hi 1
    obtain ⟨e0, e1, e2⟩ := idx_facts22 t
    omega
  · intro h
    have hi0 : (i 0).val < 256 := (i 0).isLt
    have hi1 : (i 1).val < 32 := (i 1).isLt
    obtain ⟨t, hft, ht⟩ := idx_onto22 ⟨(i 0).val / 256 - 0, by omega⟩ ⟨(i 1).val / 32 - 0, by omega⟩
    have q0 : win0_22.index t (0 : Fin 2) = (i 0).val / 256 - 0 + 0 := congrFun ht 0
    have q1 : win0_22.index t (1 : Fin 2) = (i 1).val / 32 - 0 + 0 := congrFun ht 1
    refine ⟨t, hft, ?_⟩
    rw [mem_blk22]
    intro a
    match a with
    | ⟨0, _⟩ => show win0_22.index t (0 : Fin 2) * 256 ≤ (i 0).val ∧ (i 0).val < win0_22.index t (0 : Fin 2) * 256 + 256; omega
    | ⟨1, _⟩ => show win0_22.index t (1 : Fin 2) * 32 ≤ (i 1).val ∧ (i 1).val < win0_22.index t (1 : Fin 2) * 32 + 32; omega

/-- THE ARRAY after the run: `G22` (the flushing blocks tile it). -/
theorem final22 (c : Dev nD) : (dats m 0 c).arrAt 22 cfg0.N = G22 m c :=
  (dats m 0 c).arrAt_eq_of_cover 22 _ (fun t hf => flushed22_eq m c t hf) (fun i => (covered_iff22 i).2 (by
    have h0 : (i 0).val < 256 := (i 0).isLt; have h1 : (i 1).val < 32 := (i 1).isLt; omega))

/-- Output 22 is written back ONCE, at the last point, and its block is its array: the array after the run is output 22's
    component of the fold over the whole grid — where a hand proof over this window starts. -/
theorem G22_last (c : Dev nD) :
    G22 m c = (Pipeline.accAt (fun n h => stAt0 m c n h junk0) (stAt0 m c) 0 27 (lt_of_lt_of_eq (by decide) N_0.symm)).2.2.2.2.2.1 := by
  funext i
  have hi0 : (i 0).val < 256 := (i 0).isLt
  have hi1 : (i 1).val < 32 := (i 1).isLt
  have hp : pt22Of i = 27 := by
    show 28 * (1 * ((i 0).val / 256 - 0) + 1 * ((i 1).val / 32 - 0)) + 27 = _
    omega
  have hl : loc22Of i = i := by
    funext a; apply Fin.ext
    match a with
    | ⟨0, _⟩ => show (i 0).val % 256 = (i 0).val; omega
    | ⟨1, _⟩ => show (i 1).val % 32 = (i 1).val; omega
  unfold G22
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v4_0) = G15 m c
      ∧ r.2.mem ((c : Thread nD τ).loc main_v4_1) = G16 m c
      ∧ r.2.mem ((c : Thread nD τ).loc main_v4_2) = G17 m c
      ∧ r.2.mem ((c : Thread nD τ).loc main_v4_3) = G18 m c
      ∧ r.2.mem ((c : Thread nD τ).loc main_v4_4) = G19 m c
      ∧ r.2.mem ((c : Thread nD τ).loc main_v4_7) = G22 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(post15 m r h c).trans (final15 m c),
      (post16 m r h c).trans (final16 m c),
      (post17 m r h c).trans (final17 m c),
      (post18 m r h c).trans (final18 m c),
      (post19 m r h c).trans (final19 m c),
      (post22 m r h c).trans (final22 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.KernelIdeal.Value

end
-- ==== Proof.Fwd.Final.lean ====
/- The kernel's results: what its arrays hold after the run. -/
module

public import proofs.«01_k».proof.Proof.Fwd.Value
public import proofs.«01_k».proof.Proof.Fwd.Inv

@[expose] public section

set_option maxRecDepth 16384

noncomputable section

namespace Cert.Fwd

open Cert.KernelIdeal Cert.KernelIdeal.Gen Cert.KernelIdeal.Hand Cert.KernelIdeal.Value Idealize.ShloMosaic Idealize.ShloMosaic.TcCoe

variable (m : (ℓ : Loc nD τ sig) → Buf (Elt Ideal) ℓ) (c : Dev nD)

theorem fold_left (hg : AllReal (x5 m c)) (hu : AllReal (x11 m c)) (n : ℕ) (hn : n < cfg0.N) (h : 0 + n < cfg0.N) :
    Pipeline.accAt (fun n h => stAt0 m c n h junk0) (stAt0 m c) 0 n h = left m c n hn :=
  (outsAt0_sweep m c n hn).symm.trans (inv m c hg hu n hn)

theorem blk_at (f : Fin 256 → Fin 14336 → EReal) (i : S256x14336.Idx) (hn : (i 1).val / 512 < cfg0.N) :
    blkB f (pt ⟨(i 1).val / 512, hn⟩) (loc15Of i) = f (i 0) (i 1) := by
  have hi0 : (i 0).val < 256 := (i 0).isLt
  exact congrArg₂ f (Fin.ext (by show (i 0).val % 256 = (i 0).val; omega))
    (Fin.ext (by show 512 * ((i 1).val / 512) + (i 1).val % 512 = (i 1).val; omega))

theorem row_at (f : Fin 14336 → EReal) (i : S1x14336.Idx) (hn : (i 1).val / 512 < cfg0.N) :
    rowBk f (pt ⟨(i 1).val / 512, hn⟩) (loc18Of i) = f (i 1) :=
  congrArg f (Fin.ext (by show 512 * ((i 1).val / 512) + (i 1).val % 512 = (i 1).val; omega))

theorem G15_eq (hg : AllReal (x5 m c)) (hu : AllReal (x11 m c)) : G15 m c = fun i => ugF m c (i 0) (i 1) := by
  funext i
  have hi0 : (i 0).val < 256 := (i 0).isLt
  have hi1 : (i 1).val < 14336 := (i 1).isLt
  have hp : pt15Of i = (i 1).val / 512 := by
    show 28 * ((i 0).val / 256 - 0) + 1 * ((i 1).val / 512 - 0) = _
    omega
  have hn : (i 1).val / 512 < cfg0.N := lt_of_lt_of_eq (by omega) N_0.symm
  have h0 : 0 + (i 1).val / 512 < cfg0.N := by rw [Nat.zero_add]; exact hn
  unfold G15
  rw [dif_pos (lt_of_eq_of_lt hp hn), fold0_congr m c _ _ _ h0 hp, fold_left m c hg hu _ hn]
  exact blk_at (ugF m c) i hn

theorem G16_eq (hg : AllReal (x5 m c)) (hu : AllReal (x11 m c)) : G16 m c = fun i => uuF m c (i 0) (i 1) := by
  funext i
  have hi0 : (i 0).val < 256 := (i 0).isLt
  have hi1 : (i 1).val < 14336 := (i 1).isLt
  have hp : pt16Of i = (i 1).val / 512 := by
    show 28 * ((i 0).val / 256 - 0) + 1 * ((i 1).val / 512 - 0) = _
    omega
  have hn : (i 1).val / 512 < cfg0.N := lt_of_lt_of_eq (by omega) N_0.symm
  have h0 : 0 + (i 1).val / 512 < cfg0.N := by rw [Nat.zero_add]; exact hn
  unfold G16
  rw [dif_pos (lt_of_eq_of_lt hp hn), fold0_congr m c _ _ _ h0 hp, fold_left m c hg hu _ hn]
  exact blk_at (uuF m c) i hn

theorem G17_eq (hg : AllReal (x5 m c)) (hu : AllReal (x11 m c)) : G17 m c = fun i => actF m c (i 0) (i 1) := by
  funext i
  have hi0 : (i 0).val < 256 := (i 0).isLt
  have hi1 : (i 1).val < 14336 := (i 1).isLt
  have hp : pt17Of i = (i 1).val / 512 := by
    show 28 * ((i 0).val / 256 - 0) + 1 * ((i 1).val / 512 - 0) = _
    omega
  have hn : (i 1).val / 512 < cfg0.N := lt_of_lt_of_eq (by omega) N_0.symm
  have h0 : 0 + (i 1).val / 512 < cfg0.N := by rw [Nat.zero_add]; exact hn
  unfold G17
  rw [dif_pos (lt_of_eq_of_lt hp hn), fold0_congr m c _ _ _ h0 hp, fold_left m c hg hu _ hn]
  exact blk_at (actF m c) i hn

theorem G18_eq (hg : AllReal (x5 m c)) (hu : AllReal (x11 m c)) : G18 m c = fun i => ngF m c (i 1) := by
  funext i
  have hi0 : (i 0).val < 1 := (i 0).isLt
  have hi1 : (i 1).val < 14336 := (i 1).isLt
  have hp : pt18Of i = (i 1).val / 512 := by
    show 28 * ((i 0).val / 1 - 0) + 1 * ((i 1).val / 512 - 0) = _
    omega
  have hn : (i 1).val / 512 < cfg0.N := lt_of_lt_of_eq (by omega) N_0.symm
  have h0 : 0 + (i 1).val / 512 < cfg0.N := by rw [Nat.zero_add]; exact hn
  unfold G18
  rw [dif_pos (lt_of_eq_of_lt hp hn), fold0_congr m c _ _ _ h0 hp, fold_left m c hg hu _ hn]
  exact row_at (ngF m c) i hn

theorem G19_eq (hg : AllReal (x5 m c)) (hu : AllReal (x11 m c)) : G19 m c = fun i => nuF m c (i 1) := by
  funext i
  have hi0 : (i 0).val < 1 := (i 0).isLt
  have hi1 : (i 1).val < 14336 := (i 1).isLt
  have hp : pt19Of i = (i 1).val / 512 := by
    show 28 * ((i 0).val / 1 - 0) + 1 * ((i 1).val / 512 - 0) = _
    omega
  have hn : (i 1).val / 512 < cfg0.N := lt_of_lt_of_eq (by omega) N_0.symm
  have h0 : 0 + (i 1).val / 512 < cfg0.N := by rw [Nat.zero_add]; exact hn
  unfold G19
  rw [dif_pos (lt_of_eq_of_lt hp hn), fold0_congr m c _ _ _ h0 hp, fold_left m c hg hu _ hn]
  exact row_at (nuF m c) i hn

theorem G22_eq (hg : AllReal (x5 m c)) (hu : AllReal (x11 m c)) :
    G22 m c = fun i => ∑ o : Fin 14336, actF m c (i 0) o * x14 m c (ix2 (i 1) o) := by
  have hn : 27 < cfg0.N := lt_of_lt_of_eq (by decide) N_0.symm
  rw [G22_last, fold_left m c hg hu 27 hn]
  funext i
  idx_vars i
  exact tdB_all m c i0 i1

end Cert.Fwd

end
-- ==== Proof.lean ====
/- The proof of the claims: the frames of the kernel, of its idealization and of the reference, and the equality of their results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.Pre_finite_down
public import proofs.«01_k».proof.Proof.Bits.Frame
public import proofs.«01_k».proof.Proof.Dn.Inv
public import proofs.«01_k».proof.Proof.Dn.RefRun
public import proofs.«01_k».proof.Proof.Fwd.RefRun
public import proofs.«01_k».proof.Proof.Fwd.Refs
public import proofs.«01_k».proof.Proof.Fwd.Final
public import Idealize.ShloMosaic.Adequacy
public import Idealize.ShloMosaic.Init

@[expose] public section

noncomputable section

namespace Cert.Proof

open Idealize.ShloMosaic Idealize.ShloMosaic.TcCoe Idealize.SL.Sem Cert.Fwd

theorem kernel_kept (m : (ℓ : Loc Cert.KernelIdeal.nD Cert.KernelIdeal.τ Cert.KernelIdeal.sig) → Buf (Elt Ideal) ℓ) (h : Cert.Pre_KernelIdeal_finite m)
    (c : Dev Cert.KernelIdeal.nD) : AllReal (x5 m c) ∧ AllReal (x11 m c) :=
  ⟨real_fst _ _ _ _ _ _ _ _ _ _ _ _ _ _ _ (h c).1, real_snd _ _ _ _ _ _ _ _ _ _ _ _ _ _ _ (h c).2⟩

theorem equal_results : Cert.algebraic_KernelIdeal_ReferenceIdeal_pre_finite := by
  intro m g m' g' hpre hm
  refine ⟨Cert.KernelIdeal.Value.G15 m, Cert.KernelIdeal.Value.G16 m, Cert.KernelIdeal.Value.G17 m, Cert.KernelIdeal.Value.G18 m,
    Cert.KernelIdeal.Value.G19 m, Cert.KernelIdeal.Value.G22 m, Cert.KernelIdeal.Value.run m g, ?_⟩
  refine (θ_run _ _ _).mono (fun r h c => ?_) (Ref.run m' g')
  obtain ⟨r0, r1, r2, r3, r4, r5, hk⟩ := h c
  obtain ⟨h0, h1, h2, h3, h4, h5, h6, h7, h8, h9, h10, h11, h12, h13, h14⟩ := hm c
  obtain ⟨hg, hu⟩ := kernel_kept m hpre c
  have e0 := (ref_ug m c).trans (G15_eq m c hg hu).symm
  have e1 := (ref_uu m c).trans (G16_eq m c hg hu).symm
  have e2 := (ref_act m c).trans (G17_eq m c hg hu).symm
  have e3 := (ref_ng m c).trans (G18_eq m c hg hu).symm
  have e4 := (ref_nu m c).trans (G19_eq m c hg hu).symm
  have e5 := (ref_td m c).trans (G22_eq m c hg hu).symm
  refine ⟨r0.trans ?_, r1.trans ?_, r2.trans ?_, r3.trans ?_, r4.trans ?_, r5.trans ?_, hk⟩
  · rw [h0, h1, h2, h3, h4, h5, h6]
    exact e0
  · rw [h0, h1, h8, h9, h10, h11, h12]
    exact e1
  · rw [h0, h1, h2, h3, h4, h5, h6, h7, h8, h9, h10, h11, h12, h13]
    exact e2
  · rw [h0, h1, h2, h3, h4, h5, h6]
    exact e3
  · rw [h0, h1, h8, h9, h10, h11, h12]
    exact e4
  · rw [h0, h1, h2, h3, h4, h5, h6, h7, h8, h9, h10, h11, h12, h13, h14]
    exact e5

theorem down_kept (m : (ℓ : Loc Cert.DownIdeal.nD Cert.DownIdeal.τ Cert.DownIdeal.sig) → Buf (Elt Ideal) ℓ) (h : Cert.Pre_DownIdeal_finite_down m)
    (c : Dev Cert.DownIdeal.nD) : AllReal (Cert.Dn.x7 m c) :=
  Cert.Dn.real_a _ _ _ _ _ _ _ _ _ _ (h c)

theorem equal_down : Cert.algebraic_DownIdeal_DownReferenceIdeal_pre_finite_down := by
  intro m g m' g' hpre hm
  refine ⟨Cert.DownIdeal.Value.G10 m, Cert.DownIdeal.Value.G12 m, Cert.DownIdeal.Value.G13 m, Cert.DownIdeal.Value.G14 m,
    (θ_run _ _ _).mono (fun r h c => ?_) (Cert.DownIdeal.Value.run m g), ?_⟩
  · obtain ⟨r0, _, r2, r3, r4, _, hk⟩ := h c
    exact ⟨r0, r2, r3, r4, hk⟩
  refine (θ_run _ _ _).mono (fun r h c => ?_) (Cert.DownReferenceIdeal.Value.run (F := Ideal) m' g')
  obtain ⟨r0, r1, r2, r3, hk⟩ := h c
  obtain ⟨h0, h1, h2, h3, h4, h5, h6, h7, h8, h9⟩ := hm c
  have ha := down_kept m hpre c
  have e0 := (Cert.Dn.ref_y m c).trans (Cert.Dn.G10_eq m c ha).symm
  have e1 := (Cert.Dn.ref_norm m c).trans (Cert.Dn.G12_eq m c ha).symm
  have e2 := (Cert.Dn.ref_dmag m c).trans (Cert.Dn.G13_eq m c ha).symm
  have e3 := (Cert.Dn.ref_db m c).trans (Cert.Dn.G14_eq m c ha).symm
  refine ⟨(r0.trans (Cert.DownReferenceIdeal.Read.val_main_v74_eq m' c)).trans ?_, (r1.trans (Cert.DownReferenceIdeal.Read.val_main_v85_eq m' c)).trans ?_,
    (r2.trans (Cert.DownReferenceIdeal.Read.val_main_v86_eq m' c)).trans ?_, (r3.trans (Cert.DownReferenceIdeal.Read.val_main_v84_eq m' c)).trans ?_, hk⟩
  · rw [h0, h2, h3, h4, h5, h6, h7, h8, h9]
    exact e0
  · rw [h2, h4, h5, h6, h7, h8]
    exact e1
  · rw [h1, h2, h3, h4, h5, h6, h7, h8]
    exact e2
  · rw [h1, h2, h3, h4, h5, h6, h7, h8, h9]
    exact e3

theorem down_frame : Cert.quiescent_DownReferenceIdeal := fun m g _ =>
  (θ_run _ _ _).mono (fun r h => ⟨fun c => (h c).2.2.2.2, sem_eq_zero_of_no_sems (by decide) r.2⟩)
    (Cert.DownReferenceIdeal.Value.run (F := Ideal) m g)

theorem claim : Cert.Claim := ⟨Cert.Kernel.Gen.facts, Cert.KernelIdeal.Gen.facts, Cert.ReferenceIdeal.Gen.facts,
  Cert.Down.Gen.facts, Cert.DownIdeal.Gen.facts, Cert.DownReferenceIdeal.Gen.facts, Cert.Pre_finite.Gen.facts, Cert.Pre_finite_down.Gen.facts,
  fun m g _ => Cert.Kernel.Hand.frame m g,
  fun m g _ => Cert.KernelIdeal.Hand.frame m g,
  fun m g _ => Cert.KernelIdeal.Hand.frame m g,
  fun m g _ => Ref.frame m g,
  fun m g _ => Ref.frame m g,
  fun m g _ => Cert.Down.Gen.frame m g,
  fun m g _ => Cert.DownIdeal.Gen.frame m g,
  fun m g _ => Cert.DownIdeal.Gen.frame m g,
  down_frame,
  fun m g _ => down_frame m g trivial,
  trivial,
  equal_results,
  trivial,
  equal_down⟩

end Cert.Proof

end
